-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_steps_bounded [hPre_steps_bounded : Cert.Pre_steps_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_steps_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_bounded [hPre_steps_bounded : Cert.Pre_steps_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_steps_bounded [hKernelIdeal : Cert.KernelIdeal.Facts] [hPre_steps_bounded : Cert.Pre_steps_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_steps_bounded [hReferenceIdeal : Cert.ReferenceIdeal.Facts] [hPre_steps_bounded : Cert.Pre_steps_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "g" .f32 0x3BAAAAAB#32 ((192⁻¹ : ℝ) : EReal)

def algebraic_KernelIdeal_ReferenceIdeal_pre_steps_bounded [hKernelIdeal : Cert.KernelIdeal.Facts] [hReferenceIdeal : Cert.ReferenceIdeal.Facts] [hPre_steps_bounded : Cert.Pre_steps_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  IdealRules.named_const.Statement Cert.Kernel4Ideal.κ "mask" .f32 0xF149F2CA#32 ⊥

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v76) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_steps_bounded : Cert.Pre_steps_bounded.Facts),
    quiescent_Kernel (hKernel := hKernel)
    ∧ quiescent_KernelIdeal (hKernelIdeal := hKernelIdeal)
    ∧ quiescent_KernelIdeal_pre_steps_bounded (hKernelIdeal := hKernelIdeal) (hPre_steps_bounded := hPre_steps_bounded)
    ∧ quiescent_ReferenceIdeal (hReferenceIdeal := hReferenceIdeal)
    ∧ quiescent_ReferenceIdeal_pre_steps_bounded (hReferenceIdeal := hReferenceIdeal) (hPre_steps_bounded := hPre_steps_bounded)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_steps_bounded (hKernelIdeal := hKernelIdeal) (hReferenceIdeal := hReferenceIdeal) (hPre_steps_bounded := hPre_steps_bounded)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_steps_bounded.lean ====
abbrev S8x2048x384 : Shape := ⟨3, ![8, 2048, 384]⟩
abbrev S8x2048x896 : Shape := ⟨3, ![8, 2048, 896]⟩
abbrev S8x2048x6 : Shape := ⟨3, ![8, 2048, 6]⟩
abbrev S4x896 : Shape := ⟨2, ![4, 896]⟩
abbrev S896 : Shape := ⟨1, ![896]⟩
abbrev S6 : Shape := ⟨1, ![6]⟩
abbrev S384 : Shape := ⟨1, ![384]⟩
abbrev S_ : Shape := ⟨0, ![]⟩

class Facts : Prop where
  bcast_S_S8x2048x6 : S_.BroadcastsInDim S8x2048x6 (![] : Fin 0 → Fin S8x2048x6.rank)
  reducesTo_S8x2048x6_S_d0_1_2 : S8x2048x6.ReducesTo [0, 1, 2] S_
  h_S_ : 0 < S_.numel
  bcast_S_S6 : S_.BroadcastsInDim S6 (![] : Fin 0 → Fin S6.rank)
  reducesTo_S6_S_d0 : S6.ReducesTo [0] S_

variable [Facts]

def fn {F : FTy → Type} [FloatOps F] (main_arg0 : FVec F S8x2048x384 .f32) (main_arg1 : FVec F S8x2048x896 .f32) (main_arg2 : FVec F S8x2048x6 .f32) (main_arg3 : FVec F S4x896 .f32) (main_arg4 : FVec F S896 .f32) (main_arg5 : FVec F S6 .f32) (main_arg6 : FVec F S6 .f32) (main_arg7 : FVec F S6 .f32) (main_arg8 : FVec F S384 .f32) : IVec S_ 1 :=
  let main_cst : FVec F S_ .f32 := constant S_ .f32 0x7F800000#32
  let main_v0 : FVec F S8x2048x6 .f32 := broadcastInDim S8x2048x6 ![] bcast_S_S8x2048x6 main_cst
  let main_v1 : IVec S8x2048x6 1 := cmpf .olt main_arg2 main_v0
  let main_c : IVec S_ 1 := constantI S_ 1 1#1
  let main_v2 : IVec S_ 1 := (fun x v => Host.reduce IntOp.andi x v reducesTo_S8x2048x6_S_d0_1_2 h_S_) main_v1 main_c
  let main_cst_0 : FVec F S_ .f32 := constant S_ .f32 0x7F800000#32
  let main_v3 : FVec F S6 .f32 := broadcastInDim S6 ![] bcast_S_S6 main_cst_0
  let main_v4 : IVec S6 1 := cmpf .olt main_arg5 main_v3
  let main_c_1 : IVec S_ 1 := constantI S_ 1 1#1
  let main_v5 : IVec S_ 1 := (fun x v => Host.reduce IntOp.andi x v reducesTo_S6_S_d0 h_S_) main_v4 main_c_1
  let main_v6 : IVec S_ 1 := andi main_v2 main_v5
  let main_cst_2 : FVec F S_ .f32 := constant S_ .f32 0x7F800000#32
  let main_v7 : FVec F S6 .f32 := broadcastInDim S6 ![] bcast_S_S6 main_cst_2
  let main_v8 : IVec S6 1 := cmpf .olt main_arg6 main_v7
  let main_c_3 : IVec S_ 1 := constantI S_ 1 1#1
  let main_v9 : IVec S_ 1 := (fun x v => Host.reduce IntOp.andi x v reducesTo_S6_S_d0 h_S_) main_v8 main_c_3
  let main_v10 : IVec S_ 1 := andi main_v6 main_v9
  main_v10
-- ==== Kernel.lean ====
abbrev S8x2048x384 : Shape := ⟨3, ![8, 2048, 384]⟩
abbrev S8x2048x896 : Shape := ⟨3, ![8, 2048, 896]⟩
abbrev S8x2048x6 : Shape := ⟨3, ![8, 2048, 6]⟩
abbrev S4x896 : Shape := ⟨2, ![4, 896]⟩
abbrev S896 : Shape := ⟨1, ![896]⟩
abbrev S6 : Shape := ⟨1, ![6]⟩
abbrev S384 : Shape := ⟨1, ![384]⟩
abbrev S8x2048x6x64 : Shape := ⟨4, ![8, 2048, 6, 64]⟩
abbrev S8x2048x1664 : Shape := ⟨3, ![8, 2048, 1664]⟩
abbrev S1x896 : Shape := ⟨2, ![1, 896]⟩
abbrev S6x64 : Shape := ⟨2, ![6, 64]⟩
abbrev S1x384 : Shape := ⟨2, ![1, 384]⟩
abbrev S1x512x1664 : Shape := ⟨3, ![1, 512, 1664]⟩
abbrev S1x512x384 : Shape := ⟨3, ![1, 512, 384]⟩
abbrev S256x384 : Shape := ⟨2, ![256, 384]⟩
abbrev S520x896 : Shape := ⟨2, ![520, 896]⟩
abbrev S512x896 : Shape := ⟨2, ![512, 896]⟩
abbrev S8x896 : Shape := ⟨2, ![8, 896]⟩
abbrev S1x512x896 : Shape := ⟨3, ![1, 512, 896]⟩
abbrev S64x64 : Shape := ⟨2, ![64, 64]⟩
abbrev S64x384 : Shape := ⟨2, ![64, 384]⟩
abbrev S64x128 : Shape := ⟨2, ![64, 128]⟩
abbrev S384x384 : Shape := ⟨2, ![384, 384]⟩
abbrev S1x64x384 : Shape := ⟨3, ![1, 64, 384]⟩
abbrev S64x896 : Shape := ⟨2, ![64, 896]⟩
abbrev S64x256 : Shape := ⟨2, ![64, 256]⟩
abbrev S64x768 : Shape := ⟨2, ![64, 768]⟩
abbrev S384x256 : Shape := ⟨2, ![384, 256]⟩

abbrev nBuf : Space → Nat
  | .hbm => 24
  | .vmem => 13
  | .smem => 0
  | _ => 0

abbrev bufTy : (tb : Table) → Fin (tcTables nBuf tb) → BufTy
  | .hbm, ⟨0, _⟩ => ⟨S8x2048x384, .f32⟩
  | .hbm, ⟨1, _⟩ => ⟨S8x2048x896, .f32⟩
  | .hbm, ⟨2, _⟩ => ⟨S8x2048x6, .f32⟩
  | .hbm, ⟨3, _⟩ => ⟨S4x896, .f32⟩
  | .hbm, ⟨4, _⟩ => ⟨S896, .f32⟩
  | .hbm, ⟨5, _⟩ => ⟨S6, .f32⟩
  | .hbm, ⟨6, _⟩ => ⟨S6, .f32⟩
  | .hbm, ⟨7, _⟩ => ⟨S6, .f32⟩
  | .hbm, ⟨8, _⟩ => ⟨S384, .f32⟩
  | .hbm, ⟨9, _⟩ => ⟨S8x2048x6x64, .f32⟩
  | .hbm, ⟨10, _⟩ => ⟨S8x2048x384, .f32⟩
  | .hbm, ⟨11, _⟩ => ⟨S8x2048x1664, .f32⟩
  | .hbm, ⟨12, _⟩ => ⟨S1x896, .f32⟩
  | .hbm, ⟨13, _⟩ => ⟨S6x64, .f32⟩
  | .hbm, ⟨14, _⟩ => ⟨S384, .f32⟩
  | .hbm, ⟨15, _⟩ => ⟨S1x384, .f32⟩
  | .hbm, ⟨16, _⟩ => ⟨S6x64, .f32⟩
  | .hbm, ⟨17, _⟩ => ⟨S384, .f32⟩
  | .hbm, ⟨18, _⟩ => ⟨S1x384, .f32⟩
  | .hbm, ⟨19, _⟩ => ⟨S6x64, .f32⟩
  | .hbm, ⟨20, _⟩ => ⟨S384, .f32⟩
  | .hbm, ⟨21, _⟩ => ⟨S1x384, .f32⟩
  | .hbm, ⟨22, _⟩ => ⟨S1x384, .f32⟩
  | .hbm, ⟨23, _⟩ => ⟨S8x2048x384, .f32⟩
  | .local _ .vmem, ⟨0, _⟩ => ⟨S1x512x1664, .f32⟩
  | .local _ .vmem, ⟨1, _⟩ => ⟨S1x512x1664, .f32⟩
  | .local _ .vmem, ⟨2, _⟩ => ⟨S4x896, .f32⟩
  | .local _ .vmem, ⟨3, _⟩ => ⟨S1x896, .f32⟩
  | .local _ .vmem, ⟨4, _⟩ => ⟨S1x384, .f32⟩
  | .local _ .vmem, ⟨5, _⟩ => ⟨S1x384, .f32⟩
  | .local _ .vmem, ⟨6, _⟩ => ⟨S1x384, .f32⟩
  | .local _ .vmem, ⟨7, _⟩ => ⟨S1x384, .f32⟩
  | .local _ .vmem, ⟨8, _⟩ => ⟨S1x512x384, .f32⟩
  | .local _ .vmem, ⟨9, _⟩ => ⟨S1x512x384, .f32⟩
  | .local _ .vmem, ⟨10, _⟩ => ⟨S256x384, .f32⟩
  | .local _ .vmem, ⟨11, _⟩ => ⟨S520x896, .f32⟩
  | .local _ .vmem, ⟨12, _⟩ => ⟨S512x896, .f32⟩
  | _, _ => ⟨S8x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 4], ![false, false]⟩

def k0_mult1 : BitVec 32 :=
  let c0_i32_64 : BitVec 32 := 0#32
  let c64_i32_65 : BitVec 32 := 64#32
  let v167 : BitVec 32 := Scalar.muli c0_i32_64 c64_i32_65
  v167
def k0_off1 (c0_i32_64 : BitVec 32) : Fin 3 → Nat :=
  let c0_66 : Index := 0#32
  let c64_i32_65 : BitVec 32 := 64#32
  let v167 : BitVec 32 := Scalar.muli c0_i32_64 c64_i32_65
  let v168 : BitVec 32 := v167
  let v169 : Index := Scalar.indexCast v168
  let c0_67 : Index := 0#32
  ![0, v169.toNat, 0]
def k0_off2 (c0_i32_64 : BitVec 32) : Fin 3 → Nat :=
  let c0_68 : Index := 0#32
  let c64_i32_65 : BitVec 32 := 64#32
  let v167 : BitVec 32 := Scalar.muli c0_i32_64 c64_i32_65
  let v168 : BitVec 32 := v167
  let v172 : Index := Scalar.indexCast v168
  let c1280 : Index := 1280#32
  ![0, v172.toNat, 1280]
def k0_off3 (c0_i32_64 : BitVec 32) : Fin 2 → Nat :=
  let c64_i32_65 : BitVec 32 := 64#32
  let v167 : BitVec 32 := Scalar.muli c0_i32_64 c64_i32_65
  let v168 : BitVec 32 := v167
  let v175 : Index := Scalar.indexCast v168
  let c0_69 : Index := 0#32
  ![v175.toNat, 0]
def k0_off4 (c0_i32_64 : BitVec 32) : Fin 3 → Nat :=
  let c0_89 : Index := 0#32
  let c64_i32_65 : BitVec 32 := 64#32
  let v167 : BitVec 32 := Scalar.muli c0_i32_64 c64_i32_65
  let v168 : BitVec 32 := v167
  let v275 : Index := Scalar.indexCast v168
  let c0_90 : Index := 0#32
  ![0, v275.toNat, 0]
def k0_mult2 : BitVec 32 :=
  let c1_i32 : BitVec 32 := 1#32
  let c64_i32_91 : BitVec 32 := 64#32
  let v279 : BitVec 32 := Scalar.muli c1_i32 c64_i32_91
  v279
def k0_mult3 : BitVec 32 :=
  let c2_i32 : BitVec 32 := 2#32
  let c64_i32_118 : BitVec 32 := 64#32
  let v391 : BitVec 32 := Scalar.muli c2_i32 c64_i32_118
  v391
def k0_mult4 : BitVec 32 :=
  let c3_i32 : BitVec 32 := 3#32
  let c64_i32_145 : BitVec 32 := 64#32
  let v503 : BitVec 32 := Scalar.muli c3_i32 c64_i32_145
  v503
def k0_mult5 : BitVec 32 :=
  let c4_i32 : BitVec 32 := 4#32
  let c64_i32_172 : BitVec 32 := 64#32
  let v615 : BitVec 32 := Scalar.muli c4_i32 c64_i32_172
  v615
def k0_mult6 : BitVec 32 :=
  let c5_i32 : BitVec 32 := 5#32
  let c64_i32_199 : BitVec 32 := 64#32
  let v727 : BitVec 32 := Scalar.muli c5_i32 c64_i32_199
  v727
def k0_mult7 : BitVec 32 :=
  let c6_i32 : BitVec 32 := 6#32
  let c64_i32_226 : BitVec 32 := 64#32
  let v839 : BitVec 32 := Scalar.muli c6_i32 c64_i32_226
  v839
def k0_mult8 : BitVec 32 :=
  let c7_i32 : BitVec 32 := 7#32
  let c64_i32_253 : BitVec 32 := 64#32
  let v951 : BitVec 32 := Scalar.muli c7_i32 c64_i32_253
  v951
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "g" => some ((192⁻¹ : ℝ) : EReal)
  | "mask" => some ⊥
  | _ => none
-- ==== ReferenceIdeal.lean ====
abbrev S8x2048x384 : Shape := ⟨3, ![8, 2048, 384]⟩
abbrev S8x2048x896 : Shape := ⟨3, ![8, 2048, 896]⟩
abbrev S8x2048x6 : Shape := ⟨3, ![8, 2048, 6]⟩
abbrev S4x896 : Shape := ⟨2, ![4, 896]⟩
abbrev S896 : Shape := ⟨1, ![896]⟩
abbrev S6 : Shape := ⟨1, ![6]⟩
abbrev S384 : Shape := ⟨1, ![384]⟩
abbrev S_ : Shape := ⟨0, ![]⟩
abbrev S8x3x896 : Shape := ⟨3, ![8, 3, 896]⟩
abbrev S8x2051x896 : Shape := ⟨3, ![8, 2051, 896]⟩
abbrev S1x896 : Shape := ⟨2, ![1, 896]⟩
abbrev S1x1x896 : Shape := ⟨3, ![1, 1, 896]⟩
abbrev S8x2048x6x64 : Shape := ⟨4, ![8, 2048, 6, 64]⟩
abbrev S8x2048x256 : Shape := ⟨3, ![8, 2048, 256]⟩
abbrev S8x2048x2x128 : Shape := ⟨4, ![8, 2048, 2, 128]⟩
abbrev S1x1x6 : Shape := ⟨3, ![1, 1, 6]⟩
abbrev S64x64 : Shape := ⟨2, ![64, 64]⟩
abbrev S1x64x64x1 : Shape := ⟨4, ![1, 64, 64, 1]⟩
abbrev S8x6x64x128 : Shape := ⟨4, ![8, 6, 64, 128]⟩
abbrev S8x32x64x6x64 : Shape := ⟨5, ![8, 32, 64, 6, 64]⟩
abbrev S32x8x64x6x64 : Shape := ⟨5, ![32, 8, 64, 6, 64]⟩
abbrev S8x32x64x6 : Shape := ⟨4, ![8, 32, 64, 6]⟩
abbrev S32x8x64x6 : Shape := ⟨4, ![32, 8, 64, 6]⟩
abbrev S8x32x64x2x128 : Shape := ⟨5, ![8, 32, 64, 2, 128]⟩
abbrev S32x8x64x2x128 : Shape := ⟨5, ![32, 8, 64, 2, 128]⟩
abbrev S1x8x64x6x64 : Shape := ⟨5, ![1, 8, 64, 6, 64]⟩
abbrev S8x64x6x64 : Shape := ⟨4, ![8, 64, 6, 64]⟩
abbrev S1x8x64x6 : Shape := ⟨4, ![1, 8, 64, 6]⟩
abbrev S8x64x6 : Shape := ⟨3, ![8, 64, 6]⟩
abbrev S1x8x64x2x128 : Shape := ⟨5, ![1, 8, 64, 2, 128]⟩
abbrev S8x64x2x128 : Shape := ⟨4, ![8, 64, 2, 128]⟩
abbrev S8x64x2x3x128 : Shape := ⟨5, ![8, 64, 2, 3, 128]⟩
abbrev S8x64x6x128 : Shape := ⟨4, ![8, 64, 6, 128]⟩
abbrev S8x64x1x6 : Shape := ⟨4, ![8, 64, 1, 6]⟩
abbrev S8x1x64x6 : Shape := ⟨4, ![8, 1, 64, 6]⟩
abbrev S8x64x64x6 : Shape := ⟨4, ![8, 64, 64, 6]⟩
abbrev S8x6x64x64 : Shape := ⟨4, ![8, 6, 64, 64]⟩
abbrev S8x64x6x1 : Shape := ⟨4, ![8, 64, 6, 1]⟩
abbrev S8x1x6 : Shape := ⟨3, ![8, 1, 6]⟩
abbrev S8x6 : Shape := ⟨2, ![8, 6]⟩
abbrev S8x6x1x1 : Shape := ⟨4, ![8, 6, 1, 1]⟩
abbrev S6x1 : Shape := ⟨2, ![6, 1]⟩
abbrev S1x1x6x1 : Shape := ⟨4, ![1, 1, 6, 1]⟩
abbrev S8x2048x2x192 : Shape := ⟨4, ![8, 2048, 2, 192]⟩
abbrev S8x2048x2 : Shape := ⟨3, ![8, 2048, 2]⟩
abbrev S8x2048x2x1 : Shape := ⟨4, ![8, 2048, 2, 1]⟩
abbrev S2x192 : Shape := ⟨2, ![2, 192]⟩
abbrev S1x1x2x192 : Shape := ⟨4, ![1, 1, 2, 192]⟩

abbrev nBuf : Space → Nat
  | .hbm => 228
  | .vmem => 0
  | .smem => 0
  | _ => 0

abbrev hbmTy0_0 (i : Nat) : BufTy := match i % 128 with
  | 0 => ⟨S8x2048x384, .f32⟩
  | 1 => ⟨S8x2048x896, .f32⟩
  | 2 => ⟨S8x2048x6, .f32⟩
  | 3 => ⟨S4x896, .f32⟩
  | 4 => ⟨S896, .f32⟩
  | 5 => ⟨S6, .f32⟩
  | 6 => ⟨S6, .f32⟩
  | 7 => ⟨S6, .f32⟩
  | 8 => ⟨S384, .f32⟩
  | 9 => ⟨S_, .f32⟩
  | 10 => ⟨S8x3x896, .f32⟩
  | 11 => ⟨S8x2051x896, .f32⟩
  | 12 => ⟨S8x2048x896, .f32⟩
  | 13 => ⟨S1x896, .f32⟩
  | 14 => ⟨S896, .f32⟩
  | 15 => ⟨S1x1x896, .f32⟩
  | 16 => ⟨S8x2048x896, .f32⟩
  | 17 => ⟨S8x2048x896, .f32⟩
  | 18 => ⟨S_, .f32⟩
  | 19 => ⟨S8x2048x896, .f32⟩
  | 20 => ⟨S8x2048x896, .f32⟩
  | 21 => ⟨S8x2048x896, .f32⟩
  | 22 => ⟨S1x896, .f32⟩
  | 23 => ⟨S896, .f32⟩
  | 24 => ⟨S1x1x896, .f32⟩
  | 25 => ⟨S8x2048x896, .f32⟩
  | 26 => ⟨S8x2048x896, .f32⟩
  | 27 => ⟨S8x2048x896, .f32⟩
  | 28 => ⟨S8x2048x896, .f32⟩
  | 29 => ⟨S1x896, .f32⟩
  | 30 => ⟨S896, .f32⟩
  | 31 => ⟨S1x1x896, .f32⟩
  | 32 => ⟨S8x2048x896, .f32⟩
  | 33 => ⟨S8x2048x896, .f32⟩
  | 34 => ⟨S8x2048x896, .f32⟩
  | 35 => ⟨S8x2048x896, .f32⟩
  | 36 => ⟨S1x896, .f32⟩
  | 37 => ⟨S896, .f32⟩
  | 38 => ⟨S1x1x896, .f32⟩
  | 39 => ⟨S8x2048x896, .f32⟩
  | 40 => ⟨S8x2048x896, .f32⟩
  | 41 => ⟨S8x2048x896, .f32⟩
  | 42 => ⟨S1x1x896, .f32⟩
  | 43 => ⟨S8x2048x896, .f32⟩
  | 44 => ⟨S8x2048x896, .f32⟩
  | 45 => ⟨S8x2048x896, .f32⟩
  | 46 => ⟨S8x2048x896, .f32⟩
  | 47 => ⟨S_, .f32⟩
  | 48 => ⟨S8x2048x896, .f32⟩
  | 49 => ⟨S8x2048x896, .f32⟩
  | 50 => ⟨S_, .f32⟩
  | 51 => ⟨S8x2048x896, .f32⟩
  | 52 => ⟨S8x2048x896, .f32⟩
  | 53 => ⟨S8x2048x896, .f32⟩
  | 54 => ⟨S8x2048x384, .f32⟩
  | 55 => ⟨S8x2048x6x64, .f32⟩
  | 56 => ⟨S8x2048x256, .f32⟩
  | 57 => ⟨S8x2048x2x128, .f32⟩
  | 58 => ⟨S8x2048x256, .f32⟩
  | 59 => ⟨S8x2048x2x128, .f32⟩
  | 60 => ⟨S1x1x6, .f32⟩
  | 61 => ⟨S8x2048x6, .f32⟩
  | 62 => ⟨S8x2048x6, .f32⟩
  | 63 => ⟨S_, .f32⟩
  | 64 => ⟨S8x2048x6, .f32⟩
  | 65 => ⟨S8x2048x6, .f32⟩
  | 66 => ⟨S8x2048x6, .f32⟩
  | 67 => ⟨S8x2048x6, .f32⟩
  | 68 => ⟨S8x2048x6, .i1⟩
  | 69 => ⟨S8x2048x6, .f32⟩
  | 70 => ⟨S8x2048x6, .f32⟩
  | 71 => ⟨S8x2048x6, .f32⟩
  | 72 => ⟨S8x2048x6, .f32⟩
  | 73 => ⟨S8x2048x6, .f32⟩
  | 74 => ⟨S8x2048x6, .f32⟩
  | 75 => ⟨S8x2048x6, .f32⟩
  | 76 => ⟨S8x2048x6, .f32⟩
  | 77 => ⟨S6, .f32⟩
  | 78 => ⟨S6, .f32⟩
  | 79 => ⟨S64x64, .i32⟩
  | 80 => ⟨S64x64, .i32⟩
  | 81 => ⟨S64x64, .i1⟩
  | 82 => ⟨S1x64x64x1, .i1⟩
  | 83 => ⟨S_, .f32⟩
  | 84 => ⟨S8x6x64x128, .f32⟩
  | 85 => ⟨S8x32x64x6x64, .f32⟩
  | 86 => ⟨S32x8x64x6x64, .f32⟩
  | 87 => ⟨S8x32x64x6, .f32⟩
  | 88 => ⟨S32x8x64x6, .f32⟩
  | 89 => ⟨S8x32x64x2x128, .f32⟩
  | 90 => ⟨S32x8x64x2x128, .f32⟩
  | 91 => ⟨S8x32x64x2x128, .f32⟩
  | 92 => ⟨S32x8x64x2x128, .f32⟩
  | 93 => ⟨S_, .f32⟩
  | 94 => ⟨S32x8x64x6x64, .f32⟩
  | 95 => ⟨S_, .i32⟩
  | 96 => ⟨S32x8x64x6x64, .f32⟩
  | 97 => ⟨S32x8x64x6, .f32⟩
  | 98 => ⟨S32x8x64x2x128, .f32⟩
  | 99 => ⟨S32x8x64x2x128, .f32⟩
  | 100 => ⟨S6, .f32⟩
  | 101 => ⟨S1x64x64x1, .i1⟩
  | 102 => ⟨S6, .f32⟩
  | 103 => ⟨S_, .i32⟩
  | 104 => ⟨S8x6x64x128, .f32⟩
  | 105 => ⟨S32x8x64x6x64, .f32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S1x8x64x6x64, .f32⟩
  | 113 => ⟨S8x64x6x64, .f32⟩
  | 114 => ⟨S_, .i32⟩
  | 115 => ⟨S_, .i32⟩
  | 116 => ⟨S_, .i32⟩
  | 117 => ⟨S1x8x64x6, .f32⟩
  | 118 => ⟨S8x64x6, .f32⟩
  | 119 => ⟨S_, .i32⟩
  | 120 => ⟨S_, .i32⟩
  | 121 => ⟨S_, .i32⟩
  | 122 => ⟨S_, .i32⟩
  | 123 => ⟨S1x8x64x2x128, .f32⟩
  | 124 => ⟨S8x64x2x128, .f32⟩
  | 125 => ⟨S_, .i32⟩
  | 126 => ⟨S_, .i32⟩
  | 127 => ⟨S_, .i32⟩
  | _ => ⟨S8x2048x384, .f32⟩

abbrev hbmTy0_1 (i : Nat) : BufTy := match i % 128 with
  | 0 => ⟨S_, .i32⟩
  | 1 => ⟨S1x8x64x2x128, .f32⟩
  | 2 => ⟨S8x64x2x128, .f32⟩
  | 3 => ⟨S8x64x2x3x128, .f32⟩
  | 4 => ⟨S8x64x6x128, .f32⟩
  | 5 => ⟨S8x64x2x3x128, .f32⟩
  | 6 => ⟨S8x64x6x128, .f32⟩
  | 7 => ⟨S1x1x6, .f32⟩
  | 8 => ⟨S8x64x6, .f32⟩
  | 9 => ⟨S8x64x6, .f32⟩
  | 10 => ⟨S_, .f32⟩
  | 11 => ⟨S_, .f32⟩
  | 12 => ⟨S8x64x6, .f32⟩
  | 13 => ⟨S8x64x1x6, .f32⟩
  | 14 => ⟨S8x1x64x6, .f32⟩
  | 15 => ⟨S8x64x64x6, .f32⟩
  | 16 => ⟨S8x64x64x6, .f32⟩
  | 17 => ⟨S8x64x64x6, .f32⟩
  | 18 => ⟨S_, .f32⟩
  | 19 => ⟨S_, .f32⟩
  | 20 => ⟨S8x64x64x6, .i1⟩
  | 21 => ⟨S8x64x64x6, .f32⟩
  | 22 => ⟨S8x64x64x6, .f32⟩
  | 23 => ⟨S8x64x64x6, .f32⟩
  | 24 => ⟨S8x6x64x64, .f32⟩
  | 25 => ⟨S8x64x64x6, .f32⟩
  | 26 => ⟨S8x64x64x6, .f32⟩
  | 27 => ⟨S8x64x6x1, .f32⟩
  | 28 => ⟨S8x64x6x64, .f32⟩
  | 29 => ⟨S8x64x6x64, .f32⟩
  | 30 => ⟨S8x6x64x64, .f32⟩
  | 31 => ⟨S8x64x6x64, .f32⟩
  | 32 => ⟨S8x6x64x64, .f32⟩
  | 33 => ⟨S8x64x6x64, .f32⟩
  | 34 => ⟨S8x64x6, .f32⟩
  | 35 => ⟨S8x64x6x1, .f32⟩
  | 36 => ⟨S8x64x6x64, .f32⟩
  | 37 => ⟨S8x64x6x64, .f32⟩
  | 38 => ⟨S8x64x6x64, .f32⟩
  | 39 => ⟨S8x1x6, .f32⟩
  | 40 => ⟨S8x64x6, .f32⟩
  | 41 => ⟨S8x64x6, .f32⟩
  | 42 => ⟨S8x64x6, .f32⟩
  | 43 => ⟨S8x64x6, .f32⟩
  | 44 => ⟨S8x1x6, .f32⟩
  | 45 => ⟨S8x6, .f32⟩
  | 46 => ⟨S8x6, .f32⟩
  | 47 => ⟨S8x6x1x1, .f32⟩
  | 48 => ⟨S8x6x64x128, .f32⟩
  | 49 => ⟨S8x6x64x128, .f32⟩
  | 50 => ⟨S8x64x6x1, .f32⟩
  | 51 => ⟨S8x64x6x64, .f32⟩
  | 52 => ⟨S8x64x6x64, .f32⟩
  | 53 => ⟨S8x6x64x128, .f32⟩
  | 54 => ⟨S8x6x64x128, .f32⟩
  | 55 => ⟨S6x1, .f32⟩
  | 56 => ⟨S1x1x6x1, .f32⟩
  | 57 => ⟨S8x64x6x64, .f32⟩
  | 58 => ⟨S8x64x6x64, .f32⟩
  | 59 => ⟨S8x64x6x64, .f32⟩
  | 60 => ⟨S1x8x64x6x64, .f32⟩
  | 61 => ⟨S_, .i32⟩
  | 62 => ⟨S_, .i32⟩
  | 63 => ⟨S_, .i32⟩
  | 64 => ⟨S_, .i32⟩
  | 65 => ⟨S32x8x64x6x64, .f32⟩
  | 66 => ⟨S_, .i32⟩
  | 67 => ⟨S_, .i32⟩
  | 68 => ⟨S8x32x64x6x64, .f32⟩
  | 69 => ⟨S8x2048x6x64, .f32⟩
  | 70 => ⟨S8x2048x384, .f32⟩
  | 71 => ⟨S8x2048x384, .f32⟩
  | 72 => ⟨S8x2048x384, .f32⟩
  | 73 => ⟨S_, .f32⟩
  | 74 => ⟨S8x2048x384, .f32⟩
  | 75 => ⟨S8x2048x384, .f32⟩
  | 76 => ⟨S_, .f32⟩
  | 77 => ⟨S8x2048x384, .f32⟩
  | 78 => ⟨S8x2048x384, .f32⟩
  | 79 => ⟨S8x2048x384, .f32⟩
  | 80 => ⟨S8x2048x384, .f32⟩
  | 81 => ⟨S8x2048x2x192, .f32⟩
  | 82 => ⟨S8x2048x2x192, .f32⟩
  | 83 => ⟨S_, .f32⟩
  | 84 => ⟨S8x2048x2, .f32⟩
  | 85 => ⟨S8x2048x2x1, .f32⟩
  | 86 => ⟨S_, .f32⟩
  | 87 => ⟨S8x2048x2x1, .f32⟩
  | 88 => ⟨S8x2048x2x1, .f32⟩
  | 89 => ⟨S_, .f32⟩
  | 90 => ⟨S8x2048x2x1, .f32⟩
  | 91 => ⟨S8x2048x2x1, .f32⟩
  | 92 => ⟨S8x2048x2x1, .f32⟩
  | 93 => ⟨S8x2048x2x192, .f32⟩
  | 94 => ⟨S8x2048x2x192, .f32⟩
  | 95 => ⟨S2x192, .f32⟩
  | 96 => ⟨S1x1x2x192, .f32⟩
  | 97 => ⟨S8x2048x2x192, .f32⟩
  | 98 => ⟨S8x2048x2x192, .f32⟩
  | 99 => ⟨S8x2048x384, .f32⟩
  | _ => ⟨S8x2048x384, .f32⟩

abbrev hbmTy (i : Nat) : BufTy := match i / 128 with
  | 0 => hbmTy0_0 i
  | 1 => hbmTy0_1 i
  | _ => ⟨S8x2048x384, .f32⟩

abbrev bufTy : (tb : Table) → Fin (tcTables nBuf tb) → BufTy
  | .hbm, ⟨i, _⟩ => hbmTy i
  | _, _ => ⟨S8x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_v8 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_3 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_4 : Ref sig .tc := ⟨.hbm, 93, rfl⟩
abbrev main_v66 : Ref sig .tc := ⟨.hbm, 94, rfl⟩
abbrev main_c : Ref sig .tc := ⟨.hbm, 95, rfl⟩
abbrev main_v67_0 : Ref sig .tc := ⟨.hbm, 96, rfl⟩
abbrev main_v67_1 : Ref sig .tc := ⟨.hbm, 97, rfl⟩
abbrev main_v67_2 : Ref sig .tc := ⟨.hbm, 98, rfl⟩
abbrev main_v67_3 : Ref sig .tc := ⟨.hbm, 99, rfl⟩
abbrev main_v67_4 : Ref sig .tc := ⟨.hbm, 100, rfl⟩
abbrev main_v67_5 : Ref sig .tc := ⟨.hbm, 101, rfl⟩
abbrev main_v67_6 : Ref sig .tc := ⟨.hbm, 102, rfl⟩
abbrev main_v67_7 : Ref sig .tc := ⟨.hbm, 103, rfl⟩
abbrev main_v67_8 : Ref sig .tc := ⟨.hbm, 104, rfl⟩
abbrev main_v67_9 : Ref sig .tc := ⟨.hbm, 105, rfl⟩
abbrev main_while0c_c_17 : Ref sig .tc := ⟨.hbm, 106, rfl⟩
abbrev main_while0c_v89 : Ref sig .tc := ⟨.hbm, 107, rfl⟩
abbrev main_while0b_call1_c : Ref sig .tc := ⟨.hbm, 108, rfl⟩
abbrev main_while0b_call1_c_0 : Ref sig .tc := ⟨.hbm, 109, rfl⟩
abbrev main_while0b_call1_c_1 : Ref sig .tc := ⟨.hbm, 110, rfl⟩
abbrev main_while0b_call1_c_2 : Ref sig .tc := ⟨.hbm, 111, rfl⟩
abbrev main_while0b_call1_v0 : Ref sig .tc := ⟨.hbm, 112, rfl⟩
abbrev main_while0b_v89 : Ref sig .tc := ⟨.hbm, 113, rfl⟩
abbrev main_while0b_call2_c : Ref sig .tc := ⟨.hbm, 114, rfl⟩
abbrev main_while0b_call2_c_0 : Ref sig .tc := ⟨.hbm, 115, rfl⟩
abbrev main_while0b_call2_c_1 : Ref sig .tc := ⟨.hbm, 116, rfl⟩
abbrev main_while0b_call2_v0 : Ref sig .tc := ⟨.hbm, 117, rfl⟩
abbrev main_while0b_v90 : Ref sig .tc := ⟨.hbm, 118, rfl⟩
abbrev main_while0b_call3_c : Ref sig .tc := ⟨.hbm, 119, rfl⟩
abbrev main_while0b_call3_c_0 : Ref sig .tc := ⟨.hbm, 120, rfl⟩
abbrev main_while0b_call3_c_1 : Ref sig .tc := ⟨.hbm, 121, rfl⟩
abbrev main_while0b_call3_c_2 : Ref sig .tc := ⟨.hbm, 122, rfl⟩
abbrev main_while0b_call3_v0 : Ref sig .tc := ⟨.hbm, 123, rfl⟩
abbrev main_while0b_v91 : Ref sig .tc := ⟨.hbm, 124, rfl⟩
abbrev main_while0b_call4_c : Ref sig .tc := ⟨.hbm, 125, rfl⟩
abbrev main_while0b_call4_c_0 : Ref sig .tc := ⟨.hbm, 126, rfl⟩
abbrev main_while0b_call4_c_1 : Ref sig .tc := ⟨.hbm, 127, rfl⟩
abbrev main_while0b_call4_c_2 : Ref sig .tc := ⟨.hbm, 128, rfl⟩
abbrev main_while0b_call4_v0 : Ref sig .tc := ⟨.hbm, 129, rfl⟩
abbrev main_while0b_v92 : Ref sig .tc := ⟨.hbm, 130, rfl⟩
abbrev main_while0b_v93 : Ref sig .tc := ⟨.hbm, 131, rfl⟩
abbrev main_while0b_v94 : Ref sig .tc := ⟨.hbm, 132, rfl⟩
abbrev main_while0b_v95 : Ref sig .tc := ⟨.hbm, 133, rfl⟩
abbrev main_while0b_v96 : Ref sig .tc := ⟨.hbm, 134, rfl⟩
abbrev main_while0b_v97 : Ref sig .tc := ⟨.hbm, 135, rfl⟩
abbrev main_while0b_v98 : Ref sig .tc := ⟨.hbm, 136, rfl⟩
abbrev main_while0b_v99 : Ref sig .tc := ⟨.hbm, 137, rfl⟩
abbrev main_while0b_call5_call0_cst : Ref sig .tc := ⟨.hbm, 138, rfl⟩
abbrev main_while0b_call5_call0_v0 : Ref sig .tc := ⟨.hbm, 139, rfl⟩
abbrev main_while0b_v100 : Ref sig .tc := ⟨.hbm, 140, rfl⟩
abbrev main_while0b_v101 : Ref sig .tc := ⟨.hbm, 141, rfl⟩
abbrev main_while0b_v102 : Ref sig .tc := ⟨.hbm, 142, rfl⟩
abbrev main_while0b_v103 : Ref sig .tc := ⟨.hbm, 143, rfl⟩
abbrev main_while0b_v104 : Ref sig .tc := ⟨.hbm, 144, rfl⟩
abbrev main_while0b_v105 : Ref sig .tc := ⟨.hbm, 145, rfl⟩
abbrev main_while0b_cst_17 : Ref sig .tc := ⟨.hbm, 146, rfl⟩
abbrev main_while0b_call6_v0 : Ref sig .tc := ⟨.hbm, 147, rfl⟩
abbrev main_while0b_call6_v1 : Ref sig .tc := ⟨.hbm, 148, rfl⟩
abbrev main_while0b_call6_v2 : Ref sig .tc := ⟨.hbm, 149, rfl⟩
abbrev main_while0b_v106 : Ref sig .tc := ⟨.hbm, 150, rfl⟩
abbrev main_while0b_v107 : Ref sig .tc := ⟨.hbm, 151, rfl⟩
abbrev main_while0b_v108 : Ref sig .tc := ⟨.hbm, 152, rfl⟩
abbrev main_while0b_v109 : Ref sig .tc := ⟨.hbm, 153, rfl⟩
abbrev main_while0b_v110 : Ref sig .tc := ⟨.hbm, 154, rfl⟩
abbrev main_while0b_v111 : Ref sig .tc := ⟨.hbm, 155, rfl⟩
abbrev main_while0b_v112 : Ref sig .tc := ⟨.hbm, 156, rfl⟩
abbrev main_while0b_v113 : Ref sig .tc := ⟨.hbm, 157, rfl⟩
abbrev main_while0b_v114 : Ref sig .tc := ⟨.hbm, 158, rfl⟩
abbrev main_while0b_v115 : Ref sig .tc := ⟨.hbm, 159, rfl⟩
abbrev main_while0b_v116 : Ref sig .tc := ⟨.hbm, 160, rfl⟩
abbrev main_while0b_v117 : Ref sig .tc := ⟨.hbm, 161, rfl⟩
abbrev main_while0b_v118 : Ref sig .tc := ⟨.hbm, 162, rfl⟩
abbrev main_while0b_v119 : Ref sig .tc := ⟨.hbm, 163, rfl⟩
abbrev main_while0b_v120 : Ref sig .tc := ⟨.hbm, 164, rfl⟩
abbrev main_while0b_v121 : Ref sig .tc := ⟨.hbm, 165, rfl⟩
abbrev main_while0b_v122 : Ref sig .tc := ⟨.hbm, 166, rfl⟩
abbrev main_while0b_v123 : Ref sig .tc := ⟨.hbm, 167, rfl⟩
abbrev main_while0b_v124 : Ref sig .tc := ⟨.hbm, 168, rfl⟩
abbrev main_while0b_v125 : Ref sig .tc := ⟨.hbm, 169, rfl⟩
abbrev main_while0b_v126 : Ref sig .tc := ⟨.hbm, 170, rfl⟩
abbrev main_while0b_v127 : Ref sig .tc := ⟨.hbm, 171, rfl⟩
abbrev main_while0b_v128 : Ref sig .tc := ⟨.hbm, 172, rfl⟩
abbrev main_while0b_v129 : Ref sig .tc := ⟨.hbm, 173, rfl⟩
abbrev main_while0b_v130 : Ref sig .tc := ⟨.hbm, 174, rfl⟩
abbrev main_while0b_v131 : Ref sig .tc := ⟨.hbm, 175, rfl⟩
abbrev main_while0b_v132 : Ref sig .tc := ⟨.hbm, 176, rfl⟩
abbrev main_while0b_v133 : Ref sig .tc := ⟨.hbm, 177, rfl⟩
abbrev main_while0b_v134 : Ref sig .tc := ⟨.hbm, 178, rfl⟩
abbrev main_while0b_v135 : Ref sig .tc := ⟨.hbm, 179, rfl⟩
abbrev main_while0b_v136 : Ref sig .tc := ⟨.hbm, 180, rfl⟩
abbrev main_while0b_v137 : Ref sig .tc := ⟨.hbm, 181, rfl⟩
abbrev main_while0b_v138 : Ref sig .tc := ⟨.hbm, 182, rfl⟩
abbrev main_while0b_v139 : Ref sig .tc := ⟨.hbm, 183, rfl⟩
abbrev main_while0b_v140 : Ref sig .tc := ⟨.hbm, 184, rfl⟩
abbrev main_while0b_v141 : Ref sig .tc := ⟨.hbm, 185, rfl⟩
abbrev main_while0b_v142 : Ref sig .tc := ⟨.hbm, 186, rfl⟩
abbrev main_while0b_v143 : Ref sig .tc := ⟨.hbm, 187, rfl⟩
abbrev main_while0b_call7_v0 : Ref sig .tc := ⟨.hbm, 188, rfl⟩
abbrev main_while0b_call7_c : Ref sig .tc := ⟨.hbm, 189, rfl⟩
abbrev main_while0b_call7_c_0 : Ref sig .tc := ⟨.hbm, 190, rfl⟩
abbrev main_while0b_call7_c_1 : Ref sig .tc := ⟨.hbm, 191, rfl⟩
abbrev main_while0b_call7_c_2 : Ref sig .tc := ⟨.hbm, 192, rfl⟩
abbrev main_while0b_v144 : Ref sig .tc := ⟨.hbm, 193, rfl⟩
abbrev main_while0b_c_18 : Ref sig .tc := ⟨.hbm, 194, rfl⟩
abbrev main_while0b_v145 : Ref sig .tc := ⟨.hbm, 195, rfl⟩
abbrev main_v68 : Ref sig .tc := ⟨.hbm, 196, rfl⟩
abbrev main_v69 : Ref sig .tc := ⟨.hbm, 197, rfl⟩
abbrev main_v70 : Ref sig .tc := ⟨.hbm, 198, rfl⟩
abbrev main_call8_v0 : Ref sig .tc := ⟨.hbm, 199, rfl⟩
abbrev main_call8_v1 : Ref sig .tc := ⟨.hbm, 200, rfl⟩
abbrev main_call8_cst : Ref sig .tc := ⟨.hbm, 201, rfl⟩
abbrev main_call8_v2 : Ref sig .tc := ⟨.hbm, 202, rfl⟩
abbrev main_call8_v3 : Ref sig .tc := ⟨.hbm, 203, rfl⟩
abbrev main_call8_cst_0 : Ref sig .tc := ⟨.hbm, 204, rfl⟩
abbrev main_call8_v4 : Ref sig .tc := ⟨.hbm, 205, rfl⟩
abbrev main_call8_v5 : Ref sig .tc := ⟨.hbm, 206, rfl⟩
abbrev main_v71 : Ref sig .tc := ⟨.hbm, 207, rfl⟩
abbrev main_v72 : Ref sig .tc := ⟨.hbm, 208, rfl⟩
abbrev main_v73 : Ref sig .tc := ⟨.hbm, 209, rfl⟩
abbrev main_v74 : Ref sig .tc := ⟨.hbm, 210, rfl⟩
abbrev main_cst_5 : Ref sig .tc := ⟨.hbm, 211, rfl⟩
abbrev main_v75 : Ref sig .tc := ⟨.hbm, 212, rfl⟩
abbrev main_v76 : Ref sig .tc := ⟨.hbm, 213, rfl⟩
abbrev main_cst_6 : Ref sig .tc := ⟨.hbm, 214, rfl⟩
abbrev main_v77 : Ref sig .tc := ⟨.hbm, 215, rfl⟩
abbrev main_v78 : Ref sig .tc := ⟨.hbm, 216, rfl⟩
abbrev main_cst_7 : Ref sig .tc := ⟨.hbm, 217, rfl⟩
abbrev main_v79 : Ref sig .tc := ⟨.hbm, 218, rfl⟩
abbrev main_v80 : Ref sig .tc := ⟨.hbm, 219, rfl⟩
abbrev main_v81 : Ref sig .tc := ⟨.hbm, 220, rfl⟩
abbrev main_v82 : Ref sig .tc := ⟨.hbm, 221, rfl⟩
abbrev main_v83 : Ref sig .tc := ⟨.hbm, 222, rfl⟩
abbrev main_v84 : Ref sig .tc := ⟨.hbm, 223, rfl⟩
abbrev main_v85 : Ref sig .tc := ⟨.hbm, 224, rfl⟩
abbrev main_v86 : Ref sig .tc := ⟨.hbm, 225, rfl⟩
abbrev main_v87 : Ref sig .tc := ⟨.hbm, 226, rfl⟩
abbrev main_v88 : Ref sig .tc := ⟨.hbm, 227, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x1024 : Shape := ⟨2, ![16384, 1024]⟩
abbrev S1024 : Shape := ⟨1, ![1024]⟩
abbrev S2x1024x3462 : Shape := ⟨3, ![2, 1024, 3462]⟩
abbrev S_ : Shape := ⟨0, ![]⟩
abbrev S2x1024x3584 : Shape := ⟨3, ![2, 1024, 3584]⟩
abbrev S1x1024 : Shape := ⟨2, ![1, 1024]⟩
abbrev S16384x1152 : Shape := ⟨2, ![16384, 1152]⟩
abbrev S16384x1664 : Shape := ⟨2, ![16384, 1664]⟩
abbrev S512x1024 : Shape := ⟨2, ![512, 1024]⟩
abbrev S1x1024x3584 : Shape := ⟨3, ![1, 1024, 3584]⟩
abbrev S512x1152 : Shape := ⟨2, ![512, 1152]⟩
abbrev S512x1664 : Shape := ⟨2, ![512, 1664]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x1024x1152 : Shape := ⟨3, ![1, 1024, 1152]⟩
abbrev S1024x1152 : Shape := ⟨2, ![1024, 1152]⟩
abbrev S1x1024x1280 : Shape := ⟨3, ![1, 1024, 1280]⟩
abbrev S1024x1280 : Shape := ⟨2, ![1024, 1280]⟩
abbrev S512x1280 : Shape := ⟨2, ![512, 1280]⟩
abbrev S1x1024x128 : Shape := ⟨3, ![1, 1024, 128]⟩
abbrev S1024x128 : Shape := ⟨2, ![1024, 128]⟩
abbrev S512x128 : Shape := ⟨2, ![512, 128]⟩
abbrev S128x384 : Shape := ⟨2, ![128, 384]⟩
abbrev S512x384 : Shape := ⟨2, ![512, 384]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x3462, .f32⟩
  | .hbm, ⟨3, _⟩ => ⟨S_, .i32⟩
  | .hbm, ⟨4, _⟩ => ⟨S_, .f32⟩
  | .hbm, ⟨5, _⟩ => ⟨S2x1024x3584, .f32⟩
  | .hbm, ⟨6, _⟩ => ⟨S2x1024x3584, .bf16⟩
  | .hbm, ⟨7, _⟩ => ⟨S1x1024, .f32⟩
  | .hbm, ⟨8, _⟩ => ⟨S16384x1024, .f32⟩
  | .hbm, ⟨9, _⟩ => ⟨S16384x1152, .f32⟩
  | .hbm, ⟨10, _⟩ => ⟨S16384x1664, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x3584, .bf16⟩
  | .local _ .vmem, ⟨4, _⟩ => ⟨S512x1024, .f32⟩
  | .local _ .vmem, ⟨5, _⟩ => ⟨S512x1024, .f32⟩
  | .local _ .vmem, ⟨6, _⟩ => ⟨S512x1152, .f32⟩
  | .local _ .vmem, ⟨7, _⟩ => ⟨S512x1152, .f32⟩
  | .local _ .vmem, ⟨8, _⟩ => ⟨S512x1664, .f32⟩
  | .local _ .vmem, ⟨9, _⟩ => ⟨S512x1664, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x1024 : Shape := ⟨2, ![16384, 1024]⟩
abbrev S1024 : Shape := ⟨1, ![1024]⟩
abbrev S2x1024x3462 : Shape := ⟨3, ![2, 1024, 3462]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x3462 : Shape := ⟨3, ![1, 1024, 3462]⟩
abbrev S1024x3462 : Shape := ⟨2, ![1024, 3462]⟩
abbrev S16384x3462 : Shape := ⟨2, ![16384, 3462]⟩
abbrev S16384x1152 : Shape := ⟨2, ![16384, 1152]⟩
abbrev S16384x1280 : Shape := ⟨2, ![16384, 1280]⟩
abbrev S16384x6 : Shape := ⟨2, ![16384, 6]⟩
abbrev S16384x6x64 : Shape := ⟨3, ![16384, 6, 64]⟩
abbrev S16384x384 : Shape := ⟨2, ![16384, 384]⟩
abbrev S16384x1664 : Shape := ⟨2, ![16384, 1664]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x3462, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1x1024x3462, .f32⟩
  | .hbm, ⟨20, _⟩ => ⟨S1024x3462, .f32⟩
  | .hbm, ⟨21, _⟩ => ⟨S16384x3462, .f32⟩
  | .hbm, ⟨22, _⟩ => ⟨S16384x1024, .f32⟩
  | .hbm, ⟨23, _⟩ => ⟨S16384x1152, .f32⟩
  | .hbm, ⟨24, _⟩ => ⟨S16384x1280, .f32⟩
  | .hbm, ⟨25, _⟩ => ⟨S16384x6, .f32⟩
  | .hbm, ⟨26, _⟩ => ⟨S16384x6x64, .f32⟩
  | .hbm, ⟨27, _⟩ => ⟨S16384x384, .f32⟩
  | .hbm, ⟨28, _⟩ => ⟨S16384x1664, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel3.lean ====
abbrev S16384x1024 : Shape := ⟨2, ![16384, 1024]⟩
abbrev S16384x256 : Shape := ⟨2, ![16384, 256]⟩
abbrev S16384x384 : Shape := ⟨2, ![16384, 384]⟩
abbrev S1024x1024 : Shape := ⟨2, ![1024, 1024]⟩
abbrev S1024 : Shape := ⟨1, ![1024]⟩
abbrev S2x128x64 : Shape := ⟨3, ![2, 128, 64]⟩
abbrev S1x128x64 : Shape := ⟨3, ![1, 128, 64]⟩
abbrev S128x64 : Shape := ⟨2, ![128, 64]⟩
abbrev S_ : Shape := ⟨0, ![]⟩
abbrev S128x128 : Shape := ⟨2, ![128, 128]⟩
abbrev S1x128x128 : Shape := ⟨3, ![1, 128, 128]⟩
abbrev S2x128x128 : Shape := ⟨3, ![2, 128, 128]⟩
abbrev S1x1024 : Shape := ⟨2, ![1, 1024]⟩
abbrev S8x2x128x16384 : Shape := ⟨4, ![8, 2, 128, 16384]⟩
abbrev S512x1024 : Shape := ⟨2, ![512, 1024]⟩
abbrev S512x256 : Shape := ⟨2, ![512, 256]⟩
abbrev S512x384 : Shape := ⟨2, ![512, 384]⟩
abbrev S8x2x128x512 : Shape := ⟨4, ![8, 2, 128, 512]⟩
abbrev S256x1024 : Shape := ⟨2, ![256, 1024]⟩
abbrev S384x1024 : Shape := ⟨2, ![384, 1024]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S1x1x128x512 : Shape := ⟨4, ![1, 1, 128, 512]⟩

abbrev nBuf : Space → Nat
  | .hbm => 27
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x384, .f32⟩
  | .hbm, ⟨3, _⟩ => ⟨S16384x384, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S2x128x64, .f32⟩
  | .hbm, ⟨8, _⟩ => ⟨S1x128x64, .f32⟩
  | .hbm, ⟨9, _⟩ => ⟨S128x64, .f32⟩
  | .hbm, ⟨10, _⟩ => ⟨S_, .f32⟩
  | .hbm, ⟨11, _⟩ => ⟨S128x64, .f32⟩
  | .hbm, ⟨12, _⟩ => ⟨S1x128x64, .f32⟩
  | .hbm, ⟨13, _⟩ => ⟨S128x64, .f32⟩
  | .hbm, ⟨14, _⟩ => ⟨S128x128, .f32⟩
  | .hbm, ⟨15, _⟩ => ⟨S1x128x64, .f32⟩
  | .hbm, ⟨16, _⟩ => ⟨S128x64, .f32⟩
  | .hbm, ⟨17, _⟩ => ⟨S128x128, .f32⟩
  | .hbm, ⟨18, _⟩ => ⟨S1x128x128, .f32⟩
  | .hbm, ⟨19, _⟩ => ⟨S1x128x128, .f32⟩
  | .hbm, ⟨20, _⟩ => ⟨S2x128x128, .f32⟩
  | .hbm, ⟨21, _⟩ => ⟨S1024x1024, .bf16⟩
  | .hbm, ⟨22, _⟩ => ⟨S1024x1024, .bf16⟩
  | .hbm, ⟨23, _⟩ => ⟨S1x1024, .f32⟩
  | .hbm, ⟨24, _⟩ => ⟨S16384x1024, .f32⟩
  | .hbm, ⟨25, _⟩ => ⟨S16384x1024, .bf16⟩
  | .hbm, ⟨26, _⟩ => ⟨S8x2x128x16384, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S2x128x128, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S8x2x128x512, .f32⟩
  | .local _ .vmem, ⟨17, _⟩ => ⟨S8x2x128x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x2x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x1024 : Shape := ⟨2, ![16384, 1024]⟩
abbrev S16384x256 : Shape := ⟨2, ![16384, 256]⟩
abbrev S16384x384 : Shape := ⟨2, ![16384, 384]⟩
abbrev S1024x1024 : Shape := ⟨2, ![1024, 1024]⟩
abbrev S1024 : Shape := ⟨1, ![1024]⟩
abbrev S2x128x64 : Shape := ⟨3, ![2, 128, 64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8x2x64 : Shape := ⟨4, ![16384, 8, 2, 64]⟩
abbrev S2x128x16384x8 : Shape := ⟨4, ![2, 128, 16384, 8]⟩
abbrev S16384x8x2x128 : Shape := ⟨4, ![16384, 8, 2, 128]⟩
abbrev S8x2x128x16384 : Shape := ⟨4, ![8, 2, 128, 16384]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x384, .f32⟩
  | .hbm, ⟨3, _⟩ => ⟨S16384x384, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S2x128x64, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x8x2x64, .f32⟩
  | .hbm, ⟨29, _⟩ => ⟨S2x128x16384x8, .f32⟩
  | .hbm, ⟨30, _⟩ => ⟨S16384x8x2x128, .f32⟩
  | .hbm, ⟨31, _⟩ => ⟨S16384x1024, .bf16⟩
  | .hbm, ⟨32, _⟩ => ⟨S8x2x128x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Kernel4.lean ====
abbrev S8x2048x1024 : Shape := ⟨3, ![8, 2048, 1024]⟩
abbrev S2x256 : Shape := ⟨2, ![2, 256]⟩
abbrev S64 : Shape := ⟨1, ![64]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S8x2048x256 : Shape := ⟨3, ![8, 2048, 256]⟩
abbrev S1x512x1024 : Shape := ⟨3, ![1, 512, 1024]⟩
abbrev S1x512x256 : Shape := ⟨3, ![1, 512, 256]⟩
abbrev S256x256 : Shape := ⟨2, ![256, 256]⟩
abbrev S64x64 : Shape := ⟨2, ![64, 64]⟩
abbrev S64x256 : Shape := ⟨2, ![64, 256]⟩
abbrev S1x768 : Shape := ⟨2, ![1, 768]⟩
abbrev S16x256 : Shape := ⟨2, ![16, 256]⟩
abbrev S32x256 : Shape := ⟨2, ![32, 256]⟩
abbrev S1x64x1024 : Shape := ⟨3, ![1, 64, 1024]⟩
abbrev S64x1024 : Shape := ⟨2, ![64, 1024]⟩
abbrev S64x768 : Shape := ⟨2, ![64, 768]⟩
abbrev S256x768 : Shape := ⟨2, ![256, 768]⟩
abbrev S256x64 : Shape := ⟨2, ![256, 64]⟩
abbrev S1x64x256 : Shape := ⟨3, ![1, 64, 256]⟩

abbrev nBuf : Space → Nat
  | .hbm => 8
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S2x256, .f32⟩
  | .hbm, ⟨2, _⟩ => ⟨S64, .f32⟩
  | .hbm, ⟨3, _⟩ => ⟨S1x64, .f32⟩
  | .hbm, ⟨4, _⟩ => ⟨S4x64, .f32⟩
  | .hbm, ⟨5, _⟩ => ⟨S256, .f32⟩
  | .hbm, ⟨6, _⟩ => ⟨S1x256, .f32⟩
  | .hbm, ⟨7, _⟩ => ⟨S8x2048x256, .f32⟩
  | .local _ .vmem, ⟨0, _⟩ => ⟨S1x512x1024, .f32⟩
  | .local _ .vmem, ⟨1, _⟩ => ⟨S1x512x1024, .f32⟩
  | .local _ .vmem, ⟨2, _⟩ => ⟨S2x256, .f32⟩
  | .local _ .vmem, ⟨3, _⟩ => ⟨S1x256, .f32⟩
  | .local _ .vmem, ⟨4, _⟩ => ⟨S1x512x256, .f32⟩
  | .local _ .vmem, ⟨5, _⟩ => ⟨S1x512x256, .f32⟩
  | .local _ .vmem, ⟨6, _⟩ => ⟨S256x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 4], ![false, false]⟩

def k0_mult1 : BitVec 32 :=
  let c0_i32_40 : BitVec 32 := 0#32
  let c64_i32_41 : BitVec 32 := 64#32
  let v124 : BitVec 32 := Scalar.muli c0_i32_40 c64_i32_41
  v124
def k0_off1 (c0_i32_40 : BitVec 32) : Fin 3 → Nat :=
  let c0_42 : Index := 0#32
  let c64_i32_41 : BitVec 32 := 64#32
  let v124 : BitVec 32 := Scalar.muli c0_i32_40 c64_i32_41
  let v125 : BitVec 32 := v124
  let v126 : Index := Scalar.indexCast v125
  let c0_43 : Index := 0#32
  ![0, v126.toNat, 0]
def k0_off2 (c0_i32_40 : BitVec 32) : Fin 3 → Nat :=
  let c0_188 : Index := 0#32
  let c64_i32_41 : BitVec 32 := 64#32
  let v124 : BitVec 32 := Scalar.muli c0_i32_40 c64_i32_41
  let v125 : BitVec 32 := v124
  let v1377 : Index := Scalar.indexCast v125
  let c0_189 : Index := 0#32
  ![0, v1377.toNat, 0]
def k0_mult2 : BitVec 32 :=
  let c1_i32_190 : BitVec 32 := 1#32
  let c64_i32_191 : BitVec 32 := 64#32
  let v1381 : BitVec 32 := Scalar.muli c1_i32_190 c64_i32_191
  v1381
def k0_mult3 : BitVec 32 :=
  let c2_i32_356 : BitVec 32 := 2#32
  let c64_i32_357 : BitVec 32 := 64#32
  let v2638 : BitVec 32 := Scalar.muli c2_i32_356 c64_i32_357
  v2638
def k0_mult4 : BitVec 32 :=
  let c3_i32_522 : BitVec 32 := 3#32
  let c64_i32_523 : BitVec 32 := 64#32
  let v3895 : BitVec 32 := Scalar.muli c3_i32_522 c64_i32_523
  v3895
def k0_mult5 : BitVec 32 :=
  let c4_i32_688 : BitVec 32 := 4#32
  let c64_i32_689 : BitVec 32 := 64#32
  let v5152 : BitVec 32 := Scalar.muli c4_i32_688 c64_i32_689
  v5152
def k0_mult6 : BitVec 32 :=
  let c5_i32_854 : BitVec 32 := 5#32
  let c64_i32_855 : BitVec 32 := 64#32
  let v6409 : BitVec 32 := Scalar.muli c5_i32_854 c64_i32_855
  v6409
def k0_mult7 : BitVec 32 :=
  let c6_i32_1020 : BitVec 32 := 6#32
  let c64_i32_1021 : BitVec 32 := 64#32
  let v7666 : BitVec 32 := Scalar.muli c6_i32_1020 c64_i32_1021
  v7666
def k0_mult8 : BitVec 32 :=
  let c7_i32_1186 : BitVec 32 := 7#32
  let c64_i32_1187 : BitVec 32 := 64#32
  let v8923 : BitVec 32 := Scalar.muli c7_i32_1186 c64_i32_1187
  v8923
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S8x2048x1024 : Shape := ⟨3, ![8, 2048, 1024]⟩
abbrev S2x256 : Shape := ⟨2, ![2, 256]⟩
abbrev S64 : Shape := ⟨1, ![64]⟩
abbrev S8x2048x256 : Shape := ⟨3, ![8, 2048, 256]⟩
abbrev S_ : Shape := ⟨0, ![]⟩
abbrev S256 : Shape := ⟨1, ![256]⟩
abbrev S1x256 : Shape := ⟨2, ![1, 256]⟩
abbrev S1x1x256 : Shape := ⟨3, ![1, 1, 256]⟩
abbrev S64x64 : Shape := ⟨2, ![64, 64]⟩
abbrev S1x64x64x1x1 : Shape := ⟨5, ![1, 64, 64, 1, 1]⟩
abbrev S8x4x64x64 : Shape := ⟨4, ![8, 4, 64, 64]⟩
abbrev S8x32x64x4x64 : Shape := ⟨5, ![8, 32, 64, 4, 64]⟩
abbrev S32x8x64x4x64 : Shape := ⟨5, ![32, 8, 64, 4, 64]⟩
abbrev S1x8x64x4x64 : Shape := ⟨5, ![1, 8, 64, 4, 64]⟩
abbrev S8x64x4x64 : Shape := ⟨4, ![8, 64, 4, 64]⟩
abbrev S8x64x1x4x64 : Shape := ⟨5, ![8, 64, 1, 4, 64]⟩
abbrev S8x1x64x4x64 : Shape := ⟨5, ![8, 1, 64, 4, 64]⟩
abbrev S8x64x64x4x64 : Shape := ⟨5, ![8, 64, 64, 4, 64]⟩
abbrev S8x64x64x4 : Shape := ⟨4, ![8, 64, 64, 4]⟩
abbrev S8x1x4x64 : Shape := ⟨4, ![8, 1, 4, 64]⟩
abbrev S8x4x64 : Shape := ⟨3, ![8, 4, 64]⟩
abbrev S8x4x64x1 : Shape := ⟨4, ![8, 4, 64, 1]⟩
abbrev S8x2048x4x64 : Shape := ⟨4, ![8, 2048, 4, 64]⟩
abbrev S8x2048x4 : Shape := ⟨3, ![8, 2048, 4]⟩
abbrev S8x2048x4x1 : Shape := ⟨4, ![8, 2048, 4, 1]⟩
abbrev S1x1x1x64 : Shape := ⟨4, ![1, 1, 1, 64]⟩

abbrev nBuf : Space → Nat
  | .hbm => 184
  | .vmem => 0
  | .smem => 0
  | _ => 0

abbrev hbmTy0_0 (i : Nat) : BufTy := match i % 128 with
  | 0 => ⟨S8x2048x1024, .f32⟩
  | 1 => ⟨S2x256, .f32⟩
  | 2 => ⟨S64, .f32⟩
  | 3 => ⟨S8x2048x256, .f32⟩
  | 4 => ⟨S8x2048x256, .f32⟩
  | 5 => ⟨S8x2048x256, .f32⟩
  | 6 => ⟨S8x2048x256, .f32⟩
  | 7 => ⟨S_, .f32⟩
  | 8 => ⟨S256, .f32⟩
  | 9 => ⟨S_, .f32⟩
  | 10 => ⟨S256, .f32⟩
  | 11 => ⟨S256, .f32⟩
  | 12 => ⟨S1x256, .f32⟩
  | 13 => ⟨S2x256, .f32⟩
  | 14 => ⟨S2x256, .f32⟩
  | 15 => ⟨S2x256, .f32⟩
  | 16 => ⟨S_, .f32⟩
  | 17 => ⟨S256, .f32⟩
  | 18 => ⟨S1x256, .f32⟩
  | 19 => ⟨S2x256, .f32⟩
  | 20 => ⟨S2x256, .f32⟩
  | 21 => ⟨S_, .f32⟩
  | 22 => ⟨S_, .f32⟩
  | 23 => ⟨S2x256, .f32⟩
  | 24 => ⟨S1x256, .f32⟩
  | 25 => ⟨S256, .f32⟩
  | 26 => ⟨S1x256, .f32⟩
  | 27 => ⟨S2x256, .f32⟩
  | 28 => ⟨S2x256, .f32⟩
  | 29 => ⟨S1x256, .f32⟩
  | 30 => ⟨S256, .f32⟩
  | 31 => ⟨S_, .f32⟩
  | 32 => ⟨S256, .f32⟩
  | 33 => ⟨S256, .f32⟩
  | 34 => ⟨S8x2048x256, .f32⟩
  | 35 => ⟨S8x2048x256, .f32⟩
  | 36 => ⟨S_, .f32⟩
  | 37 => ⟨S8x2048x256, .f32⟩
  | 38 => ⟨S8x2048x256, .f32⟩
  | 39 => ⟨S_, .f32⟩
  | 40 => ⟨S8x2048x256, .f32⟩
  | 41 => ⟨S8x2048x256, .f32⟩
  | 42 => ⟨S1x1x256, .f32⟩
  | 43 => ⟨S8x2048x256, .f32⟩
  | 44 => ⟨S8x2048x256, .f32⟩
  | 45 => ⟨S1x1x256, .f32⟩
  | 46 => ⟨S8x2048x256, .f32⟩
  | 47 => ⟨S8x2048x256, .f32⟩
  | 48 => ⟨S64x64, .i32⟩
  | 49 => ⟨S64x64, .i32⟩
  | 50 => ⟨S64x64, .i1⟩
  | 51 => ⟨S1x64x64x1x1, .i1⟩
  | 52 => ⟨S_, .f32⟩
  | 53 => ⟨S8x4x64x64, .f32⟩
  | 54 => ⟨S_, .f32⟩
  | 55 => ⟨S8x2048x256, .f32⟩
  | 56 => ⟨S8x2048x256, .f32⟩
  | 57 => ⟨S8x32x64x4x64, .f32⟩
  | 58 => ⟨S32x8x64x4x64, .f32⟩
  | 59 => ⟨S_, .f32⟩
  | 60 => ⟨S8x2048x256, .f32⟩
  | 61 => ⟨S8x2048x256, .f32⟩
  | 62 => ⟨S8x32x64x4x64, .f32⟩
  | 63 => ⟨S32x8x64x4x64, .f32⟩
  | 64 => ⟨S8x32x64x4x64, .f32⟩
  | 65 => ⟨S32x8x64x4x64, .f32⟩
  | 66 => ⟨S8x2048x256, .f32⟩
  | 67 => ⟨S8x32x64x4x64, .f32⟩
  | 68 => ⟨S32x8x64x4x64, .f32⟩
  | 69 => ⟨S_, .f32⟩
  | 70 => ⟨S32x8x64x4x64, .f32⟩
  | 71 => ⟨S_, .i32⟩
  | 72 => ⟨S32x8x64x4x64, .f32⟩
  | 73 => ⟨S32x8x64x4x64, .f32⟩
  | 74 => ⟨S32x8x64x4x64, .f32⟩
  | 75 => ⟨S32x8x64x4x64, .f32⟩
  | 76 => ⟨S1x64x64x1x1, .i1⟩
  | 77 => ⟨S_, .i32⟩
  | 78 => ⟨S8x4x64x64, .f32⟩
  | 79 => ⟨S32x8x64x4x64, .f32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S1x8x64x4x64, .f32⟩
  | 87 => ⟨S8x64x4x64, .f32⟩
  | 88 => ⟨S_, .i32⟩
  | 89 => ⟨S_, .i32⟩
  | 90 => ⟨S_, .i32⟩
  | 91 => ⟨S_, .i32⟩
  | 92 => ⟨S1x8x64x4x64, .f32⟩
  | 93 => ⟨S8x64x4x64, .f32⟩
  | 94 => ⟨S_, .i32⟩
  | 95 => ⟨S_, .i32⟩
  | 96 => ⟨S_, .i32⟩
  | 97 => ⟨S_, .i32⟩
  | 98 => ⟨S1x8x64x4x64, .f32⟩
  | 99 => ⟨S8x64x4x64, .f32⟩
  | 100 => ⟨S_, .i32⟩
  | 101 => ⟨S_, .i32⟩
  | 102 => ⟨S_, .i32⟩
  | 103 => ⟨S_, .i32⟩
  | 104 => ⟨S1x8x64x4x64, .f32⟩
  | 105 => ⟨S8x64x4x64, .f32⟩
  | 106 => ⟨S_, .f32⟩
  | 107 => ⟨S_, .f32⟩
  | 108 => ⟨S8x64x4x64, .f32⟩
  | 109 => ⟨S8x64x4x64, .f32⟩
  | 110 => ⟨S8x64x4x64, .f32⟩
  | 111 => ⟨S8x4x64x64, .f32⟩
  | 112 => ⟨S8x64x4x64, .f32⟩
  | 113 => ⟨S8x64x1x4x64, .f32⟩
  | 114 => ⟨S8x1x64x4x64, .f32⟩
  | 115 => ⟨S8x64x64x4x64, .f32⟩
  | 116 => ⟨S8x64x64x4x64, .f32⟩
  | 117 => ⟨S8x64x64x4x64, .f32⟩
  | 118 => ⟨S_, .f32⟩
  | 119 => ⟨S_, .f32⟩
  | 120 => ⟨S8x64x64x4x64, .i1⟩
  | 121 => ⟨S8x64x64x4x64, .f32⟩
  | 122 => ⟨S8x64x64x4x64, .f32⟩
  | 123 => ⟨S8x64x64x4x64, .f32⟩
  | 124 => ⟨S8x1x64x4x64, .f32⟩
  | 125 => ⟨S8x64x64x4x64, .f32⟩
  | 126 => ⟨S8x64x64x4x64, .f32⟩
  | 127 => ⟨S8x64x4x64, .f32⟩
  | _ => ⟨S8x2048x1024, .f32⟩

abbrev hbmTy0_1 (i : Nat) : BufTy := match i % 128 with
  | 0 => ⟨S8x64x64x4, .f32⟩
  | 1 => ⟨S8x4x64x64, .f32⟩
  | 2 => ⟨S8x64x4x64, .f32⟩
  | 3 => ⟨S8x64x4x64, .f32⟩
  | 4 => ⟨S8x1x4x64, .f32⟩
  | 5 => ⟨S8x4x64, .f32⟩
  | 6 => ⟨S8x4x64, .f32⟩
  | 7 => ⟨S8x4x64x1, .f32⟩
  | 8 => ⟨S8x4x64x64, .f32⟩
  | 9 => ⟨S8x4x64x64, .f32⟩
  | 10 => ⟨S8x1x4x64, .f32⟩
  | 11 => ⟨S8x64x4x64, .f32⟩
  | 12 => ⟨S8x64x4x64, .f32⟩
  | 13 => ⟨S8x64x4x64, .f32⟩
  | 14 => ⟨S8x64x4x64, .f32⟩
  | 15 => ⟨S8x4x64x64, .f32⟩
  | 16 => ⟨S8x4x64x64, .f32⟩
  | 17 => ⟨S1x8x64x4x64, .f32⟩
  | 18 => ⟨S_, .i32⟩
  | 19 => ⟨S_, .i32⟩
  | 20 => ⟨S_, .i32⟩
  | 21 => ⟨S_, .i32⟩
  | 22 => ⟨S32x8x64x4x64, .f32⟩
  | 23 => ⟨S_, .i32⟩
  | 24 => ⟨S_, .i32⟩
  | 25 => ⟨S8x32x64x4x64, .f32⟩
  | 26 => ⟨S8x2048x4x64, .f32⟩
  | 27 => ⟨S8x2048x4x64, .f32⟩
  | 28 => ⟨S_, .f32⟩
  | 29 => ⟨S8x2048x4, .f32⟩
  | 30 => ⟨S8x2048x4x1, .f32⟩
  | 31 => ⟨S_, .f32⟩
  | 32 => ⟨S8x2048x4x1, .f32⟩
  | 33 => ⟨S8x2048x4x1, .f32⟩
  | 34 => ⟨S_, .f32⟩
  | 35 => ⟨S8x2048x4x1, .f32⟩
  | 36 => ⟨S8x2048x4x1, .f32⟩
  | 37 => ⟨S8x2048x4x1, .f32⟩
  | 38 => ⟨S8x2048x4x64, .f32⟩
  | 39 => ⟨S8x2048x4x64, .f32⟩
  | 40 => ⟨S1x1x1x64, .f32⟩
  | 41 => ⟨S8x2048x4x64, .f32⟩
  | 42 => ⟨S8x2048x4x64, .f32⟩
  | 43 => ⟨S8x2048x256, .f32⟩
  | 44 => ⟨S8x2048x4x64, .f32⟩
  | 45 => ⟨S8x2048x4x64, .f32⟩
  | 46 => ⟨S8x2048x4x64, .f32⟩
  | 47 => ⟨S_, .f32⟩
  | 48 => ⟨S8x2048x4x64, .f32⟩
  | 49 => ⟨S8x2048x4x64, .f32⟩
  | 50 => ⟨S_, .f32⟩
  | 51 => ⟨S8x2048x4x64, .f32⟩
  | 52 => ⟨S8x2048x4x64, .f32⟩
  | 53 => ⟨S8x2048x4x64, .f32⟩
  | 54 => ⟨S8x2048x4x64, .f32⟩
  | 55 => ⟨S8x2048x256, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_call0_cst : Ref sig .tc := ⟨.hbm, 21, rfl⟩
abbrev main_call0_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_c : Ref sig .tc := ⟨.hbm, 71, rfl⟩
abbrev main_v56_0 : Ref sig .tc := ⟨.hbm, 72, rfl⟩
abbrev main_v56_1 : Ref sig .tc := ⟨.hbm, 73, rfl⟩
abbrev main_v56_2 : Ref sig .tc := ⟨.hbm, 74, rfl⟩
abbrev main_v56_3 : Ref sig .tc := ⟨.hbm, 75, rfl⟩
abbrev main_v56_4 : Ref sig .tc := ⟨.hbm, 76, rfl⟩
abbrev main_v56_5 : Ref sig .tc := ⟨.hbm, 77, rfl⟩
abbrev main_v56_6 : Ref sig .tc := ⟨.hbm, 78, rfl⟩
abbrev main_v56_7 : Ref sig .tc := ⟨.hbm, 79, rfl⟩
abbrev main_while0c_c_19 : Ref sig .tc := ⟨.hbm, 80, rfl⟩
abbrev main_while0c_v77 : Ref sig .tc := ⟨.hbm, 81, rfl⟩
abbrev main_while0b_call1_c : Ref sig .tc := ⟨.hbm, 82, rfl⟩
abbrev main_while0b_call1_c_0 : Ref sig .tc := ⟨.hbm, 83, rfl⟩
abbrev main_while0b_call1_c_1 : Ref sig .tc := ⟨.hbm, 84, rfl⟩
abbrev main_while0b_call1_c_2 : Ref sig .tc := ⟨.hbm, 85, rfl⟩
abbrev main_while0b_call1_v0 : Ref sig .tc := ⟨.hbm, 86, rfl⟩
abbrev main_while0b_v77 : Ref sig .tc := ⟨.hbm, 87, rfl⟩
abbrev main_while0b_call2_c : Ref sig .tc := ⟨.hbm, 88, rfl⟩
abbrev main_while0b_call2_c_0 : Ref sig .tc := ⟨.hbm, 89, rfl⟩
abbrev main_while0b_call2_c_1 : Ref sig .tc := ⟨.hbm, 90, rfl⟩
abbrev main_while0b_call2_c_2 : Ref sig .tc := ⟨.hbm, 91, rfl⟩
abbrev main_while0b_call2_v0 : Ref sig .tc := ⟨.hbm, 92, rfl⟩
abbrev main_while0b_v78 : Ref sig .tc := ⟨.hbm, 93, rfl⟩
abbrev main_while0b_call3_c : Ref sig .tc := ⟨.hbm, 94, rfl⟩
abbrev main_while0b_call3_c_0 : Ref sig .tc := ⟨.hbm, 95, rfl⟩
abbrev main_while0b_call3_c_1 : Ref sig .tc := ⟨.hbm, 96, rfl⟩
abbrev main_while0b_call3_c_2 : Ref sig .tc := ⟨.hbm, 97, rfl⟩
abbrev main_while0b_call3_v0 : Ref sig .tc := ⟨.hbm, 98, rfl⟩
abbrev main_while0b_v79 : Ref sig .tc := ⟨.hbm, 99, rfl⟩
abbrev main_while0b_call4_c : Ref sig .tc := ⟨.hbm, 100, rfl⟩
abbrev main_while0b_call4_c_0 : Ref sig .tc := ⟨.hbm, 101, rfl⟩
abbrev main_while0b_call4_c_1 : Ref sig .tc := ⟨.hbm, 102, rfl⟩
abbrev main_while0b_call4_c_2 : Ref sig .tc := ⟨.hbm, 103, rfl⟩
abbrev main_while0b_call4_v0 : Ref sig .tc := ⟨.hbm, 104, rfl⟩
abbrev main_while0b_v80 : Ref sig .tc := ⟨.hbm, 105, rfl⟩
abbrev main_while0b_call5_call0_cst : Ref sig .tc := ⟨.hbm, 106, rfl⟩
abbrev main_while0b_call5_call0_v0 : Ref sig .tc := ⟨.hbm, 107, rfl⟩
abbrev main_while0b_v81 : Ref sig .tc := ⟨.hbm, 108, rfl⟩
abbrev main_while0b_v82 : Ref sig .tc := ⟨.hbm, 109, rfl⟩
abbrev main_while0b_v83 : Ref sig .tc := ⟨.hbm, 110, rfl⟩
abbrev main_while0b_v84 : Ref sig .tc := ⟨.hbm, 111, rfl⟩
abbrev main_while0b_v85 : Ref sig .tc := ⟨.hbm, 112, rfl⟩
abbrev main_while0b_v86 : Ref sig .tc := ⟨.hbm, 113, rfl⟩
abbrev main_while0b_v87 : Ref sig .tc := ⟨.hbm, 114, rfl⟩
abbrev main_while0b_v88 : Ref sig .tc := ⟨.hbm, 115, rfl⟩
abbrev main_while0b_v89 : Ref sig .tc := ⟨.hbm, 116, rfl⟩
abbrev main_while0b_v90 : Ref sig .tc := ⟨.hbm, 117, rfl⟩
abbrev main_while0b_cst_19 : Ref sig .tc := ⟨.hbm, 118, rfl⟩
abbrev main_while0b_call6_v0 : Ref sig .tc := ⟨.hbm, 119, rfl⟩
abbrev main_while0b_call6_v1 : Ref sig .tc := ⟨.hbm, 120, rfl⟩
abbrev main_while0b_call6_v2 : Ref sig .tc := ⟨.hbm, 121, rfl⟩
abbrev main_while0b_v91 : Ref sig .tc := ⟨.hbm, 122, rfl⟩
abbrev main_while0b_v92 : Ref sig .tc := ⟨.hbm, 123, rfl⟩
abbrev main_while0b_v93 : Ref sig .tc := ⟨.hbm, 124, rfl⟩
abbrev main_while0b_v94 : Ref sig .tc := ⟨.hbm, 125, rfl⟩
abbrev main_while0b_v95 : Ref sig .tc := ⟨.hbm, 126, rfl⟩
abbrev main_while0b_v96 : Ref sig .tc := ⟨.hbm, 127, rfl⟩
abbrev main_while0b_v97 : Ref sig .tc := ⟨.hbm, 128, rfl⟩
abbrev main_while0b_v98 : Ref sig .tc := ⟨.hbm, 129, rfl⟩
abbrev main_while0b_v99 : Ref sig .tc := ⟨.hbm, 130, rfl⟩
abbrev main_while0b_v100 : Ref sig .tc := ⟨.hbm, 131, rfl⟩
abbrev main_while0b_v101 : Ref sig .tc := ⟨.hbm, 132, rfl⟩
abbrev main_while0b_v102 : Ref sig .tc := ⟨.hbm, 133, rfl⟩
abbrev main_while0b_v103 : Ref sig .tc := ⟨.hbm, 134, rfl⟩
abbrev main_while0b_v104 : Ref sig .tc := ⟨.hbm, 135, rfl⟩
abbrev main_while0b_v105 : Ref sig .tc := ⟨.hbm, 136, rfl⟩
abbrev main_while0b_v106 : Ref sig .tc := ⟨.hbm, 137, rfl⟩
abbrev main_while0b_v107 : Ref sig .tc := ⟨.hbm, 138, rfl⟩
abbrev main_while0b_v108 : Ref sig .tc := ⟨.hbm, 139, rfl⟩
abbrev main_while0b_v109 : Ref sig .tc := ⟨.hbm, 140, rfl⟩
abbrev main_while0b_v110 : Ref sig .tc := ⟨.hbm, 141, rfl⟩
abbrev main_while0b_v111 : Ref sig .tc := ⟨.hbm, 142, rfl⟩
abbrev main_while0b_v112 : Ref sig .tc := ⟨.hbm, 143, rfl⟩
abbrev main_while0b_v113 : Ref sig .tc := ⟨.hbm, 144, rfl⟩
abbrev main_while0b_call7_v0 : Ref sig .tc := ⟨.hbm, 145, rfl⟩
abbrev main_while0b_call7_c : Ref sig .tc := ⟨.hbm, 146, rfl⟩
abbrev main_while0b_call7_c_0 : Ref sig .tc := ⟨.hbm, 147, rfl⟩
abbrev main_while0b_call7_c_1 : Ref sig .tc := ⟨.hbm, 148, rfl⟩
abbrev main_while0b_call7_c_2 : Ref sig .tc := ⟨.hbm, 149, rfl⟩
abbrev main_while0b_v114 : Ref sig .tc := ⟨.hbm, 150, rfl⟩
abbrev main_while0b_c_20 : Ref sig .tc := ⟨.hbm, 151, rfl⟩
abbrev main_while0b_v115 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_cst_9 : Ref sig .tc := ⟨.hbm, 156, rfl⟩
abbrev main_v60 : Ref sig .tc := ⟨.hbm, 157, rfl⟩
abbrev main_v61 : Ref sig .tc := ⟨.hbm, 158, rfl⟩
abbrev main_cst_10 : Ref sig .tc := ⟨.hbm, 159, rfl⟩
abbrev main_v62 : Ref sig .tc := ⟨.hbm, 160, rfl⟩
abbrev main_v63 : Ref sig .tc := ⟨.hbm, 161, rfl⟩
abbrev main_cst_11 : Ref sig .tc := ⟨.hbm, 162, rfl⟩
abbrev main_v64 : Ref sig .tc := ⟨.hbm, 163, rfl⟩
abbrev main_v65 : Ref sig .tc := ⟨.hbm, 164, rfl⟩
abbrev main_v66 : Ref sig .tc := ⟨.hbm, 165, rfl⟩
abbrev main_v67 : Ref sig .tc := ⟨.hbm, 166, rfl⟩
abbrev main_v68 : Ref sig .tc := ⟨.hbm, 167, rfl⟩
abbrev main_v69 : Ref sig .tc := ⟨.hbm, 168, rfl⟩
abbrev main_v70 : Ref sig .tc := ⟨.hbm, 169, rfl⟩
abbrev main_v71 : Ref sig .tc := ⟨.hbm, 170, rfl⟩
abbrev main_v72 : Ref sig .tc := ⟨.hbm, 171, rfl⟩
abbrev main_v73 : Ref sig .tc := ⟨.hbm, 172, rfl⟩
abbrev main_call8_v0 : Ref sig .tc := ⟨.hbm, 173, rfl⟩
abbrev main_call8_v1 : Ref sig .tc := ⟨.hbm, 174, rfl⟩
abbrev main_call8_cst : Ref sig .tc := ⟨.hbm, 175, rfl⟩
abbrev main_call8_v2 : Ref sig .tc := ⟨.hbm, 176, rfl⟩
abbrev main_call8_v3 : Ref sig .tc := ⟨.hbm, 177, rfl⟩
abbrev main_call8_cst_0 : Ref sig .tc := ⟨.hbm, 178, rfl⟩
abbrev main_call8_v4 : Ref sig .tc := ⟨.hbm, 179, rfl⟩
abbrev main_call8_v5 : Ref sig .tc := ⟨.hbm, 180, rfl⟩
abbrev main_v74 : Ref sig .tc := ⟨.hbm, 181, rfl⟩
abbrev main_v75 : Ref sig .tc := ⟨.hbm, 182, rfl⟩
abbrev main_v76 : Ref sig .tc := ⟨.hbm, 183, rfl⟩

abbrev nD : Nat := 1
abbrev τ : Topo := Topo.v7x

variable {F : FTy → Type} [FloatOps F]

abbrev main_while0_count : Scf.Loop 32 := ⟨0#32, 32#32, 1#32⟩
-- ==== Kernel5.lean ====
abbrev S2x16384x1024 : Shape := ⟨3, ![2, 16384, 1024]⟩
abbrev S8x1024x2048 : Shape := ⟨3, ![8, 1024, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S1024x2048 : Shape := ⟨2, ![1024, 2048]⟩

abbrev nBuf : Space → Nat
  | .hbm => 2
  | .vmem => 4
  | .smem => 0
  | _ => 0

abbrev bufTy : (tb : Table) → Fin (tcTables nBuf tb) → BufTy
  | .hbm, ⟨0, _⟩ => ⟨S2x16384x1024, .f32⟩
  | .hbm, ⟨1, _⟩ => ⟨S8x1024x2048, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x1024x2048, .bf16⟩
  | .local _ .vmem, ⟨3, _⟩ => ⟨S1x1024x2048, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference5Ideal.lean ====
abbrev S2x16384x1024 : Shape := ⟨3, ![2, 16384, 1024]⟩
abbrev S1x16384x1024 : Shape := ⟨3, ![1, 16384, 1024]⟩
abbrev S16384x1024 : Shape := ⟨2, ![16384, 1024]⟩
abbrev S8x2048x1024 : Shape := ⟨3, ![8, 2048, 1024]⟩
abbrev S8x1024x2048 : Shape := ⟨3, ![8, 1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x16384x1024, .f32⟩
  | .hbm, ⟨2, _⟩ => ⟨S16384x1024, .f32⟩
  | .hbm, ⟨3, _⟩ => ⟨S8x2048x1024, .f32⟩
  | .hbm, ⟨4, _⟩ => ⟨S8x1024x2048, .f32⟩
  | .hbm, ⟨5, _⟩ => ⟨S8x1024x2048, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Proof.Masks.lean ====
module

public import proofs.«01_k».proof.Proof.Gen.KernelIdeal.Skeleton
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)
namespace Cert.KernelIdeal.Ssd
open Cert.KernelIdeal Cert.KernelIdeal.Gen

theorem and63 : ∀ l : Fin 384, IntOp.andi (BitVec.ofNat 32 l.val) 63#32 = BitVec.ofNat 32 (l.val % 64) := by decide +kernel

theorem xnor (a b : BitVec 1) : IntOp.xori (IntOp.xori a b) 1#1 = 1#1 ↔ (a = 1#1 ↔ b = 1#1) := by
  revert a b; decide

theorem pay13_apply (t u : Fin 64) : (k0_pay13 : FVec Ideal S64x64 .f32) (ix2 t u) = if u.val ≤ t.val then 1 else 0 := by
  pointwise [k0_pay13]
  refine if_congr ?_ rfl rfl; word_omega

theorem pay15_apply (t : Fin 64) (l : Fin 384) : (k0_pay15 : FVec Ideal S64x384 .f32) (ix2 t l) = if l.val % 64 < t.val then 1 else 0 := by
  pointwise [k0_pay15, k0_pay14]
  rw [and63]
  refine if_congr ?_ rfl rfl; word_omega

theorem pay16_apply (t : Fin 64) (l : Fin 384) : k0_pay16 (ix2 t l) = 1#1 ↔ l.val % 64 ≤ t.val := by
  pointwise [k0_pay16, k0_pay14]
  rw [and63]
  word_omega

theorem pay25_apply (n : Fin 256) (l : Fin 384) : (k0_pay25 : FVec Ideal S256x384 .f32) (ix2 n l) = if (128 ≤ n.val ↔ 192 ≤ l.val) then 1 else 0 := by
  pointwise [k0_pay25]
  refine if_congr ((xnor _ _).trans (iff_congr ?_ ?_)) rfl rfl <;> word_omega

theorem pay29_apply (k l : Fin 384) : (k0_pay29 (iota Kind.tc S384x384 32 [1] iota_S384x384_d1_w32) k0_pay26 k0_pay27 k0_pay28 : FVec Ideal S384x384 .bf16) (ix2 k l) = if (k.val < 192 ↔ l.val < 192) then 1 else 0 := by
  pointwise [k0_pay29, k0_pay26, k0_pay27, k0_pay28]
  refine if_congr ?_ rfl rfl; word_omega

theorem pay17_apply (l : Fin 384) : (k0_pay17 (iota Kind.tc S1x384 32 [1] iota_S1x384_d1_w32) 0#32 : FVec Ideal S1x384 .f32) (ix2 0 l) = if l.val / 64 = 0 then 1 else 0 := by
  pointwise [k0_pay17]
  refine if_congr ?_ rfl rfl; word_omega

theorem pay18_apply (l : Fin 384) : (k0_pay18 : FVec Ideal S1x384 .f32) (ix2 0 l) = if l.val / 64 = 1 then 1 else 0 := by
  pointwise [k0_pay18]
  refine if_congr ?_ rfl rfl; word_omega

theorem pay19_apply (l : Fin 384) : (k0_pay19 : FVec Ideal S1x384 .f32) (ix2 0 l) = if l.val / 64 = 2 then 1 else 0 := by
  pointwise [k0_pay19]
  refine if_congr ?_ rfl rfl; word_omega

theorem pay20_apply (l : Fin 384) : (k0_pay20 : FVec Ideal S1x384 .f32) (ix2 0 l) = if l.val / 64 = 3 then 1 else 0 := by
  pointwise [k0_pay20]
  refine if_congr ?_ rfl rfl; word_omega

theorem pay22_apply (l : Fin 384) : (k0_pay22 k0_pay21 (FloatOps.ofBits FTy.f32 1065353216#32) (FloatOps.ofBits FTy.f32 0#32) : FVec Ideal S1x384 .f32) (ix2 0 l) = if l.val / 64 = 4 then 1 else 0 := by
  pointwise [k0_pay22, k0_pay21]
  refine if_congr ?_ rfl rfl; word_omega

theorem pay23_apply (l : Fin 384) : (k0_pay23 : FVec Ideal S1x384 .f32) (ix2 0 l) = if l.val / 64 = 5 then 1 else 0 := by
  pointwise [k0_pay23]
  refine if_congr ?_ rfl rfl; word_omega

theorem pay24_apply (t : Fin 64) (n : Fin 128) : (k0_pay24 : FVec Ideal S64x128 .f32) (ix2 t n) = 0 := by
  pointwise [k0_pay24]

end Cert.KernelIdeal.Ssd
-- ==== Proof.Chunk.lean ====
module

public import proofs.«01_k».proof.Proof.Gen.KernelIdeal.Skeleton
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.KernelIdeal.Ssd
open Cert.KernelIdeal Cert.KernelIdeal.Gen

/-- The state after one 64-step chunk: `X` the activated rows, `D` the raw steps, `S` the state before. -/
def chunkSt (x3 x4 : Vec Ideal S1x384 .f32) (X : Vec Ideal S64x896 .f32) (D : Vec Ideal S1x64x384 .f32) (S : Vec Ideal S256x384 .f32) : Vec Ideal S256x384 .f32 :=
  k0_pay39 k0_pay25 (k0_pay31 X) (k0_pay32 X) (k0_pay34 (k0_pay9 x3) D) (k0_pay36 (k0_pay9 x3) (k0_pay10 x4) k0_pay13 k0_pay15 D) S

/-- The rows one chunk writes: `Z` the gate's rows. -/
def chunkY (x3 x4 x5 x6 : Vec Ideal S1x384 .f32) (Z D : Vec Ideal S1x64x384 .f32) (X : Vec Ideal S64x896 .f32) (S : Vec Ideal S256x384 .f32) : Vec Ideal S1x64x384 .f32 :=
  k0_pay41 (k0_pay12 x6) (k0_pay29 (iota Kind.tc S384x384 32 [1] iota_S384x384_d1_w32) k0_pay26 k0_pay27 k0_pay28) (k0_pay30 Z) (k0_pay31 X) (k0_pay38 (k0_pay17 (iota Kind.tc S1x384 32 [1] iota_S1x384_d1_w32) 0#32) k0_pay18 k0_pay19 k0_pay20 (k0_pay22 k0_pay21 (FloatOps.ofBits FTy.f32 1065353216#32) (FloatOps.ofBits FTy.f32 0#32)) k0_pay23 k0_pay24 (k0_pay31 X) (k0_pay32 X) (k0_pay33 X) (k0_pay34 (k0_pay9 x3) D) (k0_pay36 (k0_pay9 x3) (k0_pay10 x4) k0_pay13 k0_pay15 D) (k0_pay37 (k0_pay9 x3) (k0_pay10 x4) k0_pay13 k0_pay15 k0_pay16 D) S) (k0_pay40 (k0_pay11 x5))

section
variable (x3 x4 x5 x6 : Vec Ideal S1x384 .f32) (Z D : Vec Ideal S1x64x384 .f32) (X : Vec Ideal S64x896 .f32) (S : Vec Ideal S256x384 .f32)

theorem chunkSt_0 : k0_pay39 k0_pay25 (k0_pay31 X) (k0_pay32 X) (k0_pay34 (k0_pay9 x3) D) (k0_pay36 (k0_pay9 x3) (k0_pay10 x4) k0_pay13 k0_pay15 D) S = chunkSt x3 x4 X D S := rfl
theorem chunkY_0 : k0_pay41 (k0_pay12 x6) (k0_pay29 (iota Kind.tc S384x384 32 [1] iota_S384x384_d1_w32) k0_pay26 k0_pay27 k0_pay28) (k0_pay30 Z) (k0_pay31 X) (k0_pay38 (k0_pay17 (iota Kind.tc S1x384 32 [1] iota_S1x384_d1_w32) 0#32) k0_pay18 k0_pay19 k0_pay20 (k0_pay22 k0_pay21 (FloatOps.ofBits FTy.f32 1065353216#32) (FloatOps.ofBits FTy.f32 0#32)) k0_pay23 k0_pay24 (k0_pay31 X) (k0_pay32 X) (k0_pay33 X) (k0_pay34 (k0_pay9 x3) D) (k0_pay36 (k0_pay9 x3) (k0_pay10 x4) k0_pay13 k0_pay15 D) (k0_pay37 (k0_pay9 x3) (k0_pay10 x4) k0_pay13 k0_pay15 k0_pay16 D) S) (k0_pay40 (k0_pay11 x5)) = chunkY x3 x4 x5 x6 Z D X S := rfl

theorem chunkSt_1 : k0_pay52 k0_pay25 (k0_pay43 X) (k0_pay44 X) (k0_pay48 (k0_pay46 (k0_pay9 x3) D) (k0_pay47 (k0_pay9 x3) D)) (k0_pay50 (k0_pay10 x4) k0_pay13 k0_pay15 (k0_pay46 (k0_pay9 x3) D) (k0_pay47 (k0_pay9 x3) D)) S = chunkSt x3 x4 X D S := rfl
theorem chunkY_1 : k0_pay53 (k0_pay11 x5) (k0_pay12 x6) (k0_pay29 (iota Kind.tc S384x384 32 [1] iota_S384x384_d1_w32) k0_pay26 k0_pay27 k0_pay28) (k0_pay42 Z) (k0_pay43 X) (k0_pay51 (k0_pay10 x4) k0_pay13 k0_pay15 k0_pay16 (k0_pay17 (iota Kind.tc S1x384 32 [1] iota_S1x384_d1_w32) 0#32) k0_pay18 k0_pay19 k0_pay20 (k0_pay22 k0_pay21 (FloatOps.ofBits FTy.f32 1065353216#32) (FloatOps.ofBits FTy.f32 0#32)) k0_pay23 k0_pay24 (k0_pay43 X) (k0_pay44 X) (k0_pay45 X) (k0_pay46 (k0_pay9 x3) D) (k0_pay47 (k0_pay9 x3) D) S) = chunkY x3 x4 x5 x6 Z D X S := rfl

theorem chunkSt_2 : k0_pay66 k0_pay25 (k0_pay55 X) (k0_pay56 X) (k0_pay58 (k0_pay9 x3) D) (k0_pay60 (k0_pay9 x3) (k0_pay10 x4) k0_pay13 k0_pay15 D) S = chunkSt x3 x4 X D S := rfl
theorem chunkY_2 : k0_pay69 (k0_pay12 x6) (k0_pay29 (iota Kind.tc S384x384 32 [1] iota_S384x384_d1_w32) k0_pay26 k0_pay27 k0_pay28) (k0_pay67 (k0_pay11 x5) k0_pay20 (k0_pay22 k0_pay21 (FloatOps.ofBits FTy.f32 1065353216#32) (FloatOps.ofBits FTy.f32 0#32)) k0_pay23 (k0_pay54 Z) (k0_pay55 X) (k0_pay57 X) (k0_pay60 (k0_pay9 x3) (k0_pay10 x4) k0_pay13 k0_pay15 D) (k0_pay61 (k0_pay9 x3) (k0_pay10 x4) k0_pay13 k0_pay15 k0_pay16 k0_pay24 D X) (k0_pay62 (k0_pay9 x3) D X) (k0_pay63 (k0_pay9 x3) (k0_pay17 (iota Kind.tc S1x384 32 [1] iota_S1x384_d1_w32) 0#32) D X) (k0_pay64 (k0_pay9 x3) k0_pay18 D X) (k0_pay65 k0_pay19) S) (k0_pay68 (k0_pay11 x5) k0_pay20 (k0_pay22 k0_pay21 (FloatOps.ofBits FTy.f32 1065353216#32) (FloatOps.ofBits FTy.f32 0#32)) k0_pay23 (k0_pay54 Z) (k0_pay55 X) (k0_pay57 X) (k0_pay60 (k0_pay9 x3) (k0_pay10 x4) k0_pay13 k0_pay15 D) (k0_pay61 (k0_pay9 x3) (k0_pay10 x4) k0_pay13 k0_pay15 k0_pay16 k0_pay24 D X) (k0_pay62 (k0_pay9 x3) D X) (k0_pay63 (k0_pay9 x3) (k0_pay17 (iota Kind.tc S1x384 32 [1] iota_S1x384_d1_w32) 0#32) D X) (k0_pay64 (k0_pay9 x3) k0_pay18 D X) (k0_pay65 k0_pay19) S) = chunkY x3 x4 x5 x6 Z D X S := rfl

theorem chunkSt_3 : k0_pay79 (k0_pay78 k0_pay25 (k0_pay71 X) (k0_pay72 X) (k0_pay74 (k0_pay9 x3) D) (k0_pay75 (k0_pay9 x3) (k0_pay10 x4) k0_pay13 k0_pay15 D) S) = chunkSt x3 x4 X D S := rfl
theorem chunkY_3 : k0_pay80 (k0_pay11 x5) (k0_pay12 x6) (k0_pay29 (iota Kind.tc S384x384 32 [1] iota_S384x384_d1_w32) k0_pay26 k0_pay27 k0_pay28) (k0_pay70 Z) (k0_pay71 X) (k0_pay77 k0_pay16 (k0_pay17 (iota Kind.tc S1x384 32 [1] iota_S1x384_d1_w32) 0#32) k0_pay18 k0_pay19 k0_pay20 (k0_pay22 k0_pay21 (FloatOps.ofBits FTy.f32 1065353216#32) (FloatOps.ofBits FTy.f32 0#32)) k0_pay23 k0_pay24 (k0_pay71 X) (k0_pay72 X) (k0_pay73 X) (k0_pay74 (k0_pay9 x3) D) (k0_pay75 (k0_pay9 x3) (k0_pay10 x4) k0_pay13 k0_pay15 D) S) = chunkY x3 x4 x5 x6 Z D X S := rfl

theorem chunkSt_4 : k0_pay91 k0_pay25 (k0_pay83 X) (k0_pay84 X) (k0_pay86 (k0_pay9 x3) (k0_pay82 D)) (k0_pay88 (k0_pay9 x3) (k0_pay10 x4) k0_pay13 k0_pay15 (k0_pay82 D)) S = chunkSt x3 x4 X D S := rfl
theorem chunkY_4 : k0_pay93 (k0_pay92 (k0_pay11 x5) (k0_pay12 x6) (k0_pay29 (iota Kind.tc S384x384 32 [1] iota_S384x384_d1_w32) k0_pay26 k0_pay27 k0_pay28) (k0_pay81 Z) (k0_pay83 X) (k0_pay88 (k0_pay9 x3) (k0_pay10 x4) k0_pay13 k0_pay15 (k0_pay82 D)) (k0_pay89 (k0_pay9 x3) (k0_pay10 x4) k0_pay13 k0_pay15 k0_pay16 (k0_pay17 (iota Kind.tc S1x384 32 [1] iota_S1x384_d1_w32) 0#32) k0_pay18 k0_pay19 k0_pay20 (k0_pay22 k0_pay21 (FloatOps.ofBits FTy.f32 1065353216#32) (FloatOps.ofBits FTy.f32 0#32)) k0_pay23 k0_pay24 (k0_pay82 D) X (k0_pay83 X) (k0_pay84 X)) S (k0_pay90 X)) = chunkY x3 x4 x5 x6 Z D X S := rfl

theorem chunkSt_5 : k0_pay102 k0_pay25 (k0_pay95 X) (k0_pay96 X) (k0_pay98 (k0_pay9 x3) D) (k0_pay100 (k0_pay9 x3) (k0_pay10 x4) k0_pay13 k0_pay15 D) S = chunkSt x3 x4 X D S := rfl
theorem chunkY_5 : k0_pay105 (k0_pay12 x6) (k0_pay29 (iota Kind.tc S384x384 32 [1] iota_S384x384_d1_w32) k0_pay26 k0_pay27 k0_pay28) (k0_pay94 Z) (k0_pay103 (k0_pay11 x5) (k0_pay17 (iota Kind.tc S1x384 32 [1] iota_S1x384_d1_w32) 0#32) k0_pay18 k0_pay19 k0_pay20 (k0_pay22 k0_pay21 (FloatOps.ofBits FTy.f32 1065353216#32) (FloatOps.ofBits FTy.f32 0#32)) k0_pay23 (k0_pay95 X) (k0_pay97 X) (k0_pay98 (k0_pay9 x3) D) (k0_pay100 (k0_pay9 x3) (k0_pay10 x4) k0_pay13 k0_pay15 D) (k0_pay101 (k0_pay9 x3) (k0_pay10 x4) k0_pay13 k0_pay15 k0_pay16 k0_pay24 D X) S) (k0_pay104 (k0_pay94 Z)) (FloatOps.ofBits FTy.f32 1065353216#32) = chunkY x3 x4 x5 x6 Z D X S := rfl

theorem chunkSt_6 : k0_pay118 k0_pay25 (k0_pay115 (k0_pay10 x4) k0_pay13 k0_pay15 (k0_pay110 (k0_pay9 x3) D) S) (k0_pay116 (k0_pay10 x4) k0_pay13 k0_pay15 (k0_pay107 X) (k0_pay110 (k0_pay9 x3) D)) (k0_pay117 (k0_pay108 X)) = chunkSt x3 x4 X D S := rfl
theorem chunkY_6 : k0_pay119 (k0_pay11 x5) (k0_pay12 x6) (k0_pay29 (iota Kind.tc S384x384 32 [1] iota_S384x384_d1_w32) k0_pay26 k0_pay27 k0_pay28) (k0_pay106 Z) (k0_pay107 X) (k0_pay113 (k0_pay10 x4) k0_pay13 k0_pay15 k0_pay16 (k0_pay17 (iota Kind.tc S1x384 32 [1] iota_S1x384_d1_w32) 0#32) k0_pay18 k0_pay19 k0_pay20 (k0_pay22 k0_pay21 (FloatOps.ofBits FTy.f32 1065353216#32) (FloatOps.ofBits FTy.f32 0#32)) k0_pay23 k0_pay24 (k0_pay107 X) (k0_pay108 X) (k0_pay109 X) (k0_pay110 (k0_pay9 x3) D) S) = chunkY x3 x4 x5 x6 Z D X S := rfl

theorem chunkSt_7 : k0_pay129 k0_pay25 (k0_pay121 X) (k0_pay122 X) (k0_pay124 (k0_pay9 x3) D) (k0_pay126 (k0_pay9 x3) (k0_pay10 x4) k0_pay13 k0_pay15 D) S = chunkSt x3 x4 X D S := rfl
theorem chunkY_7 : k0_pay1 (k0_pay12 x6) (k0_pay130 (k0_pay11 x5) (k0_pay29 (iota Kind.tc S384x384 32 [1] iota_S384x384_d1_w32) k0_pay26 k0_pay27 k0_pay28) (k0_pay120 Z) (k0_pay121 X) (k0_pay123 X) (k0_pay126 (k0_pay9 x3) (k0_pay10 x4) k0_pay13 k0_pay15 D) (k0_pay127 (k0_pay9 x3) (k0_pay10 x4) k0_pay13 k0_pay15 k0_pay16 k0_pay24 D X) (k0_pay128 (k0_pay9 x3) (k0_pay17 (iota Kind.tc S1x384 32 [1] iota_S1x384_d1_w32) 0#32) k0_pay18 k0_pay19 k0_pay20 (k0_pay22 k0_pay21 (FloatOps.ofBits FTy.f32 1065353216#32) (FloatOps.ofBits FTy.f32 0#32)) k0_pay23 D X) S) = chunkY x3 x4 x5 x6 Z D X S := rfl

end
end Cert.KernelIdeal.Ssd
-- ==== Proof.Model.lean ====
module

public import Idealize.ShloMosaic.Lib.Pointwise

@[expose] public section

noncomputable section

open Idealize.ShloMosaic

namespace Cert.Scan

/-- The head, the place within the head and the place within the group of one of the 384 lanes. -/
def hd (l : Fin 384) : Fin 6 := ⟨l.val / 64, by omega⟩
def ps (l : Fin 384) : Fin 64 := ⟨l.val % 64, by omega⟩
def gp (h : Fin 6) : Fin 2 := ⟨h.val / 3, by omega⟩
def lane (h : Fin 6) (p : Fin 64) : Fin 384 := ⟨h.val * 64 + p.val, by omega⟩
def glane (g : Fin 2) (q : Fin 192) : Fin 384 := ⟨g.val * 192 + q.val, by omega⟩

/-- The softplus of one step, and the logistic function. -/
def sp (x : EReal) : EReal := max x 0 + Ideal.log (1 + Ideal.exp (0 - max x (-x)))
def sg (x : EReal) : EReal := Ideal.div 1 (1 + Ideal.exp (0 - x))

/-- The four-step convolution of one channel, and its activation. -/
def actOf (cb : EReal) (w e : Fin 4 → EReal) : EReal :=
  (cb + w 0 * e 0 + w 1 * e 1 + w 2 * e 2 + w 3 * e 3) * sg (cb + w 0 * e 0 + w 1 * e 1 + w 2 * e 2 + w 3 * e 3)

section chunk
variable (dt : Fin 64 → Fin 6 → EReal) (A : Fin 6 → EReal) (xs : Fin 64 → Fin 384 → EReal)
  (bm cm : Fin 64 → Fin 2 → Fin 128 → EReal) (st : Fin 384 → Fin 128 → EReal)

/-- The decay exponents of a chunk summed up to step `t`. -/
def cum (t : Fin 64) (h : Fin 6) : EReal := ∑ u : Fin 64, if u.val ≤ t.val then dt u h * A h else 0

def decay (t s : Fin 64) (h : Fin 6) : EReal := if s.val ≤ t.val then Ideal.exp (cum dt A t h - cum dt A s h) else 0

def score (t s : Fin 64) (h : Fin 6) : EReal := (∑ n : Fin 128, cm t (gp h) n * bm s (gp h) n) * decay dt A t s h

/-- A chunk's rows before the skip and the gate: the steps of the chunk itself, then the state carried in. -/
def yRow (t : Fin 64) (l : Fin 384) : EReal :=
  (∑ s : Fin 64, score dt A bm cm t s (hd l) * (xs s l * dt s (hd l)))
    + (∑ n : Fin 128, cm t (gp (hd l)) n * st l n) * Ideal.exp (cum dt A t (hd l))

/-- The state a chunk carries out. -/
def next (l : Fin 384) (n : Fin 128) : EReal :=
  st l n * Ideal.exp (cum dt A 63 (hd l))
    + ∑ s : Fin 64, (Ideal.exp (cum dt A 63 (hd l) - cum dt A s (hd l)) * dt s (hd l) * xs s l) * bm s (gp (hd l)) n

end chunk

/-- A row with its skip added, gated and normalised over its group. -/
def gated (y x z : Fin 384 → EReal) (dsk : Fin 6 → EReal) (l : Fin 384) : EReal :=
  (y l + dsk (hd l) * x l) * (z l * sg (z l))

def normed (w nw : Fin 384 → EReal) (l : Fin 384) : EReal :=
  w l * Ideal.rsqrt ((∑ q : Fin 192, w (glane (gp (hd l)) q) * w (glane (gp (hd l)) q)) * ((192⁻¹ : ℝ) : EReal)
    + Ideal.ofBits FTy.f32 0x358637BD#32) * nw l

/-! ### Sums over the lanes -/

theorem lane_hd_ps (l : Fin 384) : lane (hd l) (ps l) = l := by
  apply Fin.ext; simp only [lane, hd, ps]; omega

theorem hd_lane (h : Fin 6) (p : Fin 64) : hd (lane h p) = h := by
  apply Fin.ext; simp only [lane, hd]; omega

theorem ps_lane (h : Fin 6) (p : Fin 64) : ps (lane h p) = p := by
  apply Fin.ext; simp only [lane, ps]; omega

theorem sum_lanes (F : Fin 384 → EReal) : ∑ k, F k = ∑ h : Fin 6, ∑ s : Fin 64, F (lane h s) :=
  Fin.sum_univ_tiles 6 64 rfl F

theorem sum_one_head (l : Fin 384) (F : Fin 384 → EReal) (hF : ∀ k, hd k ≠ hd l → F k = 0) :
    ∑ k, F k = ∑ s : Fin 64, F (lane (hd l) s) := by
  rw [sum_lanes]
  refine Finset.sum_eq_single (hd l) (fun h _ hne => ?_) (fun h => absurd (Finset.mem_univ _) h)
  exact Finset.sum_eq_zero fun s _ => hF _ (by rw [hd_lane]; exact hne)

theorem sum_one_group (g : Fin 2) (F : Fin 384 → EReal) (hF : ∀ k, gp (hd k) ≠ g → F k = 0) :
    ∑ k, F k = ∑ q : Fin 192, F (glane g q) := by
  have h2 : ∑ k, F k = ∑ g' : Fin 2, ∑ q : Fin 192, F (glane g' q) := Fin.sum_univ_tiles 2 192 rfl F
  rw [h2]
  refine Finset.sum_eq_single g (fun h _ hne => ?_) (fun h => absurd (Finset.mem_univ _) h)
  refine Finset.sum_eq_zero fun q _ => hF _ ?_
  have : gp (hd (glane h q)) = h := by apply Fin.ext; simp only [glane, hd, gp]; omega
  rw [this]; exact hne

theorem sum_one_half (g : Fin 2) (F : Fin 256 → EReal) (hF : ∀ k : Fin 256, k.val / 128 ≠ g.val → F k = 0) :
    ∑ k, F k = ∑ n : Fin 128, F ⟨g.val * 128 + n.val, by omega⟩ := by
  have h2 : ∑ k, F k = ∑ g' : Fin 2, ∑ n : Fin 128, F ⟨g'.val * 128 + n.val, by omega⟩ := Fin.sum_univ_tiles 2 128 rfl F
  rw [h2]
  refine Finset.sum_eq_single g (fun h _ hne => ?_) (fun h => absurd (Finset.mem_univ _) h)
  refine Finset.sum_eq_zero fun q _ => hF _ ?_
  intro hc; apply hne; apply Fin.ext; simp only at hc; omega

/-! ### Steps and decays that are finite -/

theorem coe_max' (a b : ℝ) : ((max a b : ℝ) : EReal) = max (a : EReal) (b : EReal) :=
  EReal.coe_strictMono.monotone.map_max

theorem exp_nonneg (x : EReal) : 0 ≤ Ideal.exp x := by
  induction x with
  | bot => simp
  | top => simp
  | coe r => rw [Ideal.exp_coe]; exact_mod_cast (Real.exp_pos r).le

theorem sp_real {x : EReal} (h : x < ⊤) : ∃ r : ℝ, sp x = r := by
  induction x with
  | top => exact absurd h (lt_irrefl _)
  | bot =>
    refine ⟨0, ?_⟩
    have h1 : max (⊥ : EReal) (-⊥) = ⊤ := by simp
    have h2 : (0 : EReal) - ⊤ = ⊥ := by simp
    have h3 : (1 : EReal) = ((1 : ℝ) : EReal) := rfl
    rw [sp, h1, h2, Ideal.exp_bot, add_zero, h3, Ideal.log_coe]
    simp
  | coe r =>
    have h1 : (0 : EReal) - max (r : EReal) (-(r : EReal)) = ((0 - max r (-r) : ℝ) : EReal) := by
      rw [EReal.coe_sub, coe_max', EReal.coe_neg, EReal.coe_zero]
    have h2 : (1 : EReal) + ((Real.exp (0 - max r (-r)) : ℝ) : EReal) = ((1 + Real.exp (0 - max r (-r)) : ℝ) : EReal) := by
      rw [EReal.coe_add, EReal.coe_one]
    have h3 : ¬ (1 + Real.exp (0 - max r (-r)) ≤ 0) := by
      have := Real.exp_pos (0 - max r (-r)); linarith
    refine ⟨max r 0 + Real.log (1 + Real.exp (0 - max r (-r))), ?_⟩
    rw [sp, h1, Ideal.exp_coe, h2, Ideal.log_coe, if_neg h3, EReal.coe_add, coe_max', EReal.coe_zero]

theorem rate_real {x : EReal} (h : x < ⊤) : ∃ r : ℝ, (0 : EReal) - Ideal.exp x = r := by
  induction x with
  | top => exact absurd h (lt_irrefl _)
  | bot => exact ⟨0, by simp⟩
  | coe r => exact ⟨0 - Real.exp r, by rw [Ideal.exp_coe, EReal.coe_sub, EReal.coe_zero]⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With finite exponents, the exponents after step `s` and up to step `t` sum to a difference of two running sums. -/
theorem seg_eq (a : Fin 64 → EReal) (ha : ∀ u, ∃ r : ℝ, a u = r) (s t : Fin 64) (h : s.val ≤ t.val) :
    (∑ u : Fin 64, if u.val ≤ t.val then (if s.val < u.val then a u else 0) else 0)
      = (∑ u : Fin 64, if u.val ≤ t.val then a u else 0) - ∑ u : Fin 64, if u.val ≤ s.val then a u else 0 := by
  choose r hr using ha
  have e1 : ∀ u : Fin 64, (if u.val ≤ t.val then (if s.val < u.val then a u else 0) else 0) = ((if u.val ≤ t.val then (if s.val < u.val then r u else 0) else 0 : ℝ) : EReal) := by
    intro u; split_ifs <;> simp [hr]
  have e2 : ∀ (v u : Fin 64), (if u.val ≤ v.val then a u else 0) = ((if u.val ≤ v.val then r u else 0 : ℝ) : EReal) := by
    intro v u; split_ifs <;> simp [hr]
  simp only [e1, e2]
  rw [← coe_sum, ← coe_sum, ← coe_sum, ← EReal.coe_sub, ← Finset.sum_sub_distrib]
  congr 1
  refine Finset.sum_congr rfl fun u _ => ?_
  split_ifs <;> first | omega | simp

end Cert.Scan
-- ==== Proof.ChunkOps.lean ====
module

public import proofs.«01_k».proof.Proof.Masks
public import Idealize.ShloMosaic.Lib.Pipeline.ValueKit
public import Idealize.ShloMosaic.Lib.Pipeline.ReadBack
public import proofs.«01_k».proof.Proof.Chunk
public import proofs.«01_k».proof.Proof.Model
public import Idealize.ShloMosaic.Lib.Pointwise
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)
namespace Cert.KernelIdeal.Ssd
open Cert.KernelIdeal Cert.KernelIdeal.Gen

open Cert.Scan

/-- The keys of a chunk stacked head by head, each head's rows zero outside its group's columns. -/
def bstk (v126 : FVec Ideal S64x128 .f32) (v178 : FVec Ideal S64x256 .f32) : FVec Ideal S384x256 .f32 :=
  have v202 := extractStridedSlice S64x128 ![0, 0] v178 slices_S64x256_o0_0_S64x128
  have v203 := concatenate S64x256 1 [⟨S64x128, v202⟩, ⟨S64x128, v126⟩] concatenates_S64x128_S64x128_S64x256_d1
  have v204 := extractStridedSlice S64x128 ![0, 128] v178 slices_S64x256_o0_128_S64x128
  have v205 := concatenate S64x256 1 [⟨S64x128, v126⟩, ⟨S64x128, v204⟩] concatenates_S64x128_S64x128_S64x256_d1
  concatenate S384x256 0 [⟨S64x256, v203⟩, ⟨S64x256, v203⟩, ⟨S64x256, v203⟩, ⟨S64x256, v205⟩, ⟨S64x256, v205⟩, ⟨S64x256, v205⟩] concatenates_S64x256_S64x256_S64x256_S64x256_S64x256_S64x256_S384x256_d0

/-- The scaled values stacked head by head, each head's rows zero outside its own lanes. -/
def xbd (v80 v89 v98 v107 v116 v125 : FVec Ideal S1x384 .f32) (v211 : FVec Ideal S64x384 .f32) : FVec Ideal S384x384 .f32 :=
  concatenate S384x384 0 [⟨S64x384, mulf v211 (broadcastTo S64x384 v80 broadcasts_S1x384_S64x384)⟩, ⟨S64x384, mulf v211 (broadcastTo S64x384 v89 broadcasts_S1x384_S64x384)⟩, ⟨S64x384, mulf v211 (broadcastTo S64x384 v98 broadcasts_S1x384_S64x384)⟩, ⟨S64x384, mulf v211 (broadcastTo S64x384 v107 broadcasts_S1x384_S64x384)⟩, ⟨S64x384, mulf v211 (broadcastTo S64x384 v116 broadcasts_S1x384_S64x384)⟩, ⟨S64x384, mulf v211 (broadcastTo S64x384 v125 broadcasts_S1x384_S64x384)⟩] concatenates_S64x384_S64x384_S64x384_S64x384_S64x384_S64x384_S384x384_d0

section
variable (v80 v89 v98 v107 v116 v125 : FVec Ideal S1x384 .f32) (v126 : FVec Ideal S64x128 .f32) (v177 : FVec Ideal S64x384 .f32) (v178 : FVec Ideal S64x256 .f32) (v179 : FVec Ideal S64x256 .f32) (v191 : FVec Ideal S64x384 .f32) (v198 : FVec Ideal S64x384 .f32) (v201 : FVec Ideal S64x384 .f32) (v211 : FVec Ideal S64x384 .f32) (S : Vec Ideal S256x384 .f32)

theorem pay38_eq : k0_pay38 v80 v89 v98 v107 v116 v125 v126 v177 v178 v179 v191 v198 v201 S
    = addf (matmul dot_S64x384_S384x384_S64x384_1_0_0_1_n_n none (truncf .bf16 (mulf (matmul dot_S64x256_S384x256_S64x384_1_1_0_0_n_n none (truncf .bf16 v179 bitsLt_bf16_f32) (truncf .bf16 (bstk v126 v178) bitsLt_bf16_f32) (constant S64x384 .f32 0x00000000#32)) v201) bitsLt_bf16_f32) (truncf .bf16 (xbd v80 v89 v98 v107 v116 v125 (mulf v177 v191)) bitsLt_bf16_f32) (constant S64x384 .f32 0x00000000#32))
      (mulf (matmul dot_S64x256_S256x384_S64x384_1_0_0_1_n_n none (truncf .bf16 v179 bitsLt_bf16_f32) (truncf .bf16 S bitsLt_bf16_f32) (constant S64x384 .f32 0x00000000#32)) (exp v198)) := rfl

theorem pay38_apply (t : Fin 64) (l : Fin 384) : k0_pay38 v80 v89 v98 v107 v116 v125 v126 v177 v178 v179 v191 v198 v201 S (ix2 t l)
    = (∑ k : Fin 384, ((∑ n : Fin 256, v179 (ix2 t n) * bstk v126 v178 (ix2 k n)) * v201 (ix2 t k)) * xbd v80 v89 v98 v107 v116 v125 (mulf v177 v191) (ix2 k l))
      + (∑ n : Fin 256, v179 (ix2 t n) * S (ix2 n l)) * Ideal.exp (v198 (ix2 t l)) := by
  rw [pay38_eq]
  pointwise

theorem bstk_apply (h0 : ∀ t n, v126 (ix2 t n) = 0) (k : Fin 384) (n : Fin 256) :
    bstk v126 v178 (ix2 k n) = if (k.val < 192 ↔ n.val < 128) then v178 (ix2 (ps k) n) else 0 := by
  have e : ∀ (a b : Fin 64) (c d : Fin 256), a = b → c = d → v178 (ix2 a c) = v178 (ix2 b d) := by
    intro a b c d h h'; rw [h, h']
  have hR1 : (k.val < 192 ↔ n.val < 128) → v178 (ix2 (ps k) n) = if (k.val < 192 ↔ n.val < 128) then v178 (ix2 (ps k) n) else 0 := fun h => (if_pos h).symm
  have hR2 : ¬ (k.val < 192 ↔ n.val < 128) → (0 : EReal) = if (k.val < 192 ↔ n.val < 128) then v178 (ix2 (ps k) n) else 0 := fun h => (if_neg h).symm
  pointwise [bstk]
  simp only [h0]
  by_cases c : n.val < 128
  · simp only [dif_pos c]
    split
    · refine (e _ _ _ _ (Fin.ext ?_) (Fin.ext ?_)).trans (hR1 ?_) <;> (try simp only [ps]) <;> omega
    split
    · refine (e _ _ _ _ (Fin.ext ?_) (Fin.ext ?_)).trans (hR1 ?_) <;> (try simp only [ps]) <;> omega
    split
    · refine (e _ _ _ _ (Fin.ext ?_) (Fin.ext ?_)).trans (hR1 ?_) <;> (try simp only [ps]) <;> omega
    split
    · exact hR2 (by omega)
    split
    · exact hR2 (by omega)
    · exact hR2 (by omega)
  · simp only [dif_neg c]
    split
    · exact hR2 (by omega)
    split
    · exact hR2 (by omega)
    split
    · exact hR2 (by omega)
    split
    · refine (e _ _ _ _ (Fin.ext ?_) (Fin.ext ?_)).trans (hR1 ?_) <;> (try simp only [ps]) <;> omega
    split
    · refine (e _ _ _ _ (Fin.ext ?_) (Fin.ext ?_)).trans (hR1 ?_) <;> (try simp only [ps]) <;> omega
    · refine (e _ _ _ _ (Fin.ext ?_) (Fin.ext ?_)).trans (hR1 ?_) <;> (try simp only [ps]) <;> omega

theorem xbd_apply (m0 : ∀ l, v80 (ix2 0 l) = if l.val / 64 = 0 then 1 else 0) (m1 : ∀ l, v89 (ix2 0 l) = if l.val / 64 = 1 then 1 else 0)
    (m2 : ∀ l, v98 (ix2 0 l) = if l.val / 64 = 2 then 1 else 0) (m3 : ∀ l, v107 (ix2 0 l) = if l.val / 64 = 3 then 1 else 0)
    (m4 : ∀ l, v116 (ix2 0 l) = if l.val / 64 = 4 then 1 else 0) (m5 : ∀ l, v125 (ix2 0 l) = if l.val / 64 = 5 then 1 else 0) (k l : Fin 384) :
    xbd v80 v89 v98 v107 v116 v125 v211 (ix2 k l) = if k.val / 64 = l.val / 64 then v211 (ix2 (ps k) l) else 0 := by
  have e : ∀ (a : Fin 64) (h : ℕ) (m : EReal), m = (if l.val / 64 = h then 1 else 0) → a = ps k → k.val / 64 = h → v211 (ix2 a l) * m = if k.val / 64 = l.val / 64 then v211 (ix2 (ps k) l) else 0 := by
    rintro a h m rfl rfl h'
    by_cases c : l.val / 64 = h
    · rw [if_pos c, if_pos (by omega), mul_one]
    · rw [if_neg c, if_neg (by omega), mul_zero]
  pointwise [xbd]
  split
  · exact e _ 0 _ (m0 l) (Fin.ext (by simp only [ps]; omega)) (by omega)
  split
  · exact e _ 1 _ (m1 l) (Fin.ext (by simp only [ps]; omega)) (by omega)
  split
  · exact e _ 2 _ (m2 l) (Fin.ext (by simp only [ps]; omega)) (by omega)
  split
  · exact e _ 3 _ (m3 l) (Fin.ext (by simp only [ps]; omega)) (by omega)
  split
  · exact e _ 4 _ (m4 l) (Fin.ext (by simp only [ps]; omega)) (by omega)
  · exact e _ 5 _ (m5 l) (Fin.ext (by simp only [ps]; omega)) (by omega)
end
end Cert.KernelIdeal.Ssd
-- ==== Proof.ChunkVal.lean ====
module

public import proofs.«01_k».proof.Proof.ChunkOps
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)
namespace Cert.KernelIdeal.Ssd
open Cert.KernelIdeal Cert.KernelIdeal.Gen
open Cert.Scan

/-- The state of 384 lanes laid out over both groups' rows, zero off a lane's own group. -/
def pack (st : Fin 384 → Fin 128 → EReal) : Vec Ideal S256x384 .f32 :=
  fun i => if (128 ≤ (i 0).val ↔ 192 ≤ (i 1).val) then st (i 1) ⟨(i 0).val % 128, Nat.mod_lt _ (by decide)⟩ else 0

theorem pack_apply (st : Fin 384 → Fin 128 → EReal) (n : Fin 256) (l : Fin 384) :
    pack st (ix2 n l) = if (128 ≤ n.val ↔ 192 ≤ l.val) then st l ⟨n.val % 128, Nat.mod_lt _ (by decide)⟩ else 0 := rfl

/-- A chunk's activated columns: the values, the keys and the queries of the scan. -/
def xsOf (X : Vec Ideal S64x896 .f32) (t : Fin 64) (l : Fin 384) : EReal := X (ix2 t ⟨l.val, by omega⟩)
def bmOf (X : Vec Ideal S64x896 .f32) (t : Fin 64) (g : Fin 2) (n : Fin 128) : EReal := X (ix2 t ⟨384 + (g.val * 128 + n.val), by omega⟩)
def cmOf (X : Vec Ideal S64x896 .f32) (t : Fin 64) (g : Fin 2) (n : Fin 128) : EReal := X (ix2 t ⟨640 + (g.val * 128 + n.val), by omega⟩)

section
variable {x3 x4 x5 x6 : Vec Ideal S1x384 .f32} {Z D : Vec Ideal S1x64x384 .f32} {X : Vec Ideal S64x896 .f32}
  {d : Fin 64 → Fin 6 → EReal} {bias alog dsk : Fin 6 → EReal} {dt : Fin 64 → Fin 6 → EReal} {A : Fin 6 → EReal}

theorem pay34_apply (hx3 : ∀ l, x3 (ix2 0 l) = bias (hd l)) (hD : ∀ t l, D (ix3 0 t l) = d t (hd l)) (hdt : ∀ t h, dt t h = sp (d t h + bias h))
    (t : Fin 64) (l : Fin 384) : k0_pay34 (k0_pay9 x3) D (ix2 t l) = dt t (hd l) := by
  pointwise [k0_pay34, k0_pay9]
  rw [hdt, hx3, hD]; rfl

theorem pay10_apply (hx4 : ∀ l, x4 (ix2 0 l) = alog (hd l)) (hA : ∀ h, A h = 0 - Ideal.exp (alog h)) (l : Fin 384) :
    k0_pay10 x4 (ix2 0 l) = A (hd l) := by
  pointwise [k0_pay10]
  rw [hA, hx4]

theorem pay36_apply (hx3 : ∀ l, x3 (ix2 0 l) = bias (hd l)) (hD : ∀ t l, D (ix3 0 t l) = d t (hd l)) (hdt : ∀ t h, dt t h = sp (d t h + bias h))
    (hx4 : ∀ l, x4 (ix2 0 l) = alog (hd l)) (hA : ∀ h, A h = 0 - Ideal.exp (alog h)) (t : Fin 64) (l : Fin 384) :
    k0_pay36 (k0_pay9 x3) (k0_pay10 x4) k0_pay13 k0_pay15 D (ix2 t l) = cum dt A t (hd l) := by
  have h10 := pay10_apply hx4 hA l
  pointwise [k0_pay36, k0_pay35]
  rw [h10]
  refine Finset.sum_congr rfl fun u _ => ?_
  rw [pay13_apply, pay34_apply hx3 hD hdt, ite_mul, one_mul, zero_mul]

theorem pay37_apply (hx3 : ∀ l, x3 (ix2 0 l) = bias (hd l)) (hD : ∀ t l, D (ix3 0 t l) = d t (hd l)) (hdt : ∀ t h, dt t h = sp (d t h + bias h))
    (hx4 : ∀ l, x4 (ix2 0 l) = alog (hd l)) (hA : ∀ h, A h = 0 - Ideal.exp (alog h)) (hfin : ∀ t h, ∃ r : ℝ, dt t h * A h = r) (t : Fin 64) (l : Fin 384) :
    k0_pay37 (k0_pay9 x3) (k0_pay10 x4) k0_pay13 k0_pay15 k0_pay16 D (ix2 t l) = decay dt A t (ps l) (hd l) := by
  have h10 := pay10_apply hx4 hA l
  have hm := IdealRules.named_const.ideal_named_scalar (φ := .f32) κ "mask" 0xF149F2CA#32 ⊥ rfl
  pointwise [k0_pay37, k0_pay35]
  rw [h10]
  unfold decay
  by_cases c : (ps l).val ≤ t.val
  · rw [if_pos c, show k0_pay16 (ix2 t l) = 1#1 from (pay16_apply t l).2 c]
    rw [show ∀ a b : EReal, Scalar.select 1#1 a b = a from fun _ _ => if_pos rfl]
    congr 1
    unfold cum
    rw [← seg_eq (fun u => dt u (hd l) * A (hd l)) (fun u => hfin u _) (ps l) t c]
    refine Finset.sum_congr rfl fun u _ => ?_
    rw [pay13_apply, pay34_apply hx3 hD hdt, pay15_apply, ite_mul, one_mul, zero_mul, mul_ite, mul_one, mul_zero]
    rfl
  · rw [if_neg c]
    have h16 : k0_pay16 (ix2 t l) ≠ 1#1 := fun h => c ((pay16_apply t l).1 h)
    rw [show ∀ a b : EReal, Scalar.select (k0_pay16 (ix2 t l)) a b = b from fun _ _ => if_neg h16, hm, Ideal.exp_bot]

/-- One chunk takes the packed state to the packed next state. -/
theorem chunkSt_model (hx3 : ∀ l, x3 (ix2 0 l) = bias (hd l)) (hD : ∀ t l, D (ix3 0 t l) = d t (hd l)) (hdt : ∀ t h, dt t h = sp (d t h + bias h))
    (hx4 : ∀ l, x4 (ix2 0 l) = alog (hd l)) (hA : ∀ h, A h = 0 - Ideal.exp (alog h)) (st : Fin 384 → Fin 128 → EReal) :
    chunkSt x3 x4 X D (pack st) = pack (next dt A (xsOf X) (bmOf X) st) := by
  suffices h : ∀ n l, chunkSt x3 x4 X D (pack st) (ix2 n l) = pack (next dt A (xsOf X) (bmOf X) st) (ix2 n l) by
    funext i; rw [← ix2_eta i]; exact h _ _
  intro n l
  have h36 := fun t => pay36_apply (A := A) hx3 hD hdt hx4 hA t l
  have h34 := fun t => pay34_apply hx3 hD hdt t l
  pointwise [chunkSt, k0_pay39, k0_pay31, k0_pay32]
  simp only [h36, h34, pay25_apply, pack_apply]
  by_cases c : (128 ≤ n.val ↔ 192 ≤ l.val)
  · simp only [if_pos c, mul_one]
    unfold next
    congr 1
    refine Finset.sum_congr rfl fun s _ => ?_
    rw [mul_comm]
    congr 1
    unfold bmOf
    congr 2
    apply Fin.ext
    simp only [gp, hd]
    omega
  · simp only [if_neg c, mul_zero, zero_mul, add_zero]

/-- The rows a chunk writes. -/
theorem chunkY_model (hx3 : ∀ l, x3 (ix2 0 l) = bias (hd l)) (hD : ∀ t l, D (ix3 0 t l) = d t (hd l)) (hdt : ∀ t h, dt t h = sp (d t h + bias h))
    (hx4 : ∀ l, x4 (ix2 0 l) = alog (hd l)) (hA : ∀ h, A h = 0 - Ideal.exp (alog h)) (hx5 : ∀ l, x5 (ix2 0 l) = dsk (hd l))
    (hfin : ∀ t h, ∃ r : ℝ, dt t h * A h = r) (st : Fin 384 → Fin 128 → EReal) (t : Fin 64) (l : Fin 384) :
    chunkY x3 x4 x5 x6 Z D X (pack st) (ix3 0 t l)
      = normed (gated (yRow dt A (xsOf X) (bmOf X) (cmOf X) st t) (xsOf X t) (fun l => Z (ix3 0 t l)) dsk) (fun l => x6 (ix2 0 l)) l := by
  have h36 := fun t => pay36_apply (A := A) hx3 hD hdt hx4 hA t
  have h34 := fun t => pay34_apply hx3 hD hdt t
  have h37 := fun t => pay37_apply (A := A) hx3 hD hdt hx4 hA hfin t
  have hg := IdealRules.named_const.ideal_named_scalar (φ := .f32) κ "g" 0x3BAAAAAB#32 ((192⁻¹ : ℝ) : EReal) rfl
  have hy : ∀ l, k0_pay38 (k0_pay17 (iota Kind.tc S1x384 32 [1] iota_S1x384_d1_w32) 0#32) k0_pay18 k0_pay19 k0_pay20 (k0_pay22 k0_pay21 (FloatOps.ofBits FTy.f32 1065353216#32) (FloatOps.ofBits FTy.f32 0#32)) k0_pay23 k0_pay24 (k0_pay31 X) (k0_pay32 X) (k0_pay33 X) (k0_pay34 (k0_pay9 x3) D) (k0_pay36 (k0_pay9 x3) (k0_pay10 x4) k0_pay13 k0_pay15 D) (k0_pay37 (k0_pay9 x3) (k0_pay10 x4) k0_pay13 k0_pay15 k0_pay16 D) (pack st) (ix2 t l)
      = yRow dt A (xsOf X) (bmOf X) (cmOf X) st t l := by
    intro l
    have h31 : ∀ (s : Fin 64) (l : Fin 384), k0_pay31 X (ix2 s l) = xsOf X s l := by
      intro s l; pointwise [k0_pay31]; rfl
    have h32 : ∀ (s : Fin 64) (n : Fin 256), k0_pay32 X (ix2 s n) = X (ix2 s ⟨384 + n.val, by omega⟩) := by
      intro s l; pointwise [k0_pay32]
    have h33 : ∀ (s : Fin 64) (n : Fin 256), k0_pay33 X (ix2 s n) = X (ix2 s ⟨640 + n.val, by omega⟩) := by
      intro s l; pointwise [k0_pay33]
    rw [pay38_apply, h36]
    unfold yRow
    congr 1
    · rw [sum_one_head l]
      · refine Finset.sum_congr rfl fun s _ => ?_
        rw [xbd_apply _ _ _ _ _ _ _ pay17_apply pay18_apply pay19_apply pay20_apply pay22_apply pay23_apply, h37]
        have c : (lane (hd l) s).val / 64 = l.val / 64 := congrArg Fin.val (hd_lane (hd l) s)
        rw [if_pos c, ps_lane, hd_lane]
        congr 1
        · unfold score
          congr 1
          rw [sum_one_half (gp (hd l))]
          · refine Finset.sum_congr rfl fun n _ => ?_
            rw [bstk_apply _ _ pay24_apply, if_pos (by simp only [lane, hd, gp]; omega), h33, h32, ps_lane]
            rfl
          · intro k hk
            rw [bstk_apply _ _ pay24_apply, if_neg (by simp only [lane, hd, gp] at hk ⊢; omega), mul_zero]
        · show k0_pay31 X (ix2 s l) * k0_pay34 (k0_pay9 x3) D (ix2 s l) = _
          rw [h31, h34]
      · intro k hk
        rw [xbd_apply _ _ _ _ _ _ _ pay17_apply pay18_apply pay19_apply pay20_apply pay22_apply pay23_apply, if_neg, mul_zero]
        intro c; exact hk (Fin.ext c)
    · congr 1
      rw [sum_one_half (gp (hd l))]
      · refine Finset.sum_congr rfl fun n _ => ?_
        rw [pack_apply, h33, if_pos (by simp only [hd, gp]; omega)]
        show _ = cmOf X t (gp (hd l)) n * st l n
        congr 2
        apply Fin.ext; simp only; omega
      · intro k hk
        rw [pack_apply, if_neg (by simp only [hd, gp] at hk ⊢; omega), mul_zero]
  have h31 : ∀ (s : Fin 64) (l : Fin 384), k0_pay31 X (ix2 s l) = xsOf X s l := by
    intro s l; pointwise [k0_pay31]; rfl
  pointwise [chunkY, k0_pay41, k0_pay12, k0_pay30, k0_pay40, k0_pay11] at ⊢ hy
  have hw : ∀ l, (yRow dt A (xsOf X) (bmOf X) (cmOf X) st t l + x5 (ix2 0 l) * xsOf X t l) * (Z (ix3 0 t l) * Ideal.div 1 (1 + Ideal.exp (0 - Z (ix3 0 t l))))
      = gated (yRow dt A (xsOf X) (bmOf X) (cmOf X) st t) (xsOf X t) (fun l => Z (ix3 0 t l)) dsk l := by
    intro l; rw [hx5]; rfl
  simp only [hy, h31, hw]
  unfold normed
  rw [hg]
  have hs : ∑ k : Fin 384, gated (yRow dt A (xsOf X) (bmOf X) (cmOf X) st t) (xsOf X t) (fun l => Z (ix3 0 t l)) dsk k * gated (yRow dt A (xsOf X) (bmOf X) (cmOf X) st t) (xsOf X t) (fun l => Z (ix3 0 t l)) dsk k
        * (k0_pay29 (iota Kind.tc S384x384 32 [1] iota_S384x384_d1_w32) k0_pay26 k0_pay27 k0_pay28 : FVec Ideal S384x384 .bf16) (ix2 k l)
      = ∑ q : Fin 192, gated (yRow dt A (xsOf X) (bmOf X) (cmOf X) st t) (xsOf X t) (fun l => Z (ix3 0 t l)) dsk (glane (gp (hd l)) q) * gated (yRow dt A (xsOf X) (bmOf X) (cmOf X) st t) (xsOf X t) (fun l => Z (ix3 0 t l)) dsk (glane (gp (hd l)) q) := by
    rw [sum_one_group (gp (hd l))]
    · refine Finset.sum_congr rfl fun q _ => ?_
      rw [pay29_apply, if_pos (by simp only [glane, gp, hd]; omega), mul_one]
    · intro k hk
      rw [pay29_apply, if_neg, mul_zero]
      intro c; apply hk; apply Fin.ext; simp only [gp, hd]; omega
  rw [hs]

end
end Cert.KernelIdeal.Ssd
-- ==== Proof.Body.lean ====
module

public import proofs.«01_k».proof.Proof.Gen.KernelIdeal.Value
public import proofs.«01_k».proof.Proof.ChunkVal
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)
namespace Cert.KernelIdeal.Ssd
open Cert.KernelIdeal Cert.KernelIdeal.Gen Cert.Scan

/-! ### One block: the raw rows with the eight before them, the activated rows, eight chunks -/

/-- The 64 rows of chunk `c`, out of a block of 512. -/
def Xc (XC : Vec Ideal S512x896 .f32) (c : ℕ) : Vec Ideal S64x896 .f32 :=
  fun i => XC (ix2 ⟨(64 * c + (i 0).val) % 512, Nat.mod_lt _ (by decide)⟩ (i 1))
def Dc (x0 : Vec Ideal S1x512x1664 .f32) (c : ℕ) : Vec Ideal S1x64x384 .f32 :=
  fun i => x0 (ix3 0 ⟨(64 * c + (i 1).val) % 512, Nat.mod_lt _ (by decide)⟩ ⟨1280 + (i 2).val, by have : (i 2).val < 384 := (i 2).isLt; omega⟩)
def Zc (x0 : Vec Ideal S1x512x1664 .f32) (c : ℕ) : Vec Ideal S1x64x384 .f32 :=
  fun i => x0 (ix3 0 ⟨(64 * c + (i 1).val) % 512, Nat.mod_lt _ (by decide)⟩ ⟨(i 2).val, by have : (i 2).val < 384 := (i 2).isLt; omega⟩)

theorem ld_X {XC : Vec Ideal S512x896 .f32} (o c : ℕ) (ho : o = 64 * c) (hc : c < 8) (h : ∀ a, (![o, 0] : Fin 2 → ℕ) a + (![64, 896] : Fin 2 → ℕ) a ≤ S512x896.size a) :
    View.ld XC (Rect.unit (s := S512x896) ![o, 0] ![64, 896] h) = Xc XC c := by
  funext i
  have hi : (i 0).val < 64 := (i 0).isLt
  refine View.ld_unit_apply_of _ _ _ _ _ _ fun a => ?_
  match a with
  | ⟨0, _⟩ => show (64 * c + (i 0).val) % 512 = o + (i 0).val; omega
  | ⟨1, _⟩ => show (i 1).val = 0 + (i 1).val; omega
theorem ld_D {x0 : Vec Ideal S1x512x1664 .f32} (o c : ℕ) (ho : o = 64 * c) (hc : c < 8) (h : ∀ a, (![0, o, 1280] : Fin 3 → ℕ) a + (![1, 64, 384] : Fin 3 → ℕ) a ≤ S1x512x1664.size a) :
    View.ld x0 (Rect.unit (s := S1x512x1664) ![0, o, 1280] ![1, 64, 384] h) = Dc x0 c := by
  funext i
  have h0 : (i 0).val < 1 := (i 0).isLt
  have hi : (i 1).val < 64 := (i 1).isLt
  refine View.ld_unit_apply_of _ _ _ _ _ _ fun a => ?_
  match a with
  | ⟨0, _⟩ => show 0 = 0 + (i 0).val; omega
  | ⟨1, _⟩ => show (64 * c + (i 1).val) % 512 = o + (i 1).val; omega
  | ⟨2, _⟩ => rfl
theorem ld_Z {x0 : Vec Ideal S1x512x1664 .f32} (o c : ℕ) (ho : o = 64 * c) (hc : c < 8) (h : ∀ a, (![0, o, 0] : Fin 3 → ℕ) a + (![1, 64, 384] : Fin 3 → ℕ) a ≤ S1x512x1664.size a) :
    View.ld x0 (Rect.unit (s := S1x512x1664) ![0, o, 0] ![1, 64, 384] h) = Zc x0 c := by
  funext i
  have h0 : (i 0).val < 1 := (i 0).isLt
  have hi : (i 1).val < 64 := (i 1).isLt
  refine View.ld_unit_apply_of _ _ _ _ _ _ fun a => ?_
  match a with
  | ⟨0, _⟩ => show 0 = 0 + (i 0).val; omega
  | ⟨1, _⟩ => show (64 * c + (i 1).val) % 512 = o + (i 1).val; omega
  | ⟨2, _⟩ => show (i 2).val = 0 + (i 2).val; omega

/-- The state after `c` chunks of a block. -/
def foldS (x3 x4 : Vec Ideal S1x384 .f32) (XC : Vec Ideal S512x896 .f32) (x0 : Vec Ideal S1x512x1664 .f32) (S : Vec Ideal S256x384 .f32) : ℕ → Vec Ideal S256x384 .f32
  | 0 => S
  | c + 1 => chunkSt x3 x4 (Xc XC c) (Dc x0 c) (foldS x3 x4 XC x0 S c)

def outV (x3 x4 x5 x6 : Vec Ideal S1x384 .f32) (XC : Vec Ideal S512x896 .f32) (x0 : Vec Ideal S1x512x1664 .f32) (S : Vec Ideal S256x384 .f32) (r : Fin 512) (l : Fin 384) : EReal :=
  chunkY x3 x4 x5 x6 (Zc x0 (r.val / 64)) (Dc x0 (r.val / 64)) (Xc XC (r.val / 64)) (foldS x3 x4 XC x0 S (r.val / 64)) (ix3 0 ⟨r.val % 64, Nat.mod_lt _ (by decide)⟩ l)

/-- The block's raw rows under the eight kept from the block before. -/
def extV (h : Vec Ideal S8x896 .f32) (x0 : Vec Ideal S1x512x1664 .f32) : Vec Ideal S520x896 .f32 :=
  View.canon [⟨Rect.unit (s := S520x896) ![8, 0] S512x896.size inb_S520x896_S512x896_8_0, k0_pay5 (View.ld x0 (Rect.unit (s := S1x512x1664) ![0, 0, 384] S1x512x896.size inb_S1x512x1664_S1x512x896_0_0_384))⟩,
    ⟨Rect.unit (s := S520x896) ![0, 0] S8x896.size inb_S520x896_S8x896_0_0, h⟩]

def xcV (x1 : Vec Ideal S4x896 .f32) (x2 : Vec Ideal S1x896 .f32) (h : Vec Ideal S8x896 .f32) (x0 : Vec Ideal S1x512x1664 .f32) : Vec Ideal S512x896 .f32 :=
  k0_pay8 (k0_pay6 x1 x2
      (fun j => extV h x0 ((Rect.unit (s := S520x896) ![5, 0] S512x896.size inb_S520x896_S512x896_5_0).toLoadRect.idx j))
      (fun j => extV h x0 ((Rect.unit (s := S520x896) ![6, 0] S512x896.size inb_S520x896_S512x896_6_0).toLoadRect.idx j))
      (fun j => extV h x0 ((Rect.unit (s := S520x896) ![7, 0] S512x896.size inb_S520x896_S512x896_7_0).toLoadRect.idx j)))
    (k0_pay7 x1 (k0_pay5 (View.ld x0 (Rect.unit (s := S1x512x1664) ![0, 0, 384] S1x512x896.size inb_S1x512x1664_S1x512x896_0_0_384))))

/-- The eight rows a block keeps for the next one. -/
def keep (E : Vec Ideal S520x896 .f32) : Vec Ideal S8x896 .f32 :=
  k0_pay4 (View.ld E (Rect.unit (s := S520x896) ![512, 0] S8x896.size inb_S520x896_S8x896_512_0))

theorem fold_0 (x3 x4 x5 x6 : Vec Ideal S1x384 .f32) (XC : Vec Ideal S512x896 .f32) (x0 : Vec Ideal S1x512x1664 .f32) (S : Vec Ideal S256x384 .f32) :
    S
      = foldS x3 x4 XC x0 S 0 := by
  rfl
theorem fold_1 (x3 x4 x5 x6 : Vec Ideal S1x384 .f32) (XC : Vec Ideal S512x896 .f32) (x0 : Vec Ideal S1x512x1664 .f32) (S : Vec Ideal S256x384 .f32) :
    (chunkSt x3 x4 (View.ld XC (Rect.unit (s := S512x896) ![0, 0] ![64, 896] (by decide))) (View.ld x0 (Rect.unit (s := S1x512x1664) ![0, 0, 1280] ![1, 64, 384] (by decide))) S)
      = foldS x3 x4 XC x0 S 1 := by
  rw [ld_X 0 0 rfl (by omega), ld_D 0 0 rfl (by omega)]; rfl
theorem fold_2 (x3 x4 x5 x6 : Vec Ideal S1x384 .f32) (XC : Vec Ideal S512x896 .f32) (x0 : Vec Ideal S1x512x1664 .f32) (S : Vec Ideal S256x384 .f32) :
    (chunkSt x3 x4 (View.ld XC (Rect.unit (s := S512x896) ![64, 0] ![64, 896] (by decide))) (View.ld x0 (Rect.unit (s := S1x512x1664) ![0, 64, 1280] ![1, 64, 384] (by decide))) (chunkSt x3 x4 (View.ld XC (Rect.unit (s := S512x896) ![0, 0] ![64, 896] (by decide))) (View.ld x0 (Rect.unit (s := S1x512x1664) ![0, 0, 1280] ![1, 64, 384] (by decide))) S))
      = foldS x3 x4 XC x0 S 2 := by
  rw [fold_1 x3 x4 x5 x6, ld_X 64 1 rfl (by omega), ld_D 64 1 rfl (by omega)]; rfl
theorem fold_3 (x3 x4 x5 x6 : Vec Ideal S1x384 .f32) (XC : Vec Ideal S512x896 .f32) (x0 : Vec Ideal S1x512x1664 .f32) (S : Vec Ideal S256x384 .f32) :
    (chunkSt x3 x4 (View.ld XC (Rect.unit (s := S512x896) ![128, 0] ![64, 896] (by decide))) (View.ld x0 (Rect.unit (s := S1x512x1664) ![0, 128, 1280] ![1, 64, 384] (by decide))) (chunkSt x3 x4 (View.ld XC (Rect.unit (s := S512x896) ![64, 0] ![64, 896] (by decide))) (View.ld x0 (Rect.unit (s := S1x512x1664) ![0, 64, 1280] ![1, 64, 384] (by decide))) (chunkSt x3 x4 (View.ld XC (Rect.unit (s := S512x896) ![0, 0] ![64, 896] (by decide))) (View.ld x0 (Rect.unit (s := S1x512x1664) ![0, 0, 1280] ![1, 64, 384] (by decide))) S)))
      = foldS x3 x4 XC x0 S 3 := by
  rw [fold_2 x3 x4 x5 x6, ld_X 128 2 rfl (by omega), ld_D 128 2 rfl (by omega)]; rfl
theorem fold_4 (x3 x4 x5 x6 : Vec Ideal S1x384 .f32) (XC : Vec Ideal S512x896 .f32) (x0 : Vec Ideal S1x512x1664 .f32) (S : Vec Ideal S256x384 .f32) :
    (chunkSt x3 x4 (View.ld XC (Rect.unit (s := S512x896) ![192, 0] ![64, 896] (by decide))) (View.ld x0 (Rect.unit (s := S1x512x1664) ![0, 192, 1280] ![1, 64, 384] (by decide))) (chunkSt x3 x4 (View.ld XC (Rect.unit (s := S512x896) ![128, 0] ![64, 896] (by decide))) (View.ld x0 (Rect.unit (s := S1x512x1664) ![0, 128, 1280] ![1, 64, 384] (by decide))) (chunkSt x3 x4 (View.ld XC (Rect.unit (s := S512x896) ![64, 0] ![64, 896] (by decide))) (View.ld x0 (Rect.unit (s := S1x512x1664) ![0, 64, 1280] ![1, 64, 384] (by decide))) (chunkSt x3 x4 (View.ld XC (Rect.unit (s := S512x896) ![0, 0] ![64, 896] (by decide))) (View.ld x0 (Rect.unit (s := S1x512x1664) ![0, 0, 1280] ![1, 64, 384] (by decide))) S))))
      = foldS x3 x4 XC x0 S 4 := by
  rw [fold_3 x3 x4 x5 x6, ld_X 192 3 rfl (by omega), ld_D 192 3 rfl (by omega)]; rfl
theorem fold_5 (x3 x4 x5 x6 : Vec Ideal S1x384 .f32) (XC : Vec Ideal S512x896 .f32) (x0 : Vec Ideal S1x512x1664 .f32) (S : Vec Ideal S256x384 .f32) :
    (chunkSt x3 x4 (View.ld XC (Rect.unit (s := S512x896) ![256, 0] ![64, 896] (by decide))) (View.ld x0 (Rect.unit (s := S1x512x1664) ![0, 256, 1280] ![1, 64, 384] (by decide))) (chunkSt x3 x4 (View.ld XC (Rect.unit (s := S512x896) ![192, 0] ![64, 896] (by decide))) (View.ld x0 (Rect.unit (s := S1x512x1664) ![0, 192, 1280] ![1, 64, 384] (by decide))) (chunkSt x3 x4 (View.ld XC (Rect.unit (s := S512x896) ![128, 0] ![64, 896] (by decide))) (View.ld x0 (Rect.unit (s := S1x512x1664) ![0, 128, 1280] ![1, 64, 384] (by decide))) (chunkSt x3 x4 (View.ld XC (Rect.unit (s := S512x896) ![64, 0] ![64, 896] (by decide))) (View.ld x0 (Rect.unit (s := S1x512x1664) ![0, 64, 1280] ![1, 64, 384] (by decide))) (chunkSt x3 x4 (View.ld XC (Rect.unit (s := S512x896) ![0, 0] ![64, 896] (by decide))) (View.ld x0 (Rect.unit (s := S1x512x1664) ![0, 0, 1280] ![1, 64, 384] (by decide))) S)))))
      = foldS x3 x4 XC x0 S 5 := by
  rw [fold_4 x3 x4 x5 x6, ld_X 256 4 rfl (by omega), ld_D 256 4 rfl (by omega)]; rfl
theorem fold_6 (x3 x4 x5 x6 : Vec Ideal S1x384 .f32) (XC : Vec Ideal S512x896 .f32) (x0 : Vec Ideal S1x512x1664 .f32) (S : Vec Ideal S256x384 .f32) :
    (chunkSt x3 x4 (View.ld XC (Rect.unit (s := S512x896) ![320, 0] ![64, 896] (by decide))) (View.ld x0 (Rect.unit (s := S1x512x1664) ![0, 320, 1280] ![1, 64, 384] (by decide))) (chunkSt x3 x4 (View.ld XC (Rect.unit (s := S512x896) ![256, 0] ![64, 896] (by decide))) (View.ld x0 (Rect.unit (s := S1x512x1664) ![0, 256, 1280] ![1, 64, 384] (by decide))) (chunkSt x3 x4 (View.ld XC (Rect.unit (s := S512x896) ![192, 0] ![64, 896] (by decide))) (View.ld x0 (Rect.unit (s := S1x512x1664) ![0, 192, 1280] ![1, 64, 384] (by decide))) (chunkSt x3 x4 (View.ld XC (Rect.unit (s := S512x896) ![128, 0] ![64, 896] (by decide))) (View.ld x0 (Rect.unit (s := S1x512x1664) ![0, 128, 1280] ![1, 64, 384] (by decide))) (chunkSt x3 x4 (View.ld XC (Rect.unit (s := S512x896) ![64, 0] ![64, 896] (by decide))) (View.ld x0 (Rect.unit (s := S1x512x1664) ![0, 64, 1280] ![1, 64, 384] (by decide))) (chunkSt x3 x4 (View.ld XC (Rect.unit (s := S512x896) ![0, 0] ![64, 896] (by decide))) (View.ld x0 (Rect.unit (s := S1x512x1664) ![0, 0, 1280] ![1, 64, 384] (by decide))) S))))))
      = foldS x3 x4 XC x0 S 6 := by
  rw [fold_5 x3 x4 x5 x6, ld_X 320 5 rfl (by omega), ld_D 320 5 rfl (by omega)]; rfl
theorem fold_7 (x3 x4 x5 x6 : Vec Ideal S1x384 .f32) (XC : Vec Ideal S512x896 .f32) (x0 : Vec Ideal S1x512x1664 .f32) (S : Vec Ideal S256x384 .f32) :
    (chunkSt x3 x4 (View.ld XC (Rect.unit (s := S512x896) ![384, 0] ![64, 896] (by decide))) (View.ld x0 (Rect.unit (s := S1x512x1664) ![0, 384, 1280] ![1, 64, 384] (by decide))) (chunkSt x3 x4 (View.ld XC (Rect.unit (s := S512x896) ![320, 0] ![64, 896] (by decide))) (View.ld x0 (Rect.unit (s := S1x512x1664) ![0, 320, 1280] ![1, 64, 384] (by decide))) (chunkSt x3 x4 (View.ld XC (Rect.unit (s := S512x896) ![256, 0] ![64, 896] (by decide))) (View.ld x0 (Rect.unit (s := S1x512x1664) ![0, 256, 1280] ![1, 64, 384] (by decide))) (chunkSt x3 x4 (View.ld XC (Rect.unit (s := S512x896) ![192, 0] ![64, 896] (by decide))) (View.ld x0 (Rect.unit (s := S1x512x1664) ![0, 192, 1280] ![1, 64, 384] (by decide))) (chunkSt x3 x4 (View.ld XC (Rect.unit (s := S512x896) ![128, 0] ![64, 896] (by decide))) (View.ld x0 (Rect.unit (s := S1x512x1664) ![0, 128, 1280] ![1, 64, 384] (by decide))) (chunkSt x3 x4 (View.ld XC (Rect.unit (s := S512x896) ![64, 0] ![64, 896] (by decide))) (View.ld x0 (Rect.unit (s := S1x512x1664) ![0, 64, 1280] ![1, 64, 384] (by decide))) (chunkSt x3 x4 (View.ld XC (Rect.unit (s := S512x896) ![0, 0] ![64, 896] (by decide))) (View.ld x0 (Rect.unit (s := S1x512x1664) ![0, 0, 1280] ![1, 64, 384] (by decide))) S)))))))
      = foldS x3 x4 XC x0 S 7 := by
  rw [fold_6 x3 x4 x5 x6, ld_X 384 6 rfl (by omega), ld_D 384 6 rfl (by omega)]; rfl
theorem fold_8 (x3 x4 x5 x6 : Vec Ideal S1x384 .f32) (XC : Vec Ideal S512x896 .f32) (x0 : Vec Ideal S1x512x1664 .f32) (S : Vec Ideal S256x384 .f32) :
    (chunkSt x3 x4 (View.ld XC (Rect.unit (s := S512x896) ![448, 0] ![64, 896] (by decide))) (View.ld x0 (Rect.unit (s := S1x512x1664) ![0, 448, 1280] ![1, 64, 384] (by decide))) (chunkSt x3 x4 (View.ld XC (Rect.unit (s := S512x896) ![384, 0] ![64, 896] (by decide))) (View.ld x0 (Rect.unit (s := S1x512x1664) ![0, 384, 1280] ![1, 64, 384] (by decide))) (chunkSt x3 x4 (View.ld XC (Rect.unit (s := S512x896) ![320, 0] ![64, 896] (by decide))) (View.ld x0 (Rect.unit (s := S1x512x1664) ![0, 320, 1280] ![1, 64, 384] (by decide))) (chunkSt x3 x4 (View.ld XC (Rect.unit (s := S512x896) ![256, 0] ![64, 896] (by decide))) (View.ld x0 (Rect.unit (s := S1x512x1664) ![0, 256, 1280] ![1, 64, 384] (by decide))) (chunkSt x3 x4 (View.ld XC (Rect.unit (s := S512x896) ![192, 0] ![64, 896] (by decide))) (View.ld x0 (Rect.unit (s := S1x512x1664) ![0, 192, 1280] ![1, 64, 384] (by decide))) (chunkSt x3 x4 (View.ld XC (Rect.unit (s := S512x896) ![128, 0] ![64, 896] (by decide))) (View.ld x0 (Rect.unit (s := S1x512x1664) ![0, 128, 1280] ![1, 64, 384] (by decide))) (chunkSt x3 x4 (View.ld XC (Rect.unit (s := S512x896) ![64, 0] ![64, 896] (by decide))) (View.ld x0 (Rect.unit (s := S1x512x1664) ![0, 64, 1280] ![1, 64, 384] (by decide))) (chunkSt x3 x4 (View.ld XC (Rect.unit (s := S512x896) ![0, 0] ![64, 896] (by decide))) (View.ld x0 (Rect.unit (s := S1x512x1664) ![0, 0, 1280] ![1, 64, 384] (by decide))) S))))))))
      = foldS x3 x4 XC x0 S 8 := by
  rw [fold_7 x3 x4 x5 x6, ld_X 448 7 rfl (by omega), ld_D 448 7 rfl (by omega)]; rfl

theorem outV_tile (x3 x4 x5 x6 : Vec Ideal S1x384 .f32) (XC : Vec Ideal S512x896 .f32) (x0 : Vec Ideal S1x512x1664 .f32) (S : Vec Ideal S256x384 .f32) (c : ℕ)
    (r : Fin 512) (l : Fin 384) (x : S1x64x384.Idx) (h1 : r.val = 64 * c + (x 1).val) (h2 : l.val = (x 2).val) :
    chunkY x3 x4 x5 x6 (Zc x0 c) (Dc x0 c) (Xc XC c) (foldS x3 x4 XC x0 S c) x = outV x3 x4 x5 x6 XC x0 S r l := by
  have hx : (x 1).val < 64 := (x 1).isLt
  have h0 : (x 0).val < 1 := (x 0).isLt
  have hc : r.val / 64 = c := by omega
  unfold outV
  rw [hc]
  congr 1
  funext a
  match a with
  | ⟨0, _⟩ => exact Fin.ext (by show (x 0).val = 0; omega)
  | ⟨1, _⟩ => exact Fin.ext (by show (x 1).val = r.val % 64; omega)
  | ⟨2, _⟩ => exact Fin.ext (by show (x 2).val = l.val; omega)

theorem out_0 (x3 x4 x5 x6 : Vec Ideal S1x384 .f32) (XC : Vec Ideal S512x896 .f32) (x0 : Vec Ideal S1x512x1664 .f32) (S : Vec Ideal S256x384 .f32) (r : Fin 512) (l : Fin 384) (x : S1x64x384.Idx) (h1 : r.val = (x 1).val) (h2 : l.val = (x 2).val) :
    chunkY x3 x4 x5 x6 (View.ld x0 (Rect.unit (s := S1x512x1664) ![0, 0, 0] ![1, 64, 384] (by decide))) (View.ld x0 (Rect.unit (s := S1x512x1664) ![0, 0, 1280] ![1, 64, 384] (by decide))) (View.ld XC (Rect.unit (s := S512x896) ![0, 0] ![64, 896] (by decide))) S x
      = outV x3 x4 x5 x6 XC x0 S r l := by
  rw [ld_X 0 0 rfl (by omega), ld_D 0 0 rfl (by omega), ld_Z 0 0 rfl (by omega)]
  exact outV_tile x3 x4 x5 x6 XC x0 S 0 r l x (by omega) h2
theorem out_1 (x3 x4 x5 x6 : Vec Ideal S1x384 .f32) (XC : Vec Ideal S512x896 .f32) (x0 : Vec Ideal S1x512x1664 .f32) (S : Vec Ideal S256x384 .f32) (r : Fin 512) (l : Fin 384) (x : S1x64x384.Idx) (h1 : r.val = 64 + (x 1).val) (h2 : l.val = (x 2).val) :
    chunkY x3 x4 x5 x6 (View.ld x0 (Rect.unit (s := S1x512x1664) ![0, 64, 0] ![1, 64, 384] (by decide))) (View.ld x0 (Rect.unit (s := S1x512x1664) ![0, 64, 1280] ![1, 64, 384] (by decide))) (View.ld XC (Rect.unit (s := S512x896) ![64, 0] ![64, 896] (by decide))) (chunkSt x3 x4 (View.ld XC (Rect.unit (s := S512x896) ![0, 0] ![64, 896] (by decide))) (View.ld x0 (Rect.unit (s := S1x512x1664) ![0, 0, 1280] ![1, 64, 384] (by decide))) S) x
      = outV x3 x4 x5 x6 XC x0 S r l := by
  rw [fold_1 x3 x4 x5 x6, ld_X 64 1 rfl (by omega), ld_D 64 1 rfl (by omega), ld_Z 64 1 rfl (by omega)]
  exact outV_tile x3 x4 x5 x6 XC x0 S 1 r l x (by omega) h2
theorem out_2 (x3 x4 x5 x6 : Vec Ideal S1x384 .f32) (XC : Vec Ideal S512x896 .f32) (x0 : Vec Ideal S1x512x1664 .f32) (S : Vec Ideal S256x384 .f32) (r : Fin 512) (l : Fin 384) (x : S1x64x384.Idx) (h1 : r.val = 128 + (x 1).val) (h2 : l.val = (x 2).val) :
    chunkY x3 x4 x5 x6 (View.ld x0 (Rect.unit (s := S1x512x1664) ![0, 128, 0] ![1, 64, 384] (by decide))) (View.ld x0 (Rect.unit (s := S1x512x1664) ![0, 128, 1280] ![1, 64, 384] (by decide))) (View.ld XC (Rect.unit (s := S512x896) ![128, 0] ![64, 896] (by decide))) (chunkSt x3 x4 (View.ld XC (Rect.unit (s := S512x896) ![64, 0] ![64, 896] (by decide))) (View.ld x0 (Rect.unit (s := S1x512x1664) ![0, 64, 1280] ![1, 64, 384] (by decide))) (chunkSt x3 x4 (View.ld XC (Rect.unit (s := S512x896) ![0, 0] ![64, 896] (by decide))) (View.ld x0 (Rect.unit (s := S1x512x1664) ![0, 0, 1280] ![1, 64, 384] (by decide))) S)) x
      = outV x3 x4 x5 x6 XC x0 S r l := by
  rw [fold_2 x3 x4 x5 x6, ld_X 128 2 rfl (by omega), ld_D 128 2 rfl (by omega), ld_Z 128 2 rfl (by omega)]
  exact outV_tile x3 x4 x5 x6 XC x0 S 2 r l x (by omega) h2
theorem out_3 (x3 x4 x5 x6 : Vec Ideal S1x384 .f32) (XC : Vec Ideal S512x896 .f32) (x0 : Vec Ideal S1x512x1664 .f32) (S : Vec Ideal S256x384 .f32) (r : Fin 512) (l : Fin 384) (x : S1x64x384.Idx) (h1 : r.val = 192 + (x 1).val) (h2 : l.val = (x 2).val) :
    chunkY x3 x4 x5 x6 (View.ld x0 (Rect.unit (s := S1x512x1664) ![0, 192, 0] ![1, 64, 384] (by decide))) (View.ld x0 (Rect.unit (s := S1x512x1664) ![0, 192, 1280] ![1, 64, 384] (by decide))) (View.ld XC (Rect.unit (s := S512x896) ![192, 0] ![64, 896] (by decide))) (chunkSt x3 x4 (View.ld XC (Rect.unit (s := S512x896) ![128, 0] ![64, 896] (by decide))) (View.ld x0 (Rect.unit (s := S1x512x1664) ![0, 128, 1280] ![1, 64, 384] (by decide))) (chunkSt x3 x4 (View.ld XC (Rect.unit (s := S512x896) ![64, 0] ![64, 896] (by decide))) (View.ld x0 (Rect.unit (s := S1x512x1664) ![0, 64, 1280] ![1, 64, 384] (by decide))) (chunkSt x3 x4 (View.ld XC (Rect.unit (s := S512x896) ![0, 0] ![64, 896] (by decide))) (View.ld x0 (Rect.unit (s := S1x512x1664) ![0, 0, 1280] ![1, 64, 384] (by decide))) S))) x
      = outV x3 x4 x5 x6 XC x0 S r l := by
  rw [fold_3 x3 x4 x5 x6, ld_X 192 3 rfl (by omega), ld_D 192 3 rfl (by omega), ld_Z 192 3 rfl (by omega)]
  exact outV_tile x3 x4 x5 x6 XC x0 S 3 r l x (by omega) h2
theorem out_4 (x3 x4 x5 x6 : Vec Ideal S1x384 .f32) (XC : Vec Ideal S512x896 .f32) (x0 : Vec Ideal S1x512x1664 .f32) (S : Vec Ideal S256x384 .f32) (r : Fin 512) (l : Fin 384) (x : S1x64x384.Idx) (h1 : r.val = 256 + (x 1).val) (h2 : l.val = (x 2).val) :
    chunkY x3 x4 x5 x6 (View.ld x0 (Rect.unit (s := S1x512x1664) ![0, 256, 0] ![1, 64, 384] (by decide))) (View.ld x0 (Rect.unit (s := S1x512x1664) ![0, 256, 1280] ![1, 64, 384] (by decide))) (View.ld XC (Rect.unit (s := S512x896) ![256, 0] ![64, 896] (by decide))) (chunkSt x3 x4 (View.ld XC (Rect.unit (s := S512x896) ![192, 0] ![64, 896] (by decide))) (View.ld x0 (Rect.unit (s := S1x512x1664) ![0, 192, 1280] ![1, 64, 384] (by decide))) (chunkSt x3 x4 (View.ld XC (Rect.unit (s := S512x896) ![128, 0] ![64, 896] (by decide))) (View.ld x0 (Rect.unit (s := S1x512x1664) ![0, 128, 1280] ![1, 64, 384] (by decide))) (chunkSt x3 x4 (View.ld XC (Rect.unit (s := S512x896) ![64, 0] ![64, 896] (by decide))) (View.ld x0 (Rect.unit (s := S1x512x1664) ![0, 64, 1280] ![1, 64, 384] (by decide))) (chunkSt x3 x4 (View.ld XC (Rect.unit (s := S512x896) ![0, 0] ![64, 896] (by decide))) (View.ld x0 (Rect.unit (s := S1x512x1664) ![0, 0, 1280] ![1, 64, 384] (by decide))) S)))) x
      = outV x3 x4 x5 x6 XC x0 S r l := by
  rw [fold_4 x3 x4 x5 x6, ld_X 256 4 rfl (by omega), ld_D 256 4 rfl (by omega), ld_Z 256 4 rfl (by omega)]
  exact outV_tile x3 x4 x5 x6 XC x0 S 4 r l x (by omega) h2
theorem out_5 (x3 x4 x5 x6 : Vec Ideal S1x384 .f32) (XC : Vec Ideal S512x896 .f32) (x0 : Vec Ideal S1x512x1664 .f32) (S : Vec Ideal S256x384 .f32) (r : Fin 512) (l : Fin 384) (x : S1x64x384.Idx) (h1 : r.val = 320 + (x 1).val) (h2 : l.val = (x 2).val) :
    chunkY x3 x4 x5 x6 (View.ld x0 (Rect.unit (s := S1x512x1664) ![0, 320, 0] ![1, 64, 384] (by decide))) (View.ld x0 (Rect.unit (s := S1x512x1664) ![0, 320, 1280] ![1, 64, 384] (by decide))) (View.ld XC (Rect.unit (s := S512x896) ![320, 0] ![64, 896] (by decide))) (chunkSt x3 x4 (View.ld XC (Rect.unit (s := S512x896) ![256, 0] ![64, 896] (by decide))) (View.ld x0 (Rect.unit (s := S1x512x1664) ![0, 256, 1280] ![1, 64, 384] (by decide))) (chunkSt x3 x4 (View.ld XC (Rect.unit (s := S512x896) ![192, 0] ![64, 896] (by decide))) (View.ld x0 (Rect.unit (s := S1x512x1664) ![0, 192, 1280] ![1, 64, 384] (by decide))) (chunkSt x3 x4 (View.ld XC (Rect.unit (s := S512x896) ![128, 0] ![64, 896] (by decide))) (View.ld x0 (Rect.unit (s := S1x512x1664) ![0, 128, 1280] ![1, 64, 384] (by decide))) (chunkSt x3 x4 (View.ld XC (Rect.unit (s := S512x896) ![64, 0] ![64, 896] (by decide))) (View.ld x0 (Rect.unit (s := S1x512x1664) ![0, 64, 1280] ![1, 64, 384] (by decide))) (chunkSt x3 x4 (View.ld XC (Rect.unit (s := S512x896) ![0, 0] ![64, 896] (by decide))) (View.ld x0 (Rect.unit (s := S1x512x1664) ![0, 0, 1280] ![1, 64, 384] (by decide))) S))))) x
      = outV x3 x4 x5 x6 XC x0 S r l := by
  rw [fold_5 x3 x4 x5 x6, ld_X 320 5 rfl (by omega), ld_D 320 5 rfl (by omega), ld_Z 320 5 rfl (by omega)]
  exact outV_tile x3 x4 x5 x6 XC x0 S 5 r l x (by omega) h2
theorem out_6 (x3 x4 x5 x6 : Vec Ideal S1x384 .f32) (XC : Vec Ideal S512x896 .f32) (x0 : Vec Ideal S1x512x1664 .f32) (S : Vec Ideal S256x384 .f32) (r : Fin 512) (l : Fin 384) (x : S1x64x384.Idx) (h1 : r.val = 384 + (x 1).val) (h2 : l.val = (x 2).val) :
    chunkY x3 x4 x5 x6 (View.ld x0 (Rect.unit (s := S1x512x1664) ![0, 384, 0] ![1, 64, 384] (by decide))) (View.ld x0 (Rect.unit (s := S1x512x1664) ![0, 384, 1280] ![1, 64, 384] (by decide))) (View.ld XC (Rect.unit (s := S512x896) ![384, 0] ![64, 896] (by decide))) (chunkSt x3 x4 (View.ld XC (Rect.unit (s := S512x896) ![320, 0] ![64, 896] (by decide))) (View.ld x0 (Rect.unit (s := S1x512x1664) ![0, 320, 1280] ![1, 64, 384] (by decide))) (chunkSt x3 x4 (View.ld XC (Rect.unit (s := S512x896) ![256, 0] ![64, 896] (by decide))) (View.ld x0 (Rect.unit (s := S1x512x1664) ![0, 256, 1280] ![1, 64, 384] (by decide))) (chunkSt x3 x4 (View.ld XC (Rect.unit (s := S512x896) ![192, 0] ![64, 896] (by decide))) (View.ld x0 (Rect.unit (s := S1x512x1664) ![0, 192, 1280] ![1, 64, 384] (by decide))) (chunkSt x3 x4 (View.ld XC (Rect.unit (s := S512x896) ![128, 0] ![64, 896] (by decide))) (View.ld x0 (Rect.unit (s := S1x512x1664) ![0, 128, 1280] ![1, 64, 384] (by decide))) (chunkSt x3 x4 (View.ld XC (Rect.unit (s := S512x896) ![64, 0] ![64, 896] (by decide))) (View.ld x0 (Rect.unit (s := S1x512x1664) ![0, 64, 1280] ![1, 64, 384] (by decide))) (chunkSt x3 x4 (View.ld XC (Rect.unit (s := S512x896) ![0, 0] ![64, 896] (by decide))) (View.ld x0 (Rect.unit (s := S1x512x1664) ![0, 0, 1280] ![1, 64, 384] (by decide))) S)))))) x
      = outV x3 x4 x5 x6 XC x0 S r l := by
  rw [fold_6 x3 x4 x5 x6, ld_X 384 6 rfl (by omega), ld_D 384 6 rfl (by omega), ld_Z 384 6 rfl (by omega)]
  exact outV_tile x3 x4 x5 x6 XC x0 S 6 r l x (by omega) h2
theorem out_7 (x3 x4 x5 x6 : Vec Ideal S1x384 .f32) (XC : Vec Ideal S512x896 .f32) (x0 : Vec Ideal S1x512x1664 .f32) (S : Vec Ideal S256x384 .f32) (r : Fin 512) (l : Fin 384) (x : S1x64x384.Idx) (h1 : r.val = 448 + (x 1).val) (h2 : l.val = (x 2).val) :
    chunkY x3 x4 x5 x6 (View.ld x0 (Rect.unit (s := S1x512x1664) ![0, 448, 0] ![1, 64, 384] (by decide))) (View.ld x0 (Rect.unit (s := S1x512x1664) ![0, 448, 1280] ![1, 64, 384] (by decide))) (View.ld XC (Rect.unit (s := S512x896) ![448, 0] ![64, 896] (by decide))) (chunkSt x3 x4 (View.ld XC (Rect.unit (s := S512x896) ![384, 0] ![64, 896] (by decide))) (View.ld x0 (Rect.unit (s := S1x512x1664) ![0, 384, 1280] ![1, 64, 384] (by decide))) (chunkSt x3 x4 (View.ld XC (Rect.unit (s := S512x896) ![320, 0] ![64, 896] (by decide))) (View.ld x0 (Rect.unit (s := S1x512x1664) ![0, 320, 1280] ![1, 64, 384] (by decide))) (chunkSt x3 x4 (View.ld XC (Rect.unit (s := S512x896) ![256, 0] ![64, 896] (by decide))) (View.ld x0 (Rect.unit (s := S1x512x1664) ![0, 256, 1280] ![1, 64, 384] (by decide))) (chunkSt x3 x4 (View.ld XC (Rect.unit (s := S512x896) ![192, 0] ![64, 896] (by decide))) (View.ld x0 (Rect.unit (s := S1x512x1664) ![0, 192, 1280] ![1, 64, 384] (by decide))) (chunkSt x3 x4 (View.ld XC (Rect.unit (s := S512x896) ![128, 0] ![64, 896] (by decide))) (View.ld x0 (Rect.unit (s := S1x512x1664) ![0, 128, 1280] ![1, 64, 384] (by decide))) (chunkSt x3 x4 (View.ld XC (Rect.unit (s := S512x896) ![64, 0] ![64, 896] (by decide))) (View.ld x0 (Rect.unit (s := S1x512x1664) ![0, 64, 1280] ![1, 64, 384] (by decide))) (chunkSt x3 x4 (View.ld XC (Rect.unit (s := S512x896) ![0, 0] ![64, 896] (by decide))) (View.ld x0 (Rect.unit (s := S1x512x1664) ![0, 0, 1280] ![1, 64, 384] (by decide))) S))))))) x
      = outV x3 x4 x5 x6 XC x0 S r l := by
  rw [fold_7 x3 x4 x5 x6, ld_X 448 7 rfl (by omega), ld_D 448 7 rfl (by omega), ld_Z 448 7 rfl (by omega)]
  exact outV_tile x3 x4 x5 x6 XC x0 S 7 r l x (by omega) h2

section
variable (c : Dev nD) (i : grid0.Coords) (arg2 : Memref sig .tc .vmem S1x512x1664 .f32) (harg2 : arg2.IsWhole) (arg3 : Memref sig .tc .vmem S4x896 .f32) (harg3 : arg3.IsWhole) (arg4 : Memref sig .tc .vmem S1x896 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S1x384 .f32) (harg8 : arg8.IsWhole) (arg9 : Memref sig .tc .vmem S1x512x384 .f32) (harg9 : arg9.IsWhole) (arg10 : Memref sig .tc .vmem S256x384 .f32) (harg10 : arg10.IsWhole) (arg11 : Memref sig .tc .vmem S520x896 .f32) (harg11 : arg11.IsWhole) (arg12 : Memref sig .tc .vmem S512x896 .f32) (harg12 : arg12.IsWhole)
theorem sout_A_0 (hc0 : cond0_0 i) (hc1 : ¬cond0_1 i) (x0 : Vec Ideal S1x512x1664 .f32) (x1 : Vec Ideal S4x896 .f32) (x2 : Vec Ideal S1x896 .f32) (x3 : Vec Ideal S1x384 .f32) (x4 : Vec Ideal S1x384 .f32) (x5 : Vec Ideal S1x384 .f32) (x6 : Vec Ideal S1x384 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 = foldS x3 x4 (xcV x1 x2 (k0_pay3 (F := Ideal)) x0) x0 (k0_pay2 (F := Ideal)) 8 := by
  frame_open
  simp (disch := decide) only [↓ View.readCov_skip, ↓ View.readCov_cons_toLoadRect, ↓ View.readCov_fill]
  frame_out
  simp only [View.readCov_eq_canon', chunkSt_0, chunkSt_1, chunkSt_2, chunkSt_3, chunkSt_4, chunkSt_5, chunkSt_6, chunkSt_7]
  exact fold_8 x3 x4 x5 x6 (xcV x1 x2 (k0_pay3 (F := Ideal)) x0) x0 (k0_pay2 (F := Ideal))

theorem sout_A_1 (hc0 : cond0_0 i) (hc1 : ¬cond0_1 i) (x0 : Vec Ideal S1x512x1664 .f32) (x1 : Vec Ideal S4x896 .f32) (x2 : Vec Ideal S1x896 .f32) (x3 : Vec Ideal S1x384 .f32) (x4 : Vec Ideal S1x384 .f32) (x5 : Vec Ideal S1x384 .f32) (x6 : Vec Ideal S1x384 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 = extV (k0_pay3 (F := Ideal)) x0 := by
  frame_open
  simp (disch := decide) only [↓ View.readCov_skip, ↓ View.readCov_cons_toLoadRect, ↓ View.readCov_fill]
  frame_out

theorem out_A (hc0 : cond0_0 i) (hc1 : ¬cond0_1 i) (x0 : Vec Ideal S1x512x1664 .f32) (x1 : Vec Ideal S4x896 .f32) (x2 : Vec Ideal S1x896 .f32) (x3 : Vec Ideal S1x384 .f32) (x4 : Vec Ideal S1x384 .f32) (x5 : Vec Ideal S1x384 .f32) (x6 : Vec Ideal S1x384 .f32) :
    out0_A_7 c i arg2 harg2 arg3 harg3 arg4 harg4 arg5 harg5 arg6 harg6 arg7 harg7 arg8 harg8 arg9 harg9 arg10 harg10 arg11 harg11 arg12 harg12 hc0 hc1 x0 x1 x2 x3 x4 x5 x6 = fun y => outV x3 x4 x5 x6 (xcV x1 x2 (k0_pay3 (F := Ideal)) x0) x0 (k0_pay2 (F := Ideal)) (y 1) (y 2) := by
  frame_open
  simp (disch := decide) only [↓ View.readCov_skip, ↓ View.readCov_cons_toLoadRect, ↓ View.readCov_fill]
  frame_out
  simp only [View.readCov_eq_canon', chunkSt_0, chunkSt_1, chunkSt_2, chunkSt_3, chunkSt_4, chunkSt_5, chunkSt_6, chunkSt_7, chunkY_0, chunkY_1, chunkY_2, chunkY_3, chunkY_4, chunkY_5, chunkY_6, chunkY_7]
  funext y
  canon_tiles x h
  · exact out_7 x3 x4 x5 x6 (xcV x1 x2 (k0_pay3 (F := Ideal)) x0) x0 (k0_pay2 (F := Ideal)) (y 1) (y 2) x h1 h2
  · exact out_6 x3 x4 x5 x6 (xcV x1 x2 (k0_pay3 (F := Ideal)) x0) x0 (k0_pay2 (F := Ideal)) (y 1) (y 2) x h1 h2
  · exact out_5 x3 x4 x5 x6 (xcV x1 x2 (k0_pay3 (F := Ideal)) x0) x0 (k0_pay2 (F := Ideal)) (y 1) (y 2) x h1 h2
  · exact out_4 x3 x4 x5 x6 (xcV x1 x2 (k0_pay3 (F := Ideal)) x0) x0 (k0_pay2 (F := Ideal)) (y 1) (y 2) x h1 h2
  · exact out_3 x3 x4 x5 x6 (xcV x1 x2 (k0_pay3 (F := Ideal)) x0) x0 (k0_pay2 (F := Ideal)) (y 1) (y 2) x h1 h2
  · exact out_2 x3 x4 x5 x6 (xcV x1 x2 (k0_pay3 (F := Ideal)) x0) x0 (k0_pay2 (F := Ideal)) (y 1) (y 2) x h1 h2
  · exact out_1 x3 x4 x5 x6 (xcV x1 x2 (k0_pay3 (F := Ideal)) x0) x0 (k0_pay2 (F := Ideal)) (y 1) (y 2) x h1 h2
  · exact out_0 x3 x4 x5 x6 (xcV x1 x2 (k0_pay3 (F := Ideal)) x0) x0 (k0_pay2 (F := Ideal)) (y 1) (y 2) x h1 h2

theorem sout_B_0 (hc0 : ¬cond0_0 i) (hc1 : cond0_1 i) (x0 : Vec Ideal S1x512x1664 .f32) (x1 : Vec Ideal S4x896 .f32) (x2 : Vec Ideal S1x896 .f32) (x3 : Vec Ideal S1x384 .f32) (x4 : Vec Ideal S1x384 .f32) (x5 : Vec Ideal S1x384 .f32) (x6 : Vec Ideal S1x384 .f32) (xs0 : Vec Ideal S256x384 .f32) (xs1 : Vec Ideal S520x896 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = foldS x3 x4 (xcV x1 x2 (keep xs1) x0) x0 xs0 8 := by
  frame_open
  simp (disch := decide) only [↓ View.readCov_skip, ↓ View.readCov_cons_toLoadRect, ↓ View.readCov_fill]
  frame_out
  simp only [View.readCov_eq_canon', chunkSt_0, chunkSt_1, chunkSt_2, chunkSt_3, chunkSt_4, chunkSt_5, chunkSt_6, chunkSt_7]
  exact fold_8 x3 x4 x5 x6 (xcV x1 x2 (keep xs1) x0) x0 xs0

theorem sout_B_1 (hc0 : ¬cond0_0 i) (hc1 : cond0_1 i) (x0 : Vec Ideal S1x512x1664 .f32) (x1 : Vec Ideal S4x896 .f32) (x2 : Vec Ideal S1x896 .f32) (x3 : Vec Ideal S1x384 .f32) (x4 : Vec Ideal S1x384 .f32) (x5 : Vec Ideal S1x384 .f32) (x6 : Vec Ideal S1x384 .f32) (xs0 : Vec Ideal S256x384 .f32) (xs1 : Vec Ideal S520x896 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = extV (keep xs1) x0 := by
  frame_open
  simp (disch := decide) only [↓ View.readCov_skip, ↓ View.readCov_cons_toLoadRect, ↓ View.readCov_fill]
  frame_out
  rfl

theorem out_B (hc0 : ¬cond0_0 i) (hc1 : cond0_1 i) (x0 : Vec Ideal S1x512x1664 .f32) (x1 : Vec Ideal S4x896 .f32) (x2 : Vec Ideal S1x896 .f32) (x3 : Vec Ideal S1x384 .f32) (x4 : Vec Ideal S1x384 .f32) (x5 : Vec Ideal S1x384 .f32) (x6 : Vec Ideal S1x384 .f32) (xs0 : Vec Ideal S256x384 .f32) (xs1 : Vec Ideal S520x896 .f32) :
    out0_B_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = fun y => outV x3 x4 x5 x6 (xcV x1 x2 (keep xs1) x0) x0 xs0 (y 1) (y 2) := by
  frame_open
  simp (disch := decide) only [↓ View.readCov_skip, ↓ View.readCov_cons_toLoadRect, ↓ View.readCov_fill]
  frame_out
  simp only [View.readCov_eq_canon', chunkSt_0, chunkSt_1, chunkSt_2, chunkSt_3, chunkSt_4, chunkSt_5, chunkSt_6, chunkSt_7, chunkY_0, chunkY_1, chunkY_2, chunkY_3, chunkY_4, chunkY_5, chunkY_6, chunkY_7]
  funext y
  canon_tiles x h
  · exact out_7 x3 x4 x5 x6 (xcV x1 x2 (keep xs1) x0) x0 xs0 (y 1) (y 2) x h1 h2
  · exact out_6 x3 x4 x5 x6 (xcV x1 x2 (keep xs1) x0) x0 xs0 (y 1) (y 2) x h1 h2
  · exact out_5 x3 x4 x5 x6 (xcV x1 x2 (keep xs1) x0) x0 xs0 (y 1) (y 2) x h1 h2
  · exact out_4 x3 x4 x5 x6 (xcV x1 x2 (keep xs1) x0) x0 xs0 (y 1) (y 2) x h1 h2
  · exact out_3 x3 x4 x5 x6 (xcV x1 x2 (keep xs1) x0) x0 xs0 (y 1) (y 2) x h1 h2
  · exact out_2 x3 x4 x5 x6 (xcV x1 x2 (keep xs1) x0) x0 xs0 (y 1) (y 2) x h1 h2
  · exact out_1 x3 x4 x5 x6 (xcV x1 x2 (keep xs1) x0) x0 xs0 (y 1) (y 2) x h1 h2
  · exact out_0 x3 x4 x5 x6 (xcV x1 x2 (keep xs1) x0) x0 xs0 (y 1) (y 2) x h1 h2

end

theorem extV_hi (h : Vec Ideal S8x896 .f32) (x0 : Vec Ideal S1x512x1664 .f32) (r : Fin 512) (l : Fin 896) :
    extV h x0 (ix2 ⟨8 + r.val, by omega⟩ l) = x0 (ix3 0 r ⟨384 + l.val, by omega⟩) := by
  have e : (ix2 ⟨8 + r.val, by omega⟩ l : S520x896.Idx) = (Rect.unit (s := S520x896) ![8, 0] S512x896.size inb_S520x896_S512x896_8_0).emb (ix2 r l) := by
    funext a
    match a with
    | ⟨0, _⟩ => exact Fin.ext (by show 8 + r.val = 8 + 1 * r.val; omega)
    | ⟨1, _⟩ => exact Fin.ext (by show l.val = 0 + 1 * l.val; omega)
  unfold extV
  rw [e, View.canon_cons_emb]
  pointwise [k0_pay5]
  try rfl

theorem extV_lo (h : Vec Ideal S8x896 .f32) (x0 : Vec Ideal S1x512x1664 .f32) (r : Fin 8) (l : Fin 896) :
    extV h x0 (ix2 ⟨r.val, by omega⟩ l) = h (ix2 r l) := by
  have e : (ix2 ⟨r.val, by omega⟩ l : S520x896.Idx) = (Rect.unit (s := S520x896) ![0, 0] S8x896.size inb_S520x896_S8x896_0_0).emb (ix2 r l) := by
    funext a
    match a with
    | ⟨0, _⟩ => exact Fin.ext (by show r.val = 0 + 1 * r.val; omega)
    | ⟨1, _⟩ => exact Fin.ext (by show l.val = 0 + 1 * l.val; omega)
  unfold extV
  rw [View.canon_cons_of_not_mem]
  · rw [e, View.canon_cons_emb]
  · intro hm
    obtain ⟨x, hx⟩ := LoadRect.exists_idx_of_mem _ hm
    have h0 : 8 + 1 * (x 0).val = r.val := congrArg (fun y : S520x896.Idx => (y 0).val) hx
    omega

theorem keep_apply (E : Vec Ideal S520x896 .f32) (r : Fin 8) (l : Fin 896) :
    keep E (ix2 r l) = E (ix2 ⟨512 + r.val, by omega⟩ l) := by
  unfold keep
  pointwise [k0_pay4]

theorem pay3_apply (i : S8x896.Idx) : (k0_pay3 (F := Ideal)) i = 0 := by
  pointwise [k0_pay3]
theorem pay2_eq : (k0_pay2 (F := Ideal)) = pack fun _ _ => 0 := by
  funext i
  obtain ⟨a, b, rfl⟩ : ∃ a b, i = ix2 a b := ⟨i 0, i 1, (ix2_eta i).symm⟩
  rw [pack_apply]
  pointwise [k0_pay2]
  split <;> rfl

theorem row_at (E : Vec Ideal S520x896 .f32) (k : ℕ) (hk : k ≤ 8) (hb : ∀ a, (![k, 0] : Fin 2 → ℕ) a + S512x896.size a ≤ S520x896.size a) (t : Fin 512) (l : Fin 896) :
    E ((Rect.unit (s := S520x896) ![k, 0] S512x896.size hb).toLoadRect.idx (ix2 t l)) = E (ix2 ⟨k + t.val, by omega⟩ l) := by
  congr 1
  funext a
  match a with
  | ⟨0, _⟩ => exact Fin.ext (by show k + 1 * t.val = k + t.val; omega)
  | ⟨1, _⟩ => exact Fin.ext (by show 0 + 1 * l.val = l.val; omega)

/-- The activation of one row: four raw rows weighted, and the logistic gate. -/
theorem xcV_apply (x1 : Vec Ideal S4x896 .f32) (x2 : Vec Ideal S1x896 .f32) (h : Vec Ideal S8x896 .f32) (x0 : Vec Ideal S1x512x1664 .f32) (t : Fin 512) (l : Fin 896) :
    xcV x1 x2 h x0 (ix2 t l) = actOf (x2 (ix2 0 l)) (fun j => x1 (ix2 j l)) (fun j => extV h x0 (ix2 ⟨5 + j.val + t.val, by omega⟩ l)) := by
  have h5 := row_at (extV h x0) 5 (by omega) inb_S520x896_S512x896_5_0 t l
  have h6 := row_at (extV h x0) 6 (by omega) inb_S520x896_S512x896_6_0 t l
  have h7 := row_at (extV h x0) 7 (by omega) inb_S520x896_S512x896_7_0 t l
  have h8 := extV_hi h x0 t l
  have hU : View.ld x0 (Rect.unit (s := S1x512x1664) ![0, 0, 384] S1x512x896.size inb_S1x512x1664_S1x512x896_0_0_384) (ix3 0 t l) = x0 (ix3 0 t ⟨384 + l.val, by omega⟩) :=
    View.ld_unit_apply_of _ _ _ _ _ _ fun a => by
      match a with
      | ⟨0, _⟩ => rfl
      | ⟨1, _⟩ => show t.val = 0 + t.val; omega
      | ⟨2, _⟩ => rfl
  pointwise [xcV, k0_pay8, k0_pay6, k0_pay7, k0_pay5]
  rw [← h8]
  rfl

end Cert.KernelIdeal.Ssd
end
-- ==== Proof.Blocks.lean ====
module

public import proofs.«01_k».proof.Proof.Body
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)
namespace Cert.KernelIdeal.Ssd
open Cert.KernelIdeal Cert.KernelIdeal.Gen Cert.Scan

variable (m : (ℓ : Loc nD τ sig) → Buf (Elt Ideal) ℓ) (c : Dev nD)

theorem idx : ∀ t : Fin cfg0.N, win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 ∧ win0_6.index t (0 : Fin 2) = 0 ∧ win0_6.index t (1 : Fin 2) = 0 :=
  (by decide +kernel : ∀ t : Fin grid0.N, _)

theorem b3 (t : Fin cfg0.N) (l : Fin 384) : iblk m c 3 t (ix2 0 l) = m ((c : Thread nD τ).loc main_arg5) (ix1 (hd l)) := by
  blk_simp [iblk, V, idx t]
  entry_read
  pointwise
  blk_ext [iblk, V, idx t]
  rfl

theorem b4 (t : Fin cfg0.N) (l : Fin 384) : iblk m c 4 t (ix2 0 l) = m ((c : Thread nD τ).loc main_arg6) (ix1 (hd l)) := by
  blk_simp [iblk, V, idx t]
  entry_read
  pointwise
  blk_ext [iblk, V, idx t]
  rfl

theorem b5 (t : Fin cfg0.N) (l : Fin 384) : iblk m c 5 t (ix2 0 l) = m ((c : Thread nD τ).loc main_arg7) (ix1 (hd l)) := by
  blk_simp [iblk, V, idx t]
  entry_read
  pointwise
  blk_ext [iblk, V, idx t]
  rfl

theorem b6 (t : Fin cfg0.N) (l : Fin 384) : iblk m c 6 t (ix2 0 l) = m ((c : Thread nD τ).loc main_arg8) (ix1 l) := by
  blk_simp [iblk, V, idx t]
  entry_read
  pointwise
  blk_ext [iblk, V, idx t]

theorem v2_eq : V m c main_v2 = concatenate S8x2048x1664 2 [⟨S8x2048x384, m ((c : Thread nD τ).loc main_arg0)⟩, ⟨S8x2048x896, m ((c : Thread nD τ).loc main_arg1)⟩,
    ⟨S8x2048x384, shapeCast S8x2048x384 (broadcastInDim S8x2048x6x64 ![0, 1, 2] bcast_S8x2048x6_S8x2048x6x64_0_1_2 (m ((c : Thread nD τ).loc main_arg2))) shapeCasts_S8x2048x6x64_S8x2048x384⟩] concatenates_S8x2048x384_S8x2048x896_S8x2048x384_S8x2048x1664_d2 := by
  show StableHlo.after hostOps0 (fun b => m (c, b)) (Proc.tc.devRef main_v2) = _
  unfold hostOps0
  simp only [StableHlo.after_cons, StableHlo.after_nil]
  repeat first
    | (rw [StableHlo.reshape_result_ne]; rotate_left; decide)
    | (rw [StableHlo.unary_result_ne]; rotate_left; decide)
  rw [StableHlo.nary_result]
  generalize hF : (StableHlo.reshape main_v0 main_v1 _ _ _ _ : HloOp τ sig (Elt Ideal)).result _ = F
  have h0 : F (Proc.devRef .tc main_arg0) = m ((c : Thread nD τ).loc main_arg0) := by
    rw [← hF, StableHlo.reshape_result_ne _ _ _ _ _ _ _ (by decide), StableHlo.unary_result_ne _ _ _ _ _ _ (by decide)]
  have h1 : F (Proc.devRef .tc main_arg1) = m ((c : Thread nD τ).loc main_arg1) := by
    rw [← hF, StableHlo.reshape_result_ne _ _ _ _ _ _ _ (by decide), StableHlo.unary_result_ne _ _ _ _ _ _ (by decide)]
  have h2 : F (Proc.devRef .tc main_v1) = shapeCast S8x2048x384 (broadcastInDim S8x2048x6x64 ![0, 1, 2] bcast_S8x2048x6_S8x2048x6x64_0_1_2 (m ((c : Thread nD τ).loc main_arg2))) shapeCasts_S8x2048x6x64_S8x2048x384 := by
    rw [← hF, StableHlo.reshape_result, StableHlo.unary_result]
    rfl
  show concatenate S8x2048x1664 2 [⟨S8x2048x384, F (Proc.devRef .tc main_arg0)⟩, ⟨S8x2048x896, F (Proc.devRef .tc main_arg1)⟩, ⟨S8x2048x384, F (Proc.devRef .tc main_v1)⟩] _ = _
  rw [h0, h1, h2]

theorem v2_z (b : Fin 8) (T : Fin 2048) (l : Fin 384) : V m c main_v2 (ix3 b T ⟨l.val, by omega⟩) = m ((c : Thread nD τ).loc main_arg0) (ix3 b T l) := by
  rw [v2_eq]
  pointwise

theorem v2_x (b : Fin 8) (T : Fin 2048) (l : Fin 896) : V m c main_v2 (ix3 b T ⟨384 + l.val, by omega⟩) = m ((c : Thread nD τ).loc main_arg1) (ix3 b T l) := by
  rw [v2_eq]
  pointwise

theorem v2_d (b : Fin 8) (T : Fin 2048) (l : Fin 384) : V m c main_v2 (ix3 b T ⟨1280 + l.val, by omega⟩) = m ((c : Thread nD τ).loc main_arg2) (ix3 b T (hd l)) := by
  rw [v2_eq]
  pointwise
  rw [dif_neg (by omega), dif_neg (by omega)]
  congr 2
  exact Fin.ext (by show (1280 + l.val - 384 - 896) / 64 = l.val / 64; omega)

theorem b1 (t : Fin cfg0.N) (j : Fin 4) (l : Fin 896) : iblk m c 1 t (ix2 j l) = m ((c : Thread nD τ).loc main_arg3) (ix2 j l) := by
  blk_ext [iblk, V, idx t]

theorem b2 (t : Fin cfg0.N) (l : Fin 896) : iblk m c 2 t (ix2 0 l) = m ((c : Thread nD τ).loc main_arg4) (ix1 l) := by
  blk_simp [iblk, V, idx t]
  entry_read
  pointwise
  blk_ext [iblk, V, idx t]

theorem b0 (t : Fin cfg0.N) (b : Fin 8) (hb : b.val = t.val / 4) (r : Fin 512) (L : Fin 1664) :
    iblk m c 0 t (ix3 0 r L) = V m c main_v2 (ix3 b ⟨512 * (t.val % 4) + r.val, by omega⟩ L) := by
  generalize hX : V m c main_v2 = X
  show (((cfg0.win 0).blk t).view.read (Elt Ideal) (V m c main_v2)) (ix3 0 r L) = _
  rw [hX]
  blk_ext [idx t]

end Cert.KernelIdeal.Ssd
end
-- ==== Proof.Whole.lean ====
module

public import proofs.«01_k».proof.Proof.Model

@[expose] public section

noncomputable section

open Idealize.ShloMosaic

namespace Cert.Scan

/-! ### The whole sequence of one batch entry, 32 chunks of 64 steps -/

/-- Step `t` of chunk `k`, among the 2048 steps. -/
def step (k : ℕ) (t : Fin 64) : Fin 2048 := ⟨(64 * k + t.val) % 2048, Nat.mod_lt _ (by decide)⟩

section
variable (xf : Fin 2048 → Fin 896 → EReal) (wf : Fin 4 → Fin 896 → EReal) (cbf : Fin 896 → EReal)
  (df : Fin 2048 → Fin 6 → EReal) (bias alog dsk : Fin 6 → EReal) (zf : Fin 2048 → Fin 384 → EReal) (nw : Fin 384 → EReal)

/-- The raw row `3 - j` steps before step `T`: zero before the beginning. -/
def back (T : Fin 2048) (l : Fin 896) (j : Fin 4) : EReal :=
  if h : 3 ≤ T.val + j.val then xf ⟨T.val + j.val - 3, by omega⟩ l else 0

/-- The activated rows. -/
def act (T : Fin 2048) (l : Fin 896) : EReal := actOf (cbf l) (fun j => wf j l) (back xf T l)

def xsAt (k : ℕ) (t : Fin 64) (l : Fin 384) : EReal := act xf wf cbf (step k t) ⟨l.val, by omega⟩
def bmAt (k : ℕ) (t : Fin 64) (g : Fin 2) (n : Fin 128) : EReal := act xf wf cbf (step k t) ⟨384 + (g.val * 128 + n.val), by omega⟩
def cmAt (k : ℕ) (t : Fin 64) (g : Fin 2) (n : Fin 128) : EReal := act xf wf cbf (step k t) ⟨640 + (g.val * 128 + n.val), by omega⟩
def dtAt (k : ℕ) (t : Fin 64) (h : Fin 6) : EReal := sp (df (step k t) h + bias h)
def rate (h : Fin 6) : EReal := 0 - Ideal.exp (alog h)

/-- The state after `k` chunks. -/
def state : ℕ → Fin 384 → Fin 128 → EReal
  | 0 => fun _ _ => 0
  | k + 1 => next (dtAt df bias k) (rate alog) (xsAt xf wf cbf k) (bmAt xf wf cbf k) (state k)

/-- The scan's rows, before the gate. -/
def scanRow (k : ℕ) (t : Fin 64) (l : Fin 384) : EReal :=
  yRow (dtAt df bias k) (rate alog) (xsAt xf wf cbf k) (bmAt xf wf cbf k) (cmAt xf wf cbf k) (state xf wf cbf df bias alog k) t l

/-- The result's row at step `T`. -/
def result (T : Fin 2048) (l : Fin 384) : EReal :=
  normed (gated (scanRow xf wf cbf df bias alog (T.val / 64) ⟨T.val % 64, Nat.mod_lt _ (by decide)⟩)
    (xsAt xf wf cbf (T.val / 64) ⟨T.val % 64, Nat.mod_lt _ (by decide)⟩) (zf T) dsk) nw l

end

end Cert.Scan
end
-- ==== Proof.Step.lean ====
module

public import proofs.«01_k».proof.Proof.Body
public import proofs.«01_k».proof.Proof.Whole
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option backward.proofsInPublic true
set_option maxRecDepth 16384

noncomputable section

open Idealize.ShloMosaic Idealize.ShloMosaic.TcCoe Idealize.SL.Sem
open Idealize.ShloMosaic.Pipeline (Dat)
namespace Cert.KernelIdeal.Ssd
open Cert.KernelIdeal Cert.KernelIdeal.Gen Cert.Scan

/-! ### One block of 512 steps of the sequence: block `s` of four -/

section
variable {xf : Fin 2048 → Fin 896 → EReal} {wf : Fin 4 → Fin 896 → EReal} {cbf : Fin 896 → EReal}
  {df : Fin 2048 → Fin 6 → EReal} {bias alog dsk : Fin 6 → EReal} {zf : Fin 2048 → Fin 384 → EReal} {nw : Fin 384 → EReal}
  {s : ℕ} (hs : s < 4) {x0 : Vec Ideal S1x512x1664 .f32} {x1 : Vec Ideal S4x896 .f32} {x2 : Vec Ideal S1x896 .f32} {x3 x4 x5 x6 : Vec Ideal S1x384 .f32}
  {h : Vec Ideal S8x896 .f32}
  (hz : ∀ (r : Fin 512) (l : Fin 384), x0 (ix3 0 r ⟨l.val, by omega⟩) = zf ⟨512 * s + r.val, by omega⟩ l)
  (hx : ∀ (r : Fin 512) (l : Fin 896), x0 (ix3 0 r ⟨384 + l.val, by omega⟩) = xf ⟨512 * s + r.val, by omega⟩ l)
  (hd0 : ∀ (r : Fin 512) (l : Fin 384), x0 (ix3 0 r ⟨1280 + l.val, by omega⟩) = df ⟨512 * s + r.val, by omega⟩ (hd l))
  (h1 : ∀ j l, x1 (ix2 j l) = wf j l) (h2 : ∀ l, x2 (ix2 0 l) = cbf l)
  (h3 : ∀ l, x3 (ix2 0 l) = bias (hd l)) (h4 : ∀ l, x4 (ix2 0 l) = alog (hd l)) (h5 : ∀ l, x5 (ix2 0 l) = dsk (hd l)) (h6 : ∀ l, x6 (ix2 0 l) = nw l)
  (hh : ∀ (r : Fin 8) (l : Fin 896), h (ix2 r l) = if g : s = 0 then 0 else xf ⟨512 * s + r.val - 8, by omega⟩ l)

include hx hh in
theorem ext_row (r : Fin 520) (l : Fin 896) (hr : 8 ≤ r.val ∨ s ≠ 0) : extV h x0 (ix2 r l) = xf ⟨512 * s + r.val - 8, by omega⟩ l := by
  by_cases hr8 : 8 ≤ r.val
  · have e := extV_hi h x0 ⟨r.val - 8, by omega⟩ l
    rw [hx] at e
    have e1 : (⟨8 + (r.val - 8), by omega⟩ : Fin 520) = r := Fin.ext (by show 8 + (r.val - 8) = r.val; omega)
    rw [show (ix2 r l : S520x896.Idx) = ix2 ⟨8 + (r.val - 8), by omega⟩ l by rw [e1], e]
    congr 1
    exact Fin.ext (by show 512 * s + (r.val - 8) = 512 * s + r.val - 8; omega)
  · have e := extV_lo h x0 ⟨r.val, by omega⟩ l
    rw [hh, dif_neg (by omega)] at e
    exact e

include hx hh in
theorem ext_zero (r : Fin 520) (l : Fin 896) (hr : r.val < 8) (g : s = 0) : extV h x0 (ix2 r l) = 0 := by
  have e := extV_lo h x0 ⟨r.val, hr⟩ l
  rw [hh, dif_pos g] at e
  exact e

include hx hh h1 h2 in
theorem xc_row (t : Fin 512) (l : Fin 896) : xcV x1 x2 h x0 (ix2 t l) = act xf wf cbf ⟨512 * s + t.val, by omega⟩ l := by
  have e : ∀ j : Fin 4, extV h x0 (ix2 ⟨5 + j.val + t.val, by omega⟩ l) = back xf ⟨512 * s + t.val, by omega⟩ l j := by
    intro j
    unfold back
    by_cases g : 3 ≤ 512 * s + t.val + j.val
    · rw [dif_pos g, ext_row hs hx hh _ _ (by show 8 ≤ 5 + j.val + t.val ∨ s ≠ 0; omega)]
      congr 1
      exact Fin.ext (by show 512 * s + (5 + j.val + t.val) - 8 = 512 * s + t.val + j.val - 3; omega)
    · rw [dif_neg g, ext_zero hs hx hh _ _ (by show 5 + j.val + t.val < 8; omega) (by omega)]
  rw [xcV_apply, h2, funext e, funext fun j => h1 j l]
  rfl

include hx hh h1 h2 hs in
theorem xc_chunk (c : ℕ) (hc : c < 8) (t : Fin 64) (l : Fin 896) : Xc (xcV x1 x2 h x0) c (ix2 t l) = act xf wf cbf (step (8 * s + c) t) l := by
  show xcV x1 x2 h x0 (ix2 ⟨(64 * c + t.val) % 512, _⟩ l) = _
  rw [xc_row hs hx h1 h2 hh]
  congr 1
  exact Fin.ext (by show 512 * s + (64 * c + t.val) % 512 = (64 * (8 * s + c) + t.val) % 2048; omega)

include hd0 hs in
theorem d_chunk (c : ℕ) (hc : c < 8) (t : Fin 64) (l : Fin 384) : Dc x0 c (ix3 0 t l) = df (step (8 * s + c) t) (hd l) := by
  show x0 (ix3 0 ⟨(64 * c + t.val) % 512, _⟩ ⟨1280 + l.val, _⟩) = _
  rw [hd0]
  congr 1
  exact Fin.ext (by show 512 * s + (64 * c + t.val) % 512 = (64 * (8 * s + c) + t.val) % 2048; omega)

include hz hs in
theorem z_chunk (c : ℕ) (hc : c < 8) (t : Fin 64) (l : Fin 384) : Zc x0 c (ix3 0 t l) = zf (step (8 * s + c) t) l := by
  show x0 (ix3 0 ⟨(64 * c + t.val) % 512, _⟩ ⟨l.val, _⟩) = _
  rw [hz]
  congr 1
  exact Fin.ext (by show 512 * s + (64 * c + t.val) % 512 = (64 * (8 * s + c) + t.val) % 2048; omega)

include hx hh h1 h2 hs in
theorem rows_eq (c : ℕ) (hc : c < 8) : xsOf (Xc (xcV x1 x2 h x0) c) = xsAt xf wf cbf (8 * s + c)
    ∧ bmOf (Xc (xcV x1 x2 h x0) c) = bmAt xf wf cbf (8 * s + c) ∧ cmOf (Xc (xcV x1 x2 h x0) c) = cmAt xf wf cbf (8 * s + c) :=
  ⟨funext fun t => funext fun l => xc_chunk hs hx h1 h2 hh c hc t _,
   funext fun t => funext fun g => funext fun n => xc_chunk hs hx h1 h2 hh c hc t _,
   funext fun t => funext fun g => funext fun n => xc_chunk hs hx h1 h2 hh c hc t _⟩

include hx hh h1 h2 hs hd0 h3 h4 in
theorem fold_state {S : Vec Ideal S256x384 .f32} (hS : S = pack (state xf wf cbf df bias alog (8 * s))) (c : ℕ) (hc : c ≤ 8) :
    foldS x3 x4 (xcV x1 x2 h x0) x0 S c = pack (state xf wf cbf df bias alog (8 * s + c)) := by
  induction c with
  | zero => exact hS
  | succ c ih =>
    obtain ⟨ex, eb, _⟩ := rows_eq hs hx h1 h2 hh c (by omega)
    show chunkSt x3 x4 _ _ (foldS x3 x4 (xcV x1 x2 h x0) x0 S c) = _
    rw [ih (by omega), chunkSt_model (dt := dtAt df bias (8 * s + c)) (A := rate alog) (bias := bias) (alog := alog) (d := fun t h => df (step (8 * s + c) t) h)
      h3 (d_chunk hs hd0 c (by omega)) (fun t h => rfl) h4 (fun h => rfl), ex, eb]
    rfl

include hx hh h1 h2 hs hd0 h3 h4 h5 h6 hz in
theorem out_row {S : Vec Ideal S256x384 .f32} (hS : S = pack (state xf wf cbf df bias alog (8 * s)))
    (hfin : ∀ T h, ∃ r : ℝ, sp (df T h + bias h) * rate alog h = r) (r : Fin 512) (l : Fin 384) :
    outV x3 x4 x5 x6 (xcV x1 x2 h x0) x0 S r l = result xf wf cbf df bias alog dsk zf nw ⟨512 * s + r.val, by omega⟩ l := by
  have hc : r.val / 64 < 8 := by omega
  obtain ⟨ex, eb, ec⟩ := rows_eq hs hx h1 h2 hh (r.val / 64) hc
  unfold outV
  rw [fold_state hs hx hd0 h1 h2 h3 h4 hh hS _ (by omega), chunkY_model (dt := dtAt df bias (8 * s + r.val / 64)) (A := rate alog) (bias := bias) (alog := alog) (dsk := dsk)
      (d := fun t h => df (step (8 * s + r.val / 64) t) h)
      h3 (d_chunk hs hd0 _ hc) (fun t h => rfl) h4 (fun h => rfl) h5 (fun t h => hfin _ h), ex, eb, ec]
  unfold result scanRow
  have e1 : (512 * s + r.val) / 64 = 8 * s + r.val / 64 := by omega
  have e2 : (512 * s + r.val) % 64 = r.val % 64 := by omega
  have ez : (fun l => Zc x0 (r.val / 64) (ix3 0 ⟨r.val % 64, Nat.mod_lt _ (by decide)⟩ l)) = zf ⟨512 * s + r.val, by omega⟩ := by
    funext l
    rw [z_chunk hs hz _ hc]
    congr 1
    exact Fin.ext (by show (64 * (8 * s + r.val / 64) + r.val % 64) % 2048 = 512 * s + r.val; omega)
  have en : (fun l => x6 (ix2 0 l)) = nw := funext h6
  simp only [e1, e2, ez, en]

end
end Cert.KernelIdeal.Ssd
end
-- ==== Proof.Grid.lean ====
module

public import proofs.«01_k».proof.Proof.Gen.KernelIdeal.Value
public import proofs.«01_k».proof.Proof.Blocks
public import proofs.«01_k».proof.Proof.Step
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)
namespace Cert.KernelIdeal.Ssd
open Cert.KernelIdeal Cert.KernelIdeal.Gen Cert.KernelIdeal.Value Cert.Scan

variable (m : (ℓ : Loc nD τ sig) → Buf (Elt Ideal) ℓ) (c : Dev nD)

/-- The arguments of one batch entry, read as functions. -/
abbrev zF (b : Fin 8) : Fin 2048 → Fin 384 → EReal := fun T l => m ((c : Thread nD τ).loc main_arg0) (ix3 b T l)
abbrev xF (b : Fin 8) : Fin 2048 → Fin 896 → EReal := fun T l => m ((c : Thread nD τ).loc main_arg1) (ix3 b T l)
abbrev dF (b : Fin 8) : Fin 2048 → Fin 6 → EReal := fun T h => m ((c : Thread nD τ).loc main_arg2) (ix3 b T h)
abbrev wF : Fin 4 → Fin 896 → EReal := fun j l => m ((c : Thread nD τ).loc main_arg3) (ix2 j l)
abbrev cbF : Fin 896 → EReal := fun l => m ((c : Thread nD τ).loc main_arg4) (ix1 l)
abbrev biasF : Fin 6 → EReal := fun h => m ((c : Thread nD τ).loc main_arg5) (ix1 h)
abbrev alogF : Fin 6 → EReal := fun h => m ((c : Thread nD τ).loc main_arg6) (ix1 h)
abbrev dskF : Fin 6 → EReal := fun h => m ((c : Thread nD τ).loc main_arg7) (ix1 h)
abbrev nwF : Fin 384 → EReal := fun l => m ((c : Thread nD τ).loc main_arg8) (ix1 l)

abbrev stF (b : Fin 8) : ℕ → Fin 384 → Fin 128 → EReal := state (xF m c b) (wF m c) (cbF m c) (dF m c b) (biasF m c) (alogF m c)
abbrev resF (b : Fin 8) : Fin 2048 → Fin 384 → EReal :=
  result (xF m c b) (wF m c) (cbF m c) (dF m c b) (biasF m c) (alogF m c) (dskF m c) (zF m c b) (nwF m c)

/-- The batch entry of a point, and its block. -/
def bt (n : ℕ) (hn : n < cfg0.N) : Fin 8 := ⟨n / 4, by have : cfg0.N = 32 := N_0; omega⟩

theorem hz (t : Fin cfg0.N) (r : Fin 512) (l : Fin 384) : iblk m c 0 t (ix3 0 r ⟨l.val, by omega⟩) = zF m c (bt t.val t.isLt) ⟨512 * (t.val % 4) + r.val, by omega⟩ l := by
  rw [b0 m c t (bt t.val t.isLt) rfl]
  have e := v2_z m c (bt t.val t.isLt) ⟨512 * (t.val % 4) + r.val, by omega⟩ l
  exact e

theorem hx (t : Fin cfg0.N) (r : Fin 512) (l : Fin 896) : iblk m c 0 t (ix3 0 r ⟨384 + l.val, by omega⟩) = xF m c (bt t.val t.isLt) ⟨512 * (t.val % 4) + r.val, by omega⟩ l := by
  rw [b0 m c t (bt t.val t.isLt) rfl]
  exact v2_x m c (bt t.val t.isLt) ⟨512 * (t.val % 4) + r.val, by omega⟩ l

theorem hd0 (t : Fin cfg0.N) (r : Fin 512) (l : Fin 384) : iblk m c 0 t (ix3 0 r ⟨1280 + l.val, by omega⟩) = dF m c (bt t.val t.isLt) ⟨512 * (t.val % 4) + r.val, by omega⟩ (hd l) := by
  rw [b0 m c t (bt t.val t.isLt) rfl]
  exact v2_d m c (bt t.val t.isLt) ⟨512 * (t.val % 4) + r.val, by omega⟩ l

/-- What holds after point `n`: the block's rows written, the state, the raw rows kept. -/
structure Inv (n : ℕ) (hn : n < cfg0.N) (acc : Vec Ideal S1x512x384 .f32 × Vec Ideal S256x384 .f32 × Vec Ideal S520x896 .f32) : Prop where
  out : ∀ (r : Fin 512) (l : Fin 384), acc.1 (ix3 0 r l) = resF m c (bt n hn) ⟨512 * (n % 4) + r.val, by omega⟩ l
  st : acc.2.1 = pack (stF m c (bt n hn) (8 * (n % 4) + 8))
  ext : ∀ (r : Fin 512) (l : Fin 896), acc.2.2 (ix2 ⟨8 + r.val, by omega⟩ l) = xF m c (bt n hn) ⟨512 * (n % 4) + r.val, by omega⟩ l

section
variable (hfin : ∀ b T h, ∃ r : ℝ, sp (dF m c b T h + biasF m c h) * rate (alogF m c) h = r)
include hfin

theorem inv_A (t : Fin cfg0.N) (acc : Vec Ideal S1x512x384 .f32 × Vec Ideal S256x384 .f32 × Vec Ideal S520x896 .f32) (h0 : t.val % 4 = 0) : Inv m c t.val t.isLt (stAt0 m c t.val t.isLt acc) := by
  have hs : t.val % 4 < 4 := by omega
  have hh : ∀ (r : Fin 8) (l : Fin 896), (k0_pay3 (F := Ideal)) (ix2 r l) = if g : t.val % 4 = 0 then 0 else xF m c (bt t.val t.isLt) ⟨512 * (t.val % 4) + r.val - 8, by omega⟩ l := by
    intro r l; rw [dif_pos h0]; exact pay3_apply _
  have hS : (k0_pay2 (F := Ideal)) = pack (stF m c (bt t.val t.isLt) (8 * (t.val % 4))) := by
    rw [pay2_eq, h0]; rfl
  rw [stAt0_A m c t acc h0 (by omega)]
  refine ⟨fun r l => ?_, ?_, fun r l => ?_⟩
  · dsimp only
    rw [out_A]
    exact out_row hs (hz m c t) (hx m c t) (hd0 m c t) (b1 m c t) (b2 m c t) (b3 m c t) (b4 m c t) (b5 m c t) (b6 m c t) hh hS (hfin _) r l
  · dsimp only
    rw [sout_A_0]
    exact fold_state hs (hx m c t) (hd0 m c t) (b1 m c t) (b2 m c t) (b3 m c t) (b4 m c t) hh hS 8 (by omega)
  · dsimp only
    rw [sout_A_1, extV_hi]
    exact hx m c t r l

theorem inv_B (t : Fin cfg0.N) (acc : Vec Ideal S1x512x384 .f32 × Vec Ideal S256x384 .f32 × Vec Ideal S520x896 .f32) (h0 : ¬t.val % 4 = 0)
    (hp : t.val - 1 < cfg0.N) (ih : Inv m c (t.val - 1) hp acc) : Inv m c t.val t.isLt (stAt0 m c t.val t.isLt acc) := by
  have hs : t.val % 4 < 4 := by omega
  have hb : bt (t.val - 1) hp = bt t.val t.isLt := Fin.ext (by show (t.val - 1) / 4 = t.val / 4; omega)
  have hn : (t.val - 1) % 4 = t.val % 4 - 1 := by omega
  have hh : ∀ (r : Fin 8) (l : Fin 896), (keep acc.2.2) (ix2 r l) = if g : t.val % 4 = 0 then 0 else xF m c (bt t.val t.isLt) ⟨512 * (t.val % 4) + r.val - 8, by omega⟩ l := by
    intro r l
    have e := ih.ext ⟨504 + r.val, by omega⟩ l
    rw [dif_neg h0, keep_apply, show (ix2 ⟨512 + r.val, by omega⟩ l : S520x896.Idx) = ix2 ⟨8 + (504 + r.val), by omega⟩ l from by congr 1; exact Fin.ext (by show 512 + r.val = 8 + (504 + r.val); omega), e, hb]
    show xF m c _ _ l = xF m c _ _ l
    congr 1
    exact Fin.ext (by show 512 * ((t.val - 1) % 4) + (504 + r.val) = 512 * (t.val % 4) + r.val - 8; omega)
  have hS : acc.2.1 = pack (stF m c (bt t.val t.isLt) (8 * (t.val % 4))) := by
    rw [ih.st, hb]
    congr 2
    omega
  rw [stAt0_B m c t acc h0 (by omega)]
  refine ⟨fun r l => ?_, ?_, fun r l => ?_⟩
  · dsimp only
    rw [out_B]
    exact out_row hs (hz m c t) (hx m c t) (hd0 m c t) (b1 m c t) (b2 m c t) (b3 m c t) (b4 m c t) (b5 m c t) (b6 m c t) hh hS (hfin _) r l
  · dsimp only
    rw [sout_B_0]
    exact fold_state hs (hx m c t) (hd0 m c t) (b1 m c t) (b2 m c t) (b3 m c t) (b4 m c t) hh hS 8 (by omega)
  · dsimp only
    rw [sout_B_1, extV_hi]
    exact hx m c t r l

theorem inv_all (n : ℕ) (hn : 0 + n < cfg0.N) : Inv m c (0 + n) hn (Pipeline.accAt (fun n h => stAt0 m c n h junk0) (stAt0 m c) 0 n hn) := by
  induction n with
  | zero => exact inv_A m c hfin ⟨0, hn⟩ junk0 rfl
  | succ n ih =>
    have hn' : 0 + n < cfg0.N := by omega
    have ih' := ih hn'
    show Inv m c (0 + (n + 1)) hn (stAt0 m c (0 + (n + 1)) hn _)
    by_cases h0 : (0 + (n + 1)) % 4 = 0
    · exact inv_A m c hfin ⟨0 + (n + 1), hn⟩ _ h0
    · exact inv_B m c hfin ⟨0 + (n + 1), hn⟩ _ h0 hn' ih'

/-- The array the kernel writes. -/
theorem G7_apply (b : Fin 8) (T : Fin 2048) (l : Fin 384) : G7 m c (ix3 b T l) = resF m c b T l := by
  have hN : cfg0.N = 32 := N_0
  have hp : pt7Of (ix3 b T l) = 4 * b.val + T.val / 512 := by
    show 4 * (b.val / 1 - 0) + 1 * (T.val / 512 - 0) + 1 * (l.val / 384 - 0) = _
    omega
  have hlt : pt7Of (ix3 b T l) < cfg0.N := by omega
  have hloc : loc7Of (ix3 b T l) = ix3 0 ⟨T.val % 512, Nat.mod_lt _ (by decide)⟩ l := by
    funext a
    match a with
    | ⟨0, _⟩ => exact Fin.ext (by show b.val % 1 = 0; omega)
    | ⟨1, _⟩ => rfl
    | ⟨2, _⟩ => exact Fin.ext (by show l.val % 384 = l.val; omega)
  unfold G7
  rw [dif_pos hlt, hloc, (inv_all m c hfin (pt7Of (ix3 b T l)) (by omega)).out]
  have hb : bt (0 + pt7Of (ix3 b T l)) (by omega) = b := Fin.ext (by show (0 + pt7Of (ix3 b T l)) / 4 = b.val; omega)
  rw [hb]
  congr 1
  exact Fin.ext (by show 512 * ((0 + pt7Of (ix3 b T l)) % 4) + T.val % 512 = T.val; omega)

end
end Cert.KernelIdeal.Ssd
end
-- ==== Proof.RefRead.lean ====
module

public import proofs.«01_k».proof.Proof.Gen.ReferenceIdeal.Run
public import proofs.«01_k».proof.Proof.Whole
public import Idealize.ShloMosaic.Lib.Pointwise
public import Idealize.ShloMosaic.Lib.Pipeline.ValueKit

@[expose] public section

set_option backward.proofsInPublic true
set_option maxRecDepth 16384

noncomputable section

open Idealize.ShloMosaic Idealize.ShloMosaic.TcCoe Idealize.SL.Sem
namespace Cert.ReferenceIdeal.Ssd
open Cert.ReferenceIdeal Cert.ReferenceIdeal.Gen Cert.ReferenceIdeal.Value Cert.Scan

/-! ### The running sum over a chunk -/

theorem foldl_add_sum {α : Type} (g : α → EReal) : ∀ (l : List α) (v : EReal), l.foldl (fun r n => r + g n) v = v + (l.map g).sum
  | [], v => by simp
  | a :: l, v => by rw [List.foldl_cons, foldl_add_sum g l, List.map_cons, List.sum_cons, add_assoc]

/-- A window of the chunk's length along the middle axis is a coordinate on that axis. -/
def midEquiv : (⟨3, ![1, 64, 1]⟩ : Shape).Idx ≃ Fin 64 where
  toFun i := i 1
  invFun w := fun a => match a with
    | ⟨0, _⟩ => (0 : Fin 1)
    | ⟨1, _⟩ => w
    | ⟨2, _⟩ => (0 : Fin 1)
  left_inv i := by
    funext a
    match a with
    | ⟨0, _⟩ => exact (Fin.eq_zero (i 0)).symm
    | ⟨1, _⟩ => rfl
    | ⟨2, _⟩ => exact (Fin.eq_zero (i 2)).symm
  right_inv w := rfl

/-- What the window's position `w` at time `t` holds: the entry `63 - w` steps back, or nothing. -/
theorem window_sum (f : Fin 64 → EReal) (t : Fin 64) :
    (∑ w : Fin 64, if h : 63 ≤ t.val + w.val then f ⟨t.val + w.val - 63, by omega⟩ else 0) = ∑ u : Fin 64, if u ≤ t then f u else 0 := by
  refine Fintype.sum_equiv (Equiv.addLeft (t + 1)) _ _ fun w => ?_
  have hv : ((Equiv.addLeft (t + 1)) w).val = (t.val + 1 + w.val) % 64 := by
    rw [Equiv.coe_addLeft, Fin.val_add, Fin.val_add]
    show ((t.val + 1) % 64 + w.val) % 64 = _
    omega
  by_cases h : 63 ≤ t.val + w.val
  · have e : (Equiv.addLeft (t + 1)) w = ⟨t.val + w.val - 63, by omega⟩ := Fin.ext (by rw [hv]; show _ = t.val + w.val - 63; omega)
    rw [dif_pos h, e, if_pos (by rw [Fin.le_def]; show t.val + w.val - 63 ≤ t.val; omega)]
  · rw [dif_neg h, if_neg]
    rw [Fin.le_def, hv]
    omega

/-- The running sum along the middle axis, as the reference writes it: a window of the whole length, padded low by one less. -/
theorem cumsum_mid (x : FVec Ideal S8x64x6 .f32) (init : FVec Ideal S_ .f32) (hinit : init ix0 = (0 : EReal))
    (h : S8x64x6.ReduceWindows (![1, 64, 1] : Fin 3 → Nat) ![1, 1, 1] ![0, 63, 0] ![0, 0, 0] S8x64x6) (hu : 0 < S_.numel)
    (b : Fin 8) (t : Fin 64) (g : Fin 6) :
    Host.reduceWindowAdd (F := Ideal) (s := S8x64x6) ![1, 64, 1] ![1, 1, 1] ![0, 63, 0] ![0, 0, 0] x init h hu (ix3 b t g)
      = ∑ u : Fin 64, if u ≤ t then (x (ix3 b u g) : EReal) else 0 := by
  have hv : (init (Shape.Idx.first hu) : EReal) = 0 := (congrArg init (funext fun a => a.elim0)).trans hinit
  show Host.reduceWindow (fun a b : EReal => a + b) (s := S8x64x6) ![1, 64, 1] ![1, 1, 1] ![0, 63, 0] ![0, 0, 0] x (fun _ : (⟨0, ![]⟩ : Shape).Idx => init (Shape.Idx.first hu)) h (by decide) (ix3 b t g) = _
  rw [hv]
  unfold Host.reduceWindow
  dsimp only
  refine (foldl_add_sum _ _ _).trans ?_
  rw [zero_add, ← Fin.sum_univ_def, ← window_sum (fun u => x (ix3 b u g)) t]
  refine Fintype.sum_equiv ((Shape.rowMajor ⟨3, ![1, 64, 1]⟩).symm.trans midEquiv) _ _ fun n => ?_
  have hn : ((Shape.rowMajor ⟨3, ![1, 64, 1]⟩).symm.trans midEquiv) n = (Shape.rowMajor ⟨3, ![1, 64, 1]⟩).symm n 1 := rfl
  have w0 : ((Shape.rowMajor ⟨3, ![1, 64, 1]⟩).symm n 0).val = 0 := by have := ((Shape.rowMajor ⟨3, ![1, 64, 1]⟩).symm n 0).isLt; change _ < 1 at this; omega
  have w2 : ((Shape.rowMajor ⟨3, ![1, 64, 1]⟩).symm n 2).val = 0 := by have := ((Shape.rowMajor ⟨3, ![1, 64, 1]⟩).symm n 2).isLt; change _ < 1 at this; omega
  have w1 : ((Shape.rowMajor ⟨3, ![1, 64, 1]⟩).symm n 1).val < 64 := ((Shape.rowMajor ⟨3, ![1, 64, 1]⟩).symm n 1).isLt
  rw [hn]
  by_cases hc : 63 ≤ t.val + ((Shape.rowMajor ⟨3, ![1, 64, 1]⟩).symm n 1).val
  · rw [dif_pos hc, dif_pos]
    · refine congrArg x (funext fun a => Fin.ext ?_)
      match a with
      | ⟨0, _⟩ => show b.val * 1 + ((Shape.rowMajor ⟨3, ![1, 64, 1]⟩).symm n 0).val - 0 = b.val; omega
      | ⟨1, _⟩ => show t.val * 1 + ((Shape.rowMajor ⟨3, ![1, 64, 1]⟩).symm n 1).val - 63 = t.val + ((Shape.rowMajor ⟨3, ![1, 64, 1]⟩).symm n 1).val - 63; omega
      | ⟨2, _⟩ => show g.val * 1 + ((Shape.rowMajor ⟨3, ![1, 64, 1]⟩).symm n 2).val - 0 = g.val; omega
    · intro a
      match a with
      | ⟨0, _⟩ => show 0 ≤ b.val * 1 + ((Shape.rowMajor ⟨3, ![1, 64, 1]⟩).symm n 0).val ∧ b.val * 1 + ((Shape.rowMajor ⟨3, ![1, 64, 1]⟩).symm n 0).val - 0 < 8; omega
      | ⟨1, _⟩ => show 63 ≤ t.val * 1 + ((Shape.rowMajor ⟨3, ![1, 64, 1]⟩).symm n 1).val ∧ t.val * 1 + ((Shape.rowMajor ⟨3, ![1, 64, 1]⟩).symm n 1).val - 63 < 64; omega
      | ⟨2, _⟩ => show 0 ≤ g.val * 1 + ((Shape.rowMajor ⟨3, ![1, 64, 1]⟩).symm n 2).val ∧ g.val * 1 + ((Shape.rowMajor ⟨3, ![1, 64, 1]⟩).symm n 2).val - 0 < 6; omega
  · rw [dif_neg hc, dif_neg]
    intro hall
    have h1 := (hall 1).1
    change 63 ≤ t.val * 1 + ((Shape.rowMajor ⟨3, ![1, 64, 1]⟩).symm n 1).val at h1
    omega

/-! ### What one trip reads -/

variable (V0 : Valuation τ sig (Elt Ideal)) (k : ℕ)

theorem start_word (hk : k < 32) : (BitVec.ofNat 32 k).toInt = (k : ℤ) := by interval_cases k <;> rfl

theorem starts5 (hk : k < 32) (hctr : V0 (Proc.devRef .tc main_v67_7) = fun _ => BitVec.ofNat 32 k) :
    (fun a => ((![V0 (Proc.devRef .tc main_v67_7), constantI S_ 32 0#32, constantI S_ 32 0#32, constantI S_ 32 0#32,
      constantI S_ 32 0#32] : Fin 5 → (⟨S_, .i32⟩ : BufTy).Contents (Elt Ideal)) a (Shape.Idx.first h_S_)).toInt) = ![(k : ℤ), 0, 0, 0, 0] := by
  rw [hctr]
  funext a
  match a with
  | ⟨0, _⟩ => exact start_word k hk
  | ⟨1, _⟩ => rfl
  | ⟨2, _⟩ => rfl
  | ⟨3, _⟩ => rfl
  | ⟨4, _⟩ => rfl

theorem starts4 (hk : k < 32) (hctr : V0 (Proc.devRef .tc main_v67_7) = fun _ => BitVec.ofNat 32 k) :
    (fun a => ((![V0 (Proc.devRef .tc main_v67_7), constantI S_ 32 0#32, constantI S_ 32 0#32, constantI S_ 32 0#32]
      : Fin 4 → (⟨S_, .i32⟩ : BufTy).Contents (Elt Ideal)) a (Shape.Idx.first h_S_)).toInt) = ![(k : ℤ), 0, 0, 0] := by
  rw [hctr]
  funext a
  match a with
  | ⟨0, _⟩ => exact start_word k hk
  | ⟨1, _⟩ => rfl
  | ⟨2, _⟩ => rfl
  | ⟨3, _⟩ => rfl

variable (hk : k < 32) (hctr : V0 (Proc.devRef .tc main_v67_7) = fun _ => BitVec.ofNat 32 k)
include hctr

theorem v89_eq (b : Fin 8) (t : Fin 64) (h : Fin 6) (p : Fin 64) :
    res_main_while0b_v89 V0 (ix4 b t h p) = V0 (Proc.devRef .tc main_v67_0) (ix5 ⟨k, hk⟩ b t h p) := by
  unfold res_main_while0b_v89
  pointwise []
  congr 1
  congr 1 <;> apply Fin.ext <;> simp [Host.clampedStart, hctr, start_word k hk, constantI]
  omega

theorem v90_eq (b : Fin 8) (t : Fin 64) (h : Fin 6) :
    res_main_while0b_v90 V0 (ix3 b t h) = V0 (Proc.devRef .tc main_v67_1) (ix4 ⟨k, hk⟩ b t h) := by
  unfold res_main_while0b_v90
  pointwise []
  congr 1
  congr 1 <;> apply Fin.ext <;> simp [Host.clampedStart, hctr, start_word k hk, constantI]
  omega

theorem v94_eq (b : Fin 8) (t : Fin 64) (h : Fin 6) (n : Fin 128) :
    res_main_while0b_v94 V0 (ix4 b t h n) = V0 (Proc.devRef .tc main_v67_2) (ix5 ⟨k, hk⟩ b t (gp h) n) := by
  unfold res_main_while0b_v94
  pointwise []
  congr 1
  congr 1 <;> apply Fin.ext <;> simp [Host.clampedStart, hctr, start_word k hk, constantI, gp]
  omega

theorem v96_eq (b : Fin 8) (t : Fin 64) (h : Fin 6) (n : Fin 128) :
    res_main_while0b_v96 V0 (ix4 b t h n) = V0 (Proc.devRef .tc main_v67_3) (ix5 ⟨k, hk⟩ b t (gp h) n) := by
  unfold res_main_while0b_v96
  pointwise []
  congr 1
  congr 1 <;> apply Fin.ext <;> simp [Host.clampedStart, hctr, start_word k hk, constantI, gp]
  omega

theorem v100_eq (b : Fin 8) (t : Fin 64) (h : Fin 6) :
    res_main_while0b_v100 V0 (ix3 b t h)
      = cum (fun u g => V0 (Proc.devRef .tc main_v67_1) (ix4 ⟨k, hk⟩ b u g)) (fun g => V0 (Proc.devRef .tc main_v67_4) (ix1 g)) t h := by
  unfold res_main_while0b_v100
  refine (cumsum_mid _ _ ?_ _ _ b t h).trans ?_
  · pointwise []
  · unfold cum
    refine Finset.sum_congr rfl fun u _ => ?_
    pointwise []
    rw [v90_eq V0 k hk hctr]
    rfl

/-- The carried state, at its lanes. -/
def stOf (b : Fin 8) : Fin 384 → Fin 128 → EReal := fun l n => V0 (Proc.devRef .tc main_v67_8) (ix4 b (hd l) (ps l) n)
/-- The step sizes of chunk `k`. -/
def dtOf (k : Fin 32) (b : Fin 8) : Fin 64 → Fin 6 → EReal := fun u g => V0 (Proc.devRef .tc main_v67_1) (ix4 k b u g)
def rateOf : Fin 6 → EReal := fun g => V0 (Proc.devRef .tc main_v67_4) (ix1 g)
def dskOf : Fin 6 → EReal := fun g => V0 (Proc.devRef .tc main_v67_6) (ix1 g)
/-- The inputs of chunk `k`. -/
def xsOf (k : Fin 32) (b : Fin 8) : Fin 64 → Fin 384 → EReal := fun s l => V0 (Proc.devRef .tc main_v67_0) (ix5 k b s (hd l) (ps l))
def bmOf (k : Fin 32) (b : Fin 8) : Fin 64 → Fin 2 → Fin 128 → EReal := fun s g n => V0 (Proc.devRef .tc main_v67_2) (ix5 k b s g n)
def cmOf (k : Fin 32) (b : Fin 8) : Fin 64 → Fin 2 → Fin 128 → EReal := fun s g n => V0 (Proc.devRef .tc main_v67_3) (ix5 k b s g n)

/-- One trip's state. -/
theorem step8 (b : Fin 8) (h : Fin 6) (p : Fin 64) (n : Fin 128) :
    step_main_v67_8 V0 (ix4 b h p n)
      = next (dtOf V0 ⟨k, hk⟩ b) (rateOf V0) (xsOf V0 ⟨k, hk⟩ b) (bmOf V0 ⟨k, hk⟩ b) (stOf V0 b) (lane h p) n := by
  unfold step_main_v67_8
  rw [id]
  pointwise []
  unfold next stOf xsOf bmOf
  simp only [v100_eq V0 k hk hctr, v90_eq V0 k hk hctr, v89_eq V0 k hk hctr, v94_eq V0 k hk hctr, hd_lane, ps_lane]
  rfl

omit hctr in
/-- Writing one chunk's slice. -/
theorem upd_eq (x : FVec Ideal S32x8x64x6x64 .f32) (u : FVec Ideal S1x8x64x6x64 .f32) (start : Fin 5 → Int)
    (hs : start = ![(k : ℤ), 0, 0, 0, 0]) (hk : k < 32) (hf : S32x8x64x6x64.Slices (fun _ => 0) S1x8x64x6x64)
    (j : Fin 32) (b : Fin 8) (t : Fin 64) (h : Fin 6) (p : Fin 64) :
    Host.dynamicUpdateSlice x u start hf (ix5 j b t h p) = if j.val = k then u (ix5 0 b t h p) else x (ix5 j b t h p) := by
  subst hs
  have hc : ∀ a : Fin 5, Host.clampedStart S32x8x64x6x64 S1x8x64x6x64 hf.1 ![(k : ℤ), 0, 0, 0, 0] a = if a = 0 then k else 0 := by
    intro a
    match a with
    | ⟨0, _⟩ => simp [Host.clampedStart]; omega
    | ⟨1, _⟩ => rfl
    | ⟨2, _⟩ => rfl
    | ⟨3, _⟩ => rfl
    | ⟨4, _⟩ => rfl
  rw [Host.dynamicUpdateSlice_apply]
  by_cases hj : j.val = k
  · rw [if_pos hj, dif_pos]
    · refine congrArg u (funext fun a => Fin.ext ?_)
      match a with
      | ⟨0, _⟩ => show j.val - Host.clampedStart S32x8x64x6x64 S1x8x64x6x64 hf.1 ![(k : ℤ), 0, 0, 0, 0] 0 = 0; rw [hc]; simp [hj]
      | ⟨1, _⟩ => rfl
      | ⟨2, _⟩ => rfl
      | ⟨3, _⟩ => rfl
      | ⟨4, _⟩ => rfl
    · intro a
      rw [show Host.clampedStart S32x8x64x6x64 S1x8x64x6x64 hf.1 ![(k : ℤ), 0, 0, 0, 0] a = _ from hc a]
      match a with
      | ⟨0, _⟩ => show k ≤ j.val ∧ j.val < k + 1; omega
      | ⟨1, _⟩ => exact ⟨Nat.zero_le _, by show b.val < 0 + 8; omega⟩
      | ⟨2, _⟩ => exact ⟨Nat.zero_le _, by show t.val < 0 + 64; omega⟩
      | ⟨3, _⟩ => exact ⟨Nat.zero_le _, by show h.val < 0 + 6; omega⟩
      | ⟨4, _⟩ => exact ⟨Nat.zero_le _, by show p.val < 0 + 64; omega⟩
  · rw [if_neg hj, dif_neg]
    intro hall
    have h0 := hall 0
    rw [show Host.clampedStart S32x8x64x6x64 S1x8x64x6x64 hf.1 ![(k : ℤ), 0, 0, 0, 0] 0 = _ from hc 0] at h0
    change k ≤ j.val ∧ j.val < k + 1 at h0
    omega

include hk in
/-- One trip's rows. -/
theorem step9 (hmask : ∀ t s : Fin 64, V0 (Proc.devRef .tc main_v67_5) (ix4 0 t s 0) = BitVec.ofBool (decide (s ≤ t)))
    (j : Fin 32) (b : Fin 8) (t : Fin 64) (h : Fin 6) (p : Fin 64) :
    step_main_v67_9 V0 (ix5 j b t h p)
      = if j.val = k then
          yRow (dtOf V0 ⟨k, hk⟩ b) (rateOf V0) (xsOf V0 ⟨k, hk⟩ b) (bmOf V0 ⟨k, hk⟩ b) (cmOf V0 ⟨k, hk⟩ b) (stOf V0 b) t (lane h p)
            + dskOf V0 h * xsOf V0 ⟨k, hk⟩ b t (lane h p)
        else V0 (Proc.devRef .tc main_v67_9) (ix5 j b t h p) := by
  unfold step_main_v67_9
  rw [id]
  refine (upd_eq k _ _ _ (starts5 V0 k hk hctr) hk _ j b t h p).trans ?_
  refine if_congr Iff.rfl ?_ rfl
  pointwise []
  unfold yRow score decay stOf xsOf bmOf cmOf
  simp only [v100_eq V0 k hk hctr, v90_eq V0 k hk hctr, v89_eq V0 k hk hctr, v94_eq V0 k hk hctr, v96_eq V0 k hk hctr, hd_lane, ps_lane, hmask]
  have hbot : Ideal.exp ((id (constant (F := Ideal) S_ FTy.f32 4286578688#32) : FVec Ideal S_ .f32) ix0) = 0 := by
    have e : ((id (constant (F := Ideal) S_ FTy.f32 4286578688#32) : FVec Ideal S_ .f32) ix0) = (⊥ : EReal) := by
      rw [id]
      pointwise []
      simp [Ideal.ofBits, Ideal.ieee]
    rw [e, Ideal.exp_bot]
  refine congrArg₂ (· + ·) (congrArg₂ (· + ·) (Finset.sum_congr rfl fun x _ => ?_) (congrArg₂ (· * ·) (Finset.sum_congr rfl fun x _ => mul_comm _ _) rfl)) rfl
  rw [mul_comm]
  refine congrArg₂ (· * ·) (congrArg₂ (· * ·) (Finset.sum_congr rfl fun n _ => mul_comm _ _) ?_) rfl
  by_cases hx : x ≤ t
  · rw [if_pos (show x.val ≤ t.val from hx), decide_eq_true hx]
    rfl
  · rw [if_neg (show ¬ x.val ≤ t.val from hx), decide_eq_false hx]
    exact hbot

end Cert.ReferenceIdeal.Ssd
end
-- ==== Proof.RefEntry.lean ====
module

public import proofs.«01_k».proof.Proof.Gen.ReferenceIdeal.Run
public import proofs.«01_k».proof.Proof.Whole
public import proofs.«01_k».proof.Proof.RefRead
public import Idealize.ShloMosaic.Lib.Pointwise
public import Idealize.ShloMosaic.Lib.Tactic.WordOmega
public import Idealize.ShloMosaic.Lib.Pipeline.ValueKit

@[expose] public section

set_option backward.proofsInPublic true
set_option maxRecDepth 16384

noncomputable section

open Idealize.ShloMosaic Idealize.ShloMosaic.TcCoe Idealize.SL.Sem
namespace Cert.ReferenceIdeal.Ssd
open Cert.ReferenceIdeal Cert.ReferenceIdeal.Gen Cert.ReferenceIdeal.Value Cert.Scan
open Idealize.ShloMosaic.StableHlo Idealize.ShloMosaic.Tactic

/-! ### What the loop starts from -/

/-- The raw rows behind three rows of zeros. -/
def padR (X : FVec Ideal S8x2048x896 .f32) : FVec Ideal S8x2051x896 .f32 :=
  concatenate S8x2051x896 1 [⟨S8x3x896, broadcastInDim S8x3x896 ![] bcast_S_S8x3x896 (constant (F := Ideal) S_ .f32 0x00000000#32)⟩, ⟨S8x2048x896, X⟩] concatenates_S8x3x896_S8x2048x896_S8x2051x896_d1

/-- The convolution as the reference sums it. -/
def convR (X : FVec Ideal S8x2048x896 .f32) (W : FVec Ideal S4x896 .f32) (C : FVec Ideal S896 .f32) : FVec Ideal S8x2048x896 .f32 :=
  addf (broadcastInDim S8x2048x896 ![0, 1, 2] bcast_S1x1x896_S8x2048x896_0_1_2 (broadcastInDim S1x1x896 ![2] bcast_S896_S1x1x896_2 C))
    (addf (addf (addf (addf (broadcastInDim S8x2048x896 ![] bcast_S_S8x2048x896 (constant S_ .f32 0x00000000#32))
      (mulf (extractStridedSlice S8x2048x896 ![0, 0, 0] (padR X) slices_S8x2051x896_S8x2048x896_0_0_0) (broadcastInDim S8x2048x896 ![0, 1, 2] bcast_S1x1x896_S8x2048x896_0_1_2 (broadcastInDim S1x1x896 ![2] bcast_S896_S1x1x896_2 (shapeCast S896 (extractStridedSlice S1x896 ![0, 0] W slices_S4x896_S1x896_0_0) shapeCasts_S1x896_S896)))))
      (mulf (extractStridedSlice S8x2048x896 ![0, 1, 0] (padR X) slices_S8x2051x896_S8x2048x896_0_1_0) (broadcastInDim S8x2048x896 ![0, 1, 2] bcast_S1x1x896_S8x2048x896_0_1_2 (broadcastInDim S1x1x896 ![2] bcast_S896_S1x1x896_2 (shapeCast S896 (extractStridedSlice S1x896 ![1, 0] W slices_S4x896_S1x896_1_0) shapeCasts_S1x896_S896)))))
      (mulf (extractStridedSlice S8x2048x896 ![0, 2, 0] (padR X) slices_S8x2051x896_S8x2048x896_0_2_0) (broadcastInDim S8x2048x896 ![0, 1, 2] bcast_S1x1x896_S8x2048x896_0_1_2 (broadcastInDim S1x1x896 ![2] bcast_S896_S1x1x896_2 (shapeCast S896 (extractStridedSlice S1x896 ![2, 0] W slices_S4x896_S1x896_2_0) shapeCasts_S1x896_S896)))))
      (mulf (extractStridedSlice S8x2048x896 ![0, 3, 0] (padR X) slices_S8x2051x896_S8x2048x896_0_3_0) (broadcastInDim S8x2048x896 ![0, 1, 2] bcast_S1x1x896_S8x2048x896_0_1_2 (broadcastInDim S1x1x896 ![2] bcast_S896_S1x1x896_2 (shapeCast S896 (extractStridedSlice S1x896 ![3, 0] W slices_S4x896_S1x896_3_0) shapeCasts_S1x896_S896)))))

/-- The activation. -/
def actR (X : FVec Ideal S8x2048x896 .f32) (W : FVec Ideal S4x896 .f32) (C : FVec Ideal S896 .f32) : FVec Ideal S8x2048x896 .f32 :=
  mulf (convR X W C) (Host.divf (broadcastInDim S8x2048x896 ![] bcast_S_S8x2048x896 (constant S_ .f32 0x3F800000#32)) (addf (broadcastInDim S8x2048x896 ![] bcast_S_S8x2048x896 (constant S_ .f32 0x3F800000#32)) (Host.exp (Host.negf (convR X W C)))))

/-- The softplus as the reference computes it. -/
def spR (D : FVec Ideal S8x2048x6 .f32) (bias : FVec Ideal S6 .f32) : FVec Ideal S8x2048x6 .f32 :=
  let v := addf D (broadcastInDim S8x2048x6 ![0, 1, 2] bcast_S1x1x6_S8x2048x6_0_1_2 (broadcastInDim S1x1x6 ![2] bcast_S6_S1x1x6_2 bias))
  let z : FVec Ideal S8x2048x6 .f32 := (broadcastInDim S8x2048x6 ![] bcast_S_S8x2048x6 (constant S_ .f32 0x00000000#32))
  select (cmpf .une (subf v z) (subf v z)) (addf v z) (addf (maximumf v z) (Host.log1p (Host.exp (Host.negf (Host.absf (subf v z))))))

theorem padR_apply (X : FVec Ideal S8x2048x896 .f32) (b : Fin 8) (T : Fin 2051) (l : Fin 896) :
    padR X (ix3 b T l) = if h : 3 ≤ T.val then (X (ix3 b ⟨T.val - 3, by omega⟩ l) : EReal) else 0 := by
  pointwise [padR]
  by_cases h : 3 ≤ T.val
  · rw [dif_pos h, dif_neg (show ¬ T.val < 3 by omega)]
  · rw [dif_neg h, dif_pos (show T.val < 3 by omega)]

variable (X : FVec Ideal S8x2048x896 .f32) (W : FVec Ideal S4x896 .f32) (C : FVec Ideal S896 .f32) (D : FVec Ideal S8x2048x6 .f32) (bias : FVec Ideal S6 .f32)

theorem convR_apply (b : Fin 8) (T : Fin 2048) (l : Fin 896) :
    convR X W C (ix3 b T l) = C (ix1 l) + W (ix2 0 l) * back (fun T l => X (ix3 b T l)) T l 0 + W (ix2 1 l) * back (fun T l => X (ix3 b T l)) T l 1
      + W (ix2 2 l) * back (fun T l => X (ix3 b T l)) T l 2 + W (ix2 3 l) * back (fun T l => X (ix3 b T l)) T l 3 := by
  pointwise [convR]
  simp only [padR_apply]
  have h0 : (if h : 3 ≤ T.val then (X (ix3 b ⟨T.val - 3, by omega⟩ l) : EReal) else 0) = back (fun T l => X (ix3 b T l)) T l 0 := rfl
  have hj : ∀ (j : Fin 4), (if h : 3 ≤ j.val + T.val then (X (ix3 b ⟨j.val + T.val - 3, by omega⟩ l) : EReal) else 0) = back (fun T l => X (ix3 b T l)) T l j := by
    intro j
    unfold back
    by_cases h : 3 ≤ T.val + j.val
    · rw [dif_pos h, dif_pos (show 3 ≤ j.val + T.val by omega)]
      exact congrArg (fun q : Fin 2048 => X (ix3 b q l)) (Fin.ext (show j.val + T.val - 3 = T.val + j.val - 3 by omega))
    · rw [dif_neg h, dif_neg (show ¬ 3 ≤ j.val + T.val by omega)]
  have h1 := hj 1
  have h2 := hj 2
  have h3 := hj 3
  change (if h : 3 ≤ 1 + T.val then (X (ix3 b ⟨1 + T.val - 3, _⟩ l) : EReal) else 0) = _ at h1
  change (if h : 3 ≤ 2 + T.val then (X (ix3 b ⟨2 + T.val - 3, _⟩ l) : EReal) else 0) = _ at h2
  change (if h : 3 ≤ 3 + T.val then (X (ix3 b ⟨3 + T.val - 3, _⟩ l) : EReal) else 0) = _ at h3
  rw [h0, h1, h2, h3, mul_comm (W (ix2 0 l) : EReal), mul_comm (W (ix2 1 l) : EReal), mul_comm (W (ix2 2 l) : EReal), mul_comm (W (ix2 3 l) : EReal),
    ← add_assoc, ← add_assoc, ← add_assoc]

theorem actR_apply (b : Fin 8) (T : Fin 2048) (l : Fin 896) :
    actR X W C (ix3 b T l) = act (fun T l => X (ix3 b T l)) (fun j l => W (ix2 j l)) (fun l => C (ix1 l)) T l := by
  pointwise [actR]
  rw [convR_apply, ← zero_sub (_ : EReal)]
  rfl

theorem spR_apply (b : Fin 8) (T : Fin 2048) (l : Fin 6) :
    spR D bias (ix3 b T l) = sp ((D (ix3 b T l) : EReal) + bias (ix1 l)) := by
  pointwise [spR]
  rw [if_neg (fun h => h rfl), ← zero_sub (_ : EReal)]
  rfl

/-- The step of chunk `k`, among all steps. -/
theorem step_of (k : Fin 32) (t : Fin 64) : step k.val t = ⟨k.val * 64 + t.val, by omega⟩ := by
  apply Fin.ext
  show (64 * k.val + t.val) % 2048 = k.val * 64 + t.val
  omega

variable (m : (ℓ : Loc nD τ sig) → Buf (Elt Ideal) ℓ) (c : Dev nD)

theorem pad_zero : upto hostOps0 (launchContents m c) 2 (Proc.devRef .tc main_v0) = broadcastInDim S8x3x896 ![] bcast_S_S8x3x896 (constant (F := Ideal) S_ .f32 0x00000000#32) := rfl
theorem pad_arg : upto hostOps0 (launchContents m c) 2 (Proc.devRef .tc main_arg1) = m ((c : Thread nD τ).loc main_arg1) := rfl

set_option maxHeartbeats 1000000
theorem e0 : entryContents preI m c (Proc.devRef .tc main_v67_0) = transpose S32x8x64x6x64 [1, 0, 2, 3, 4] (shapeCast S8x32x64x6x64 (shapeCast S8x2048x6x64 (extractStridedSlice S8x2048x384 ![0, 0, 0] (actR (m ((c : Thread nD τ).loc main_arg1)) (m ((c : Thread nD τ).loc main_arg3)) (m ((c : Thread nD τ).loc main_arg4))) slices_S8x2048x896_S8x2048x384_0_0_0) shapeCasts_S8x2048x384_S8x2048x6x64) shapeCasts_S8x2048x6x64_S8x32x64x6x64) transposes_S8x32x64x6x64_S32x8x64x6x64_1_0_2_3_4 := by
  simp only [entryContents, afterL_cons, afterL_nil]
  after_reads_simp
  rfl
theorem e2 : entryContents preI m c (Proc.devRef .tc main_v67_2) = transpose S32x8x64x2x128 [1, 0, 2, 3, 4] (shapeCast S8x32x64x2x128 (shapeCast S8x2048x2x128 (extractStridedSlice S8x2048x256 ![0, 0, 384] (actR (m ((c : Thread nD τ).loc main_arg1)) (m ((c : Thread nD τ).loc main_arg3)) (m ((c : Thread nD τ).loc main_arg4))) slices_S8x2048x896_S8x2048x256_0_0_384) shapeCasts_S8x2048x256_S8x2048x2x128) shapeCasts_S8x2048x2x128_S8x32x64x2x128) transposes_S8x32x64x2x128_S32x8x64x2x128_1_0_2_3_4 := by
  simp only [entryContents, afterL_cons, afterL_nil]
  after_reads_simp
  rfl
theorem e3 : entryContents preI m c (Proc.devRef .tc main_v67_3) = transpose S32x8x64x2x128 [1, 0, 2, 3, 4] (shapeCast S8x32x64x2x128 (shapeCast S8x2048x2x128 (extractStridedSlice S8x2048x256 ![0, 0, 640] (actR (m ((c : Thread nD τ).loc main_arg1)) (m ((c : Thread nD τ).loc main_arg3)) (m ((c : Thread nD τ).loc main_arg4))) slices_S8x2048x896_S8x2048x256_0_0_640) shapeCasts_S8x2048x256_S8x2048x2x128) shapeCasts_S8x2048x2x128_S8x32x64x2x128) transposes_S8x32x64x2x128_S32x8x64x2x128_1_0_2_3_4 := by
  simp only [entryContents, afterL_cons, afterL_nil]
  after_reads_simp
  rfl
theorem e1 : entryContents preI m c (Proc.devRef .tc main_v67_1) = transpose S32x8x64x6 [1, 0, 2, 3] (shapeCast S8x32x64x6 (spR (m ((c : Thread nD τ).loc main_arg2)) (m ((c : Thread nD τ).loc main_arg5))) shapeCasts_S8x2048x6_S8x32x64x6) transposes_S8x32x64x6_S32x8x64x6_1_0_2_3 := by
  simp only [entryContents, afterL_cons, afterL_nil]
  after_reads_simp
  rfl
theorem e4 (g : Fin 6) : entryContents preI m c (Proc.devRef .tc main_v67_4) (ix1 g) = rate (fun g => m ((c : Thread nD τ).loc main_arg6) (ix1 g)) g := by
  simp only [entryContents, afterL_cons, afterL_nil]
  after_reads_simp
  rw [id]
  pointwise []
  unfold rate
  rw [zero_sub]
theorem e5 (t s : Fin 64) : entryContents preI m c (Proc.devRef .tc main_v67_5) (ix4 0 t s 0) = BitVec.ofBool (decide (s ≤ t)) := by
  simp only [entryContents, afterL_cons, afterL_nil]
  after_reads_simp
  rw [id]
  pointwise []
  have hi : IntOp.cmpi CmpIPredicate.sge (BitVec.ofNat 32 t.val) (BitVec.ofNat 32 s.val) = 1#1 ↔ s.val ≤ t.val := by word_omega
  by_cases h : s ≤ t
  · rw [decide_eq_true h]
    exact hi.2 h
  · rw [decide_eq_false h]
    exact (fun w : BitVec 1 => (by revert w; decide : ∀ w : BitVec 1, ¬ w = 1#1 → w = 0#1) w) _ (mt hi.1 h)
theorem e6 : entryContents preI m c (Proc.devRef .tc main_v67_6) = m ((c : Thread nD τ).loc main_arg7) := by
  simp only [entryContents, afterL_cons, afterL_nil]
  after_reads_simp
  rfl
theorem e8 (b : Fin 8) (h : Fin 6) (p : Fin 64) (n : Fin 128) : entryContents preI m c (Proc.devRef .tc main_v67_8) (ix4 b h p n) = (0 : EReal) := by
  simp only [entryContents, afterL_cons, afterL_nil]
  after_reads_simp
  rw [id]
  pointwise []

/-- The arguments of one batch entry, read as functions. -/
abbrev zF (b : Fin 8) : Fin 2048 → Fin 384 → EReal := fun T l => m ((c : Thread nD τ).loc main_arg0) (ix3 b T l)
abbrev xF (b : Fin 8) : Fin 2048 → Fin 896 → EReal := fun T l => m ((c : Thread nD τ).loc main_arg1) (ix3 b T l)
abbrev dF (b : Fin 8) : Fin 2048 → Fin 6 → EReal := fun T h => m ((c : Thread nD τ).loc main_arg2) (ix3 b T h)
abbrev wF : Fin 4 → Fin 896 → EReal := fun j l => m ((c : Thread nD τ).loc main_arg3) (ix2 j l)
abbrev cbF : Fin 896 → EReal := fun l => m ((c : Thread nD τ).loc main_arg4) (ix1 l)
abbrev biasF : Fin 6 → EReal := fun h => m ((c : Thread nD τ).loc main_arg5) (ix1 h)
abbrev alogF : Fin 6 → EReal := fun h => m ((c : Thread nD τ).loc main_arg6) (ix1 h)
abbrev dskF : Fin 6 → EReal := fun h => m ((c : Thread nD τ).loc main_arg7) (ix1 h)
abbrev nwF : Fin 384 → EReal := fun l => m ((c : Thread nD τ).loc main_arg8) (ix1 l)

theorem xs_entry (k : Fin 32) (b : Fin 8) : xsOf (entryContents preI m c) k b = xsAt (xF m c b) (wF m c) (cbF m c) k.val := by
  funext t l
  unfold xsOf xsAt
  rw [e0, step_of]
  pointwise []
  rw [actR_apply]
  have e : (⟨(hd l).val * 64 + (ps l).val, by omega⟩ : Fin 896) = ⟨l.val, by omega⟩ := by apply Fin.ext; simp only [hd, ps]; omega
  exact congrArg (act (xF m c b) (wF m c) (cbF m c) _) e

theorem bm_entry (k : Fin 32) (b : Fin 8) : bmOf (entryContents preI m c) k b = bmAt (xF m c b) (wF m c) (cbF m c) k.val := by
  funext t g n
  unfold bmOf bmAt
  rw [e2, step_of]
  pointwise []
  rw [actR_apply]

theorem cm_entry (k : Fin 32) (b : Fin 8) : cmOf (entryContents preI m c) k b = cmAt (xF m c b) (wF m c) (cbF m c) k.val := by
  funext t g n
  unfold cmOf cmAt
  rw [e3, step_of]
  pointwise []
  rw [actR_apply]

theorem dt_entry (k : Fin 32) (b : Fin 8) : dtOf (entryContents preI m c) k b = dtAt (dF m c b) (biasF m c) k.val := by
  funext t h
  unfold dtOf dtAt
  rw [e1, step_of]
  pointwise []
  rw [spR_apply]

end Cert.ReferenceIdeal.Ssd
end
-- ==== Proof.RefLoop.lean ====
module

public import proofs.«01_k».proof.Proof.Gen.ReferenceIdeal.Run
public import proofs.«01_k».proof.Proof.Whole
public import proofs.«01_k».proof.Proof.RefEntry
public import Idealize.ShloMosaic.Lib.Pointwise
public import Idealize.ShloMosaic.Lib.Pipeline.ValueKit

@[expose] public section

set_option backward.proofsInPublic true
set_option maxRecDepth 16384

noncomputable section

open Idealize.ShloMosaic Idealize.ShloMosaic.TcCoe Idealize.SL.Sem
namespace Cert.ReferenceIdeal.Ssd
open Cert.ReferenceIdeal Cert.ReferenceIdeal.Gen Cert.ReferenceIdeal.Value Cert.Scan
open Idealize.ShloMosaic.StableHlo Idealize.ShloMosaic.Tactic

variable (m : (ℓ : Loc nD τ sig) → Buf (Elt Ideal) ℓ) (c : Dev nD)

/-! ### The loop's 32 trips -/

/-- The buffers before trip `k`. -/
abbrev At (k : ℕ) : Valuation τ sig (Elt Ideal) := STEP^[k] (entryContents preI m c)

theorem at_succ (k : ℕ) : At m c (k + 1) = STEP (At m c k) := Function.iterate_succ_apply' _ _ _

theorem at_0 (k : ℕ) : At m c k (Proc.devRef .tc main_v67_0) = entryContents preI m c (Proc.devRef .tc main_v67_0) := by
  induction k with
  | zero => rfl
  | succ k ih => rw [at_succ, STEP_main_v67_0, ih]
theorem at_1 (k : ℕ) : At m c k (Proc.devRef .tc main_v67_1) = entryContents preI m c (Proc.devRef .tc main_v67_1) := by
  induction k with
  | zero => rfl
  | succ k ih => rw [at_succ, STEP_main_v67_1, ih]
theorem at_2 (k : ℕ) : At m c k (Proc.devRef .tc main_v67_2) = entryContents preI m c (Proc.devRef .tc main_v67_2) := by
  induction k with
  | zero => rfl
  | succ k ih => rw [at_succ, STEP_main_v67_2, ih]
theorem at_3 (k : ℕ) : At m c k (Proc.devRef .tc main_v67_3) = entryContents preI m c (Proc.devRef .tc main_v67_3) := by
  induction k with
  | zero => rfl
  | succ k ih => rw [at_succ, STEP_main_v67_3, ih]
theorem at_4 (k : ℕ) : At m c k (Proc.devRef .tc main_v67_4) = entryContents preI m c (Proc.devRef .tc main_v67_4) := by
  induction k with
  | zero => rfl
  | succ k ih => rw [at_succ, STEP_main_v67_4, ih]
theorem at_5 (k : ℕ) : At m c k (Proc.devRef .tc main_v67_5) = entryContents preI m c (Proc.devRef .tc main_v67_5) := by
  induction k with
  | zero => rfl
  | succ k ih => rw [at_succ, STEP_main_v67_5, ih]
theorem at_6 (k : ℕ) : At m c k (Proc.devRef .tc main_v67_6) = entryContents preI m c (Proc.devRef .tc main_v67_6) := by
  induction k with
  | zero => rfl
  | succ k ih => rw [at_succ, STEP_main_v67_6, ih]

/-- The counter counts. -/
theorem at_7 (k : ℕ) : At m c k (Proc.devRef .tc main_v67_7) = fun _ => BitVec.ofNat 32 k := by
  induction k with
  | zero => exact ctr_entry m c
  | succ k ih =>
    rw [at_succ, STEP_main_v67_7]
    unfold step_main_v67_7
    rw [ih]
    funext i
    exact (BitVec.ofNat_add k 1).symm

theorem xs_at (k : ℕ) (j : Fin 32) (b : Fin 8) : xsOf (At m c k) j b = xsAt (xF m c b) (wF m c) (cbF m c) j.val := by
  rw [← xs_entry]; unfold xsOf; rw [at_0]
theorem bm_at (k : ℕ) (j : Fin 32) (b : Fin 8) : bmOf (At m c k) j b = bmAt (xF m c b) (wF m c) (cbF m c) j.val := by
  rw [← bm_entry]; unfold bmOf; rw [at_2]
theorem cm_at (k : ℕ) (j : Fin 32) (b : Fin 8) : cmOf (At m c k) j b = cmAt (xF m c b) (wF m c) (cbF m c) j.val := by
  rw [← cm_entry]; unfold cmOf; rw [at_3]
theorem dt_at (k : ℕ) (j : Fin 32) (b : Fin 8) : dtOf (At m c k) j b = dtAt (dF m c b) (biasF m c) j.val := by
  rw [← dt_entry]; unfold dtOf; rw [at_1]
theorem rate_at (k : ℕ) : rateOf (At m c k) = rate (alogF m c) := by
  funext g; unfold rateOf; rw [at_4]; exact e4 m c g
theorem dsk_at (k : ℕ) : dskOf (At m c k) = dskF m c := by
  funext g; unfold dskOf; rw [at_6, e6]

/-- The state before each trip. -/
theorem st_at (b : Fin 8) (k : ℕ) (hk : k ≤ 32) : stOf (At m c k) b = state (xF m c b) (wF m c) (cbF m c) (dF m c b) (biasF m c) (alogF m c) k := by
  induction k with
  | zero => funext l n; exact e8 m c b (hd l) (ps l) n
  | succ k ih =>
    funext l n
    unfold stOf
    rw [at_succ, STEP_main_v67_8, step8 (At m c k) k (by omega) (at_7 m c k), ih (by omega), dt_at, rate_at, xs_at, bm_at, lane_hd_ps]
    rfl

/-- The rows written so far. -/
theorem rows_at (b : Fin 8) (k : ℕ) (hk : k ≤ 32) (j : Fin 32) (hj : j.val < k) (t : Fin 64) (h : Fin 6) (p : Fin 64) :
    At m c k (Proc.devRef .tc main_v67_9) (ix5 j b t h p)
      = scanRow (xF m c b) (wF m c) (cbF m c) (dF m c b) (biasF m c) (alogF m c) j.val t (lane h p)
        + dskF m c h * xsAt (xF m c b) (wF m c) (cbF m c) j.val t (lane h p) := by
  induction k with
  | zero => exact absurd hj (Nat.not_lt_zero _)
  | succ k ih =>
    rw [at_succ, STEP_main_v67_9, step9 (At m c k) k (by omega) (at_7 m c k) (fun t s => by rw [at_5]; exact e5 m c t s)]
    by_cases hjk : j.val = k
    · rw [if_pos hjk, st_at m c b k (by omega), dt_at, rate_at, xs_at, bm_at, cm_at, dsk_at, hjk]
      rfl
    · rw [if_neg hjk]
      exact ih (by omega) (by omega)

/-! ### The gate and the norm -/

theorem w192 : Ideal.ofBits FTy.f32 0x43400000#32 = ((192 : ℝ) : EReal) := by
  simp [Ideal.ofBits, Ideal.ieee]
  rw [← EReal.coe_mul]
  norm_num

/-- The result after the loop, from any buffers. -/
theorem out_of (V0 : Valuation τ sig (Elt Ideal)) (b : Fin 8) (T : Fin 2048) (y z nw : Fin 384 → EReal)
    (hy : ∀ l : Fin 384, V0 (Proc.devRef .tc main_v67_9) (ix5 ⟨T.val / 64, by omega⟩ b ⟨T.val % 64, by omega⟩ (hd l) (ps l)) = y l)
    (hz : ∀ l : Fin 384, V0 (Proc.devRef .tc main_arg0) (ix3 b T l) = z l) (hn : ∀ l : Fin 384, V0 (Proc.devRef .tc main_arg8) (ix1 l) = nw l) (l : Fin 384) :
    out_main_v88 V0 (ix3 b T l) = normed (fun l => y l * (z l * sg (z l))) nw l := by
  unfold out_main_v88
  pointwise []
  have hg : ∀ x : Fin 192, (⟨l.val / 192 * 192 + x.val, by omega⟩ : Fin 384) = glane (gp (hd l)) x := by
    intro x; apply Fin.ext; simp only [glane, gp, hd]; omega
  have hv : ∀ l : Fin 384, V0 (Proc.devRef .tc main_v67_9) (ix5 ⟨T.val / 64, by omega⟩ b ⟨T.val % 64, by omega⟩ ⟨l.val / 64, by omega⟩ ⟨l.val % 64, by omega⟩) = y l := hy
  have hw : ∀ x : Fin 192, V0 (Proc.devRef .tc main_v67_9) (ix5 ⟨T.val / 64, by omega⟩ b ⟨T.val % 64, by omega⟩ ⟨(l.val / 192 * 192 + x.val) / 64, by omega⟩ ⟨(l.val / 192 * 192 + x.val) % 64, by omega⟩) = y (glane (gp (hd l)) x) := by
    intro x; rw [← hg x]; exact hv ⟨l.val / 192 * 192 + x.val, by omega⟩
  simp only [hv, hw, hz, hn, hg, w192]
  rw [Ideal.div_coe (by norm_num)]
  unfold normed sg
  simp only [zero_sub, one_div]

theorem out_apply (b : Fin 8) (T : Fin 2048) (l : Fin 384) :
    out_main_v88 (At m c 32) (ix3 b T l)
      = result (xF m c b) (wF m c) (cbF m c) (dF m c b) (biasF m c) (alogF m c) (dskF m c) (zF m c b) (nwF m c) T l := by
  refine (out_of (At m c 32) b T (fun l => scanRow (xF m c b) (wF m c) (cbF m c) (dF m c b) (biasF m c) (alogF m c) (T.val / 64) ⟨T.val % 64, by omega⟩ l
      + dskF m c (hd l) * xsAt (xF m c b) (wF m c) (cbF m c) (T.val / 64) ⟨T.val % 64, by omega⟩ l) (zF m c b T) (nwF m c) (fun l => ?_) (fun l => ?_) (fun l => ?_) l).trans ?_
  · exact (rows_at m c b 32 (le_refl _) ⟨T.val / 64, by omega⟩ (by show T.val / 64 < 32; omega) _ _ _).trans (by rw [lane_hd_ps])
  · exact congrFun (iter_main_arg0 m c 32) _
  · exact congrFun (iter_main_arg8 m c 32) _
  · rfl

end Cert.ReferenceIdeal.Ssd
end
-- ==== Proof.Pre.lean ====
/- The precondition of the value claim, read element by element: every step size, every bias and every rate
   logarithm is below infinity, so the decay of each step is a real number. -/
module

public import proofs.«01_k».proof.Defs
public import proofs.«01_k».proof.Proof.Model
public import Idealize.ShloMosaic.Lib.Pointwise

@[expose] public section

set_option maxRecDepth 16384

noncomputable section

open Idealize.ShloMosaic
namespace Cert.Pre_steps_bounded

/-- The side conditions the precondition states. -/
theorem side : Facts := ⟨by decide, by decide, by decide, by decide, by decide⟩

/-- A chain of bit conjunctions that ends at one started at one and met only ones. -/
theorem foldl_andi {α : Type} (f : α → BitVec 1) : ∀ (l : List α) (b : BitVec 1),
    l.foldl (fun r n => IntOp.andi r (f n)) b = 1#1 → b = 1#1 ∧ ∀ n ∈ l, f n = 1#1
  | [], b, h => ⟨h, by simp⟩
  | n :: l, b, h => by
    have both : ∀ p q : BitVec 1, IntOp.andi p q = 1#1 → p = 1#1 ∧ q = 1#1 := by decide
    obtain ⟨h0, hl⟩ := foldl_andi f l _ h
    obtain ⟨hb, hn⟩ := both _ _ h0
    exact ⟨hb, fun k hk => by rcases List.mem_cons.mp hk with rfl | hk; exacts [hn, hl k hk]⟩

/-- A conjunction over a whole array holds only where every element does. -/
theorem all_of_reduce {s t u : Shape} {axes : List (Fin s.rank)} (x : s.Idx → BitVec 1) (init : u.Idx → BitVec 1)
    (h : s.ReducesTo axes t) (hu : 0 < u.numel) (ht : ∀ i j : t.Idx, i = j) (j : t.Idx)
    (H : Host.reduce IntOp.andi x init h hu j = 1#1) (i : s.Idx) : x i = 1#1 := by
  have := (foldl_andi (fun n => x (s.rowMajor.symm n)) _ _ H).2 (s.rowMajor i)
    (List.mem_filter.mpr ⟨List.mem_finRange _, by simpa using ht _ _⟩)
  simpa using this

/-- The comparison with infinity, at an extended real. -/
theorem lt_top_of_cmp {x : EReal} (h : Ideal.cmp .olt x (Ideal.ofBits .f32 0x7F800000#32) = 1#1) : x < ⊤ := by
  have e : Ideal.ofBits .f32 0x7F800000#32 = ⊤ := by simp [Ideal.ofBits, Ideal.ieee]
  rw [e] at h
  by_contra hx
  simp [Ideal.cmp, hx] at h

variable [Facts]

/-- The precondition's three facts. -/
theorem bounded (a0 : FVec Ideal S8x2048x384 .f32) (a1 : FVec Ideal S8x2048x896 .f32) (a2 : FVec Ideal S8x2048x6 .f32)
    (a3 : FVec Ideal S4x896 .f32) (a4 : FVec Ideal S896 .f32) (a5 a6 a7 : FVec Ideal S6 .f32) (a8 : FVec Ideal S384 .f32)
    (H : fn (F := Ideal) a0 a1 a2 a3 a4 a5 a6 a7 a8 = fun _ => 1#1) :
    (∀ i, (a2 i : EReal) < ⊤) ∧ (∀ i, (a5 i : EReal) < ⊤) ∧ (∀ i, (a6 i : EReal) < ⊤) := by
  have both : ∀ p q : BitVec 1, IntOp.andi p q = 1#1 → p = 1#1 ∧ q = 1#1 := by decide
  have one : ∀ i j : S_.Idx, i = j := fun i j => funext fun a => a.elim0
  have h := congrFun H (fun a => a.elim0)
  obtain ⟨h12, h3⟩ := both _ _ h
  obtain ⟨h1, h2⟩ := both _ _ h12
  exact ⟨fun i => lt_top_of_cmp (all_of_reduce _ _ _ _ one _ h1 i), fun i => lt_top_of_cmp (all_of_reduce _ _ _ _ one _ h2 i),
    fun i => lt_top_of_cmp (all_of_reduce _ _ _ _ one _ h3 i)⟩

end Cert.Pre_steps_bounded

namespace Cert.Scan

/-- Bounded inputs give every step a real decay. -/
theorem decay_real {d b a : EReal} (hd : d < ⊤) (hb : b < ⊤) (ha : a < ⊤) : ∃ r : ℝ, sp (d + b) * (0 - Ideal.exp a) = r := by
  obtain ⟨r, hr⟩ := sp_real (EReal.add_lt_top hd.ne hb.ne)
  obtain ⟨q, hq⟩ := rate_real ha
  exact ⟨r * q, by rw [hr, hq, EReal.coe_mul]⟩

end Cert.Scan
-- ==== Proof.Rows.lean ====
module

public import Idealize.ShloMosaic.Lib.Pointwise

@[expose] public section

noncomputable section

open Idealize.ShloMosaic
namespace Cert.Rows

/-! ### A row normalised, and its products with the columns of a matrix -/

/-- A row over the root of its mean square (a millionth added to it), times the norm's weights. -/
def rms (x w : Fin 1024 → EReal) (k : Fin 1024) : EReal :=
  x k * Ideal.rsqrt (Ideal.div (∑ j, x j * x j) (Ideal.ofBits FTy.f32 1149239296#32) + Ideal.ofBits FTy.f32 897988541#32) * w k

/-- A normalised row's product with column `l`. -/
def up {n : ℕ} (x w : Fin 1024 → EReal) (W : Fin 1024 → Fin n → EReal) (l : Fin n) : EReal := ∑ k, rms x w k * W k l

/-! ### Three mixers' outputs joined, and scores against two sets of keys -/

/-- A row, plus the joined row of three mixers' outputs times column `l` of a matrix. -/
def mix (x : Fin 1024 → EReal) (a : Fin 256 → EReal) (b c : Fin 384 → EReal) (W : Fin 1024 → Fin 1024 → EReal) (l : Fin 1024) : EReal :=
  x l + ∑ k, a k * W ⟨k.val, by omega⟩ l + ∑ k, b k * W ⟨256 + k.val, by omega⟩ l + ∑ k, c k * W ⟨640 + k.val, by omega⟩ l

/-- A sum over the joined row is the sum of the three sums. -/
theorem sum_three (f : Fin 1024 → EReal) :
    ∑ k, f k = ∑ k : Fin 256, f ⟨k.val, by omega⟩ + ∑ k : Fin 384, f ⟨256 + k.val, by omega⟩ + ∑ k : Fin 384, f ⟨640 + k.val, by omega⟩ := by
  rw [Fin.sum_univ_add (a := 640) (b := 384) f, Fin.sum_univ_add (a := 256) (b := 384) (fun k => f (Fin.castAdd 384 k))]
  rfl

/-- The score of key `n` of set `c` against the half `c` of head `h`'s query. -/
def score (q : Fin 1024 → EReal) (S : Fin 2 → Fin 128 → Fin 64 → EReal) (h : Fin 8) (c : Fin 2) (n : Fin 128) : EReal :=
  ∑ d : Fin 64, S c n d * q ⟨128 * h.val + 64 * c.val + d.val, by omega⟩

/-- A key of set `c` put into the half `c` of 128 lanes of zeros meets only that half of the query. -/
theorem score_padded (q : Fin 1024 → EReal) (S : Fin 2 → Fin 128 → Fin 64 → EReal) (h : Fin 8) (c : Fin 2) (n : Fin 128) :
    ∑ d : Fin 128, (if d.val / 64 = c.val then S c n ⟨d.val % 64, by omega⟩ else 0) * q ⟨128 * h.val + d.val, by omega⟩ = score q S h c n := by
  rw [Fin.sum_univ_add (a := 64) (b := 64) (fun d : Fin 128 => (if d.val / 64 = c.val then S c n ⟨d.val % 64, by omega⟩ else 0) * q ⟨128 * h.val + d.val, by omega⟩)]
  have lo : ∀ d : Fin 64, (Fin.castAdd 64 d).val = d.val := fun d => rfl
  have hi : ∀ d : Fin 64, (Fin.natAdd 64 d).val = 64 + d.val := fun d => rfl
  unfold score
  match c with
  | ⟨0, _⟩ =>
    rw [Finset.sum_eq_zero (s := Finset.univ) (f := fun d : Fin 64 => (if (Fin.natAdd 64 d).val / 64 = 0 then S _ n ⟨(Fin.natAdd 64 d).val % 64, by omega⟩ else 0) * q ⟨128 * h.val + (Fin.natAdd 64 d).val, by have := hi d; omega⟩), add_zero]
    · refine Finset.sum_congr rfl fun d _ => ?_
      rw [if_pos (by rw [lo]; show d.val / 64 = 0; omega)]
      congr 2
      · exact Fin.ext (by show d.val % 64 = d.val; omega)
    · intro d _
      rw [if_neg (by rw [hi]; omega), zero_mul]
  | ⟨1, _⟩ =>
    rw [Finset.sum_eq_zero (s := Finset.univ) (f := fun d : Fin 64 => (if (Fin.castAdd 64 d).val / 64 = 1 then S _ n ⟨(Fin.castAdd 64 d).val % 64, by omega⟩ else 0) * q ⟨128 * h.val + (Fin.castAdd 64 d).val, by have := lo d; omega⟩), zero_add]
    · refine Finset.sum_congr rfl fun d _ => ?_
      rw [if_pos (by rw [hi]; show (64 + d.val) / 64 = 1; omega)]
      congr 2
      · exact Fin.ext (by show (64 + d.val) % 64 = d.val; omega)
      · exact Fin.ext (by show 128 * h.val + (64 + d.val) = 128 * h.val + 64 * 1 + d.val; omega)
    · intro d _
      rw [if_neg (by rw [lo]; omega), zero_mul]

end Cert.Rows
end
-- ==== Proof.In.lean ====
module

public import proofs.«01_k».proof.Proof.Gen.Kernel2Ideal.Value
public import proofs.«01_k».proof.Proof.Rows
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option backward.proofsInPublic true
set_option maxRecDepth 16384

noncomputable section

open Idealize.ShloMosaic Idealize.ShloMosaic.TcCoe Idealize.SL.Sem
open Idealize.ShloMosaic.Pipeline (Dat)
namespace Cert.Kernel2Ideal.In
open Cert.Kernel2Ideal Cert.Kernel2Ideal.Gen Cert.Rows

/-! ### One block of 512 rows -/

section
variable (x0 : Vec Ideal S512x1024 .f32) (x1 : Vec Ideal S1x1024 .f32) (x2 : Vec Ideal S1x1024x3584 .bf16)

/-- What the block computes: row `r` against column `l` of the widened matrix. -/
def blockUp (r : Fin 512) (l : Fin 3584) : EReal :=
  up (fun k => x0 (ix2 r k)) (fun k => x1 (ix2 0 k)) (fun k l => x2 (ix3 0 k l)) l

theorem pay2_apply (r : Fin 512) (k : Fin 1024) : k0_pay2 x0 x1 (ix2 r k) = rms (fun k => x0 (ix2 r k)) (fun k => x1 (ix2 0 k)) k := by
  pointwise [k0_pay2, rms]

theorem first (r : Fin 512) (l : Fin 1024) :
    k0_pay3 x0 x1 (View.ld x2 (Rect.unit (s := S1x1024x3584) ![0, 0, 0] ![1, 1024, 1024] inb_S1x1024x3584_S1x1024x1024_0_0_0)) (ix2 r l) = blockUp x0 x1 x2 r ⟨l.val, by omega⟩ := by
  pointwise [k0_pay3]
  unfold blockUp up
  refine Finset.sum_congr rfl fun k _ => ?_
  exact congrArg (· * _) (pay2_apply x0 x1 r k)

theorem second (r : Fin 512) (l : Fin 1152) :
    k0_pay4 x0 x1 (View.ld x2 (Rect.unit (s := S1x1024x3584) ![0, 0, 1024] ![1, 1024, 1152] inb_S1x1024x3584_S1x1024x1152_0_0_1024)) (ix2 r l) = blockUp x0 x1 x2 r ⟨1024 + l.val, by omega⟩ := by
  pointwise [k0_pay4]
  unfold blockUp up
  refine Finset.sum_congr rfl fun k _ => ?_
  exact congrArg (· * _) (pay2_apply x0 x1 r k)

theorem third (r : Fin 512) (l : Fin 1280) :
    k0_pay5 x0 x1 (View.ld x2 (Rect.unit (s := S1x1024x3584) ![0, 0, 2176] ![1, 1024, 1280] inb_S1x1024x3584_S1x1024x1280_0_0_2176)) (ix2 r l) = blockUp x0 x1 x2 r ⟨2176 + l.val, by omega⟩ := by
  pointwise [k0_pay5]
  unfold blockUp up
  refine Finset.sum_congr rfl fun k _ => ?_
  exact congrArg (· * _) (pay2_apply x0 x1 r k)

theorem shift : ∀ l : Fin 384, IntOp.shrsi .vector (BitVec.ofNat 32 l.val) 6#32 = BitVec.ofNat 32 (l.val / 64) := by decide +kernel

theorem hit : ∀ (h : Fin 6) (x : Fin 128), IntOp.cmpi .eq (BitVec.ofNat 32 h.val) (BitVec.ofNat 32 x.val) = if x.val = h.val then 1#1 else 0#1 := by decide +kernel

/-- A lane of the step sizes is its head's column, spread over the head's 64 lanes by a product with zeros and ones. -/
theorem fourth (r : Fin 512) (l : Fin 384) :
    k0_pay1 (k0_pay2 x0 x1) (View.ld x2 (Rect.unit (s := S1x1024x3584) ![0, 0, 3456] ![1, 1024, 128] inb_S1x1024x3584_S1x1024x128_0_0_3456)) (ix2 r l) = blockUp x0 x1 x2 r ⟨3456 + l.val / 64, by omega⟩ := by
  pointwise [k0_pay1]
  rw [shift, Finset.sum_eq_single (⟨l.val / 64, by omega⟩ : Fin 128)]
  · have e := hit ⟨l.val / 64, by omega⟩ ⟨l.val / 64, by omega⟩
    rw [if_pos rfl] at e
    rw [show IntOp.cmpi .eq (BitVec.ofNat 32 (l.val / 64)) (BitVec.ofNat 32 (l.val / 64)) = 1#1 from e]
    refine (if_pos rfl).trans ?_
    unfold blockUp up
    refine Finset.sum_congr rfl fun k _ => ?_
    exact congrArg (· * _) (pay2_apply x0 x1 r k)
  · intro x _ hx
    have e := hit ⟨l.val / 64, by omega⟩ x
    rw [if_neg (fun h => hx (Fin.ext h))] at e
    rw [show IntOp.cmpi .eq (BitVec.ofNat 32 (l.val / 64)) (BitVec.ofNat 32 x.val) = 0#1 from e]
    rfl
  · intro h; exact absurd (Finset.mem_univ _) h

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x3584 .bf16) (harg3 : arg3.IsWhole) (arg4 : Memref sig .tc .vmem S512x1024 .f32) (harg4 : arg4.IsWhole) (arg5 : Memref sig .tc .vmem S512x1152 .f32) (harg5 : arg5.IsWhole) (arg6 : Memref sig .tc .vmem S512x1664 .f32) (harg6 : arg6.IsWhole)

theorem out3 (r : Fin 512) (l : Fin 1024) :
    out0_A_3 c i arg1 harg1 arg2 harg2 arg3 harg3 arg4 harg4 arg5 harg5 arg6 harg6 x0 x1 x2 (ix2 r l) = blockUp x0 x1 x2 r ⟨l.val, by omega⟩ := by
  frame_open
  frame_out
  exact first x0 x1 x2 r l

theorem out4 (r : Fin 512) (l : Fin 1152) :
    out0_A_4 c i arg1 harg1 arg2 harg2 arg3 harg3 arg4 harg4 arg5 harg5 arg6 harg6 x0 x1 x2 (ix2 r l) = blockUp x0 x1 x2 r ⟨1024 + l.val, by omega⟩ := by
  frame_open
  frame_out
  exact second x0 x1 x2 r l

/-- Which column of the matrix a column of the third array is taken from. -/
def col (l : Fin 1664) : Fin 3462 := if h : l.val < 1280 then ⟨2176 + l.val, by omega⟩ else ⟨3456 + (l.val - 1280) / 64, by omega⟩

theorem out5 (y : S512x1664.Idx) :
    out0_A_5 c i arg1 harg1 arg2 harg2 arg3 harg3 arg4 harg4 arg5 harg5 arg6 harg6 x0 x1 x2 y = blockUp x0 x1 x2 (y 0) ⟨(col (y 1)).val, by omega⟩ := by
  frame_open
  frame_out
  canon_tiles x h using (View.cover_of_tiledBy _ ![512, 128] (by sl_kernel_rfl) y)
  · have hx : x = ix2 (y 0) ⟨(x 1).val, x1_lt⟩ := by
      funext a
      match a with
      | ⟨0, _⟩ => exact Fin.ext h0.symm
      | ⟨1, _⟩ => rfl
    rw [hx]
    refine (fourth x0 x1 x2 (y 0) ⟨(x 1).val, x1_lt⟩).trans ?_
    congr 1
    refine Fin.ext ?_
    show 3456 + (x 1).val / 64 = (col (y 1)).val
    unfold col
    rw [dif_neg (by omega)]
    show 3456 + (x 1).val / 64 = 3456 + ((y 1).val - 1280) / 64
    omega
  · have hx : x = ix2 (y 0) ⟨(x 1).val, x1_lt⟩ := by
      funext a
      match a with
      | ⟨0, _⟩ => exact Fin.ext h0.symm
      | ⟨1, _⟩ => rfl
    rw [hx]
    refine (third x0 x1 x2 (y 0) ⟨(x 1).val, x1_lt⟩).trans ?_
    congr 1
    refine Fin.ext ?_
    show 2176 + (x 1).val = (col (y 1)).val
    unfold col
    rw [dif_pos (by omega)]
    show 2176 + (x 1).val = 2176 + (y 1).val
    omega
end

/-! ### The blocks of the arrays -/

variable (m : (ℓ : Loc nD τ sig) → Buf (Elt Ideal) ℓ) (c : Dev nD)

theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The rows. -/
def xF (R : Fin 16384) (k : Fin 1024) : EReal := m ((c : Thread nD τ).loc main_arg0) (ix2 R k)
/-- The norm's weights. -/
def wF (k : Fin 1024) : EReal := m ((c : Thread nD τ).loc main_arg1) (ix1 k)
/-- The first layer's matrix. -/
def WF (k : Fin 1024) (l : Fin 3462) : EReal := m ((c : Thread nD τ).loc main_arg2) (ix3 0 k l)

theorem v2_eq : V m c main_v2 = shapeCast S1x1024 (m ((c : Thread nD τ).loc main_arg1)) shapeCasts_S1024_S1x1024 := by
  show StableHlo.after [hostOps0, hostOps0_1, hostOps0_2].flatten (fun b => m (c, b)) (Proc.tc.devRef main_v2) = _
  simp only [List.flatten_cons, List.flatten_nil, List.append_nil, List.cons_append, List.nil_append]
  after_results
  rfl

theorem v1_eq : (V m c main_v1 : FVec Ideal S2x1024x3584 .bf16) = truncf .bf16 (pad S2x1024x3584 ![0, 0, 0] ![0, 0, 122] ![0, 0, 0] (m ((c : Thread nD τ).loc main_arg2)) (sitofp (F := Ideal) .f32 (constantI S_ 32 0#32)) pads_S2x1024x3462_S2x1024x3584_000_000_01220 h_S_) bitsLt_bf16_f32 := by
  show StableHlo.after [hostOps0, hostOps0_1, hostOps0_2].flatten (fun b => m (c, b)) (Proc.tc.devRef main_v1) = _
  simp only [List.flatten_cons, List.flatten_nil, List.append_nil, List.cons_append, List.nil_append]
  after_results
  rfl

theorem b0 (t : Fin cfg0.N) (r : Fin 512) (R : Fin 16384) (hR : R.val = 512 * t.val + r.val) (k : Fin 1024) : iblk m c 0 t (ix2 r k) = xF m c R k := by
  have e : R = ⟨512 * t.val + r.val, by omega⟩ := Fin.ext hR
  rw [e]
  unfold xF
  blk_ext [iblk, V, idx t]

theorem b1 (t : Fin cfg0.N) (k : Fin 1024) : iblk m c 1 t (ix2 0 k) = wF m c k := by
  have e : iblk m c 1 t (ix2 0 k) = V m c main_v2 (ix2 0 k) := by
    generalize hX : V m c main_v2 = X
    show (((cfg0.win 1).blk t).view.read (Elt Ideal) (V m c main_v2)) (ix2 0 k) = _
    rw [hX]
    blk_ext [idx t]
  rw [e, v2_eq]
  pointwise [wF]

theorem b2 (t : Fin cfg0.N) (k : Fin 1024) (L : Fin 3584) (l : Fin 3462) (hl : L.val = l.val) : iblk m c 2 t (ix3 0 k L) = WF m c k l := by
  have e : iblk m c 2 t (ix3 0 k L) = V m c main_v1 (ix3 0 k L) := by
    generalize hX : V m c main_v1 = X
    show (((cfg0.win 2).blk t).view.read (Elt Ideal) (V m c main_v1)) (ix3 0 k L) = _
    rw [hX]
    blk_ext [idx t]
  rw [e, v1_eq]
  pointwise [WF]
  have h0 := l.isLt
  rw [dif_pos]
  · exact congrArg (fun a => m ((c : Thread nD τ).loc main_arg2) (ix3 0 k a)) (Fin.ext hl)
  · intro a
    match a with
    | ⟨0, _⟩ => exact ⟨Nat.zero_le _, by show (0 - 0) % 1 = 0; rfl, by show (0 - 0) / 1 < 2; decide⟩
    | ⟨1, _⟩ => exact ⟨Nat.zero_le _, by show (k.val - 0) % (0 + 1) = 0; omega, by show (k.val - 0) / (0 + 1) < 1024; omega⟩
    | ⟨2, _⟩ => exact ⟨Nat.zero_le _, by show (L.val - 0) % (0 + 1) = 0; omega, by show (L.val - 0) / (0 + 1) < 3462; omega⟩

theorem block_eq (t : Fin cfg0.N) (r : Fin 512) (R : Fin 16384) (hR : R.val = 512 * t.val + r.val) (L : Fin 3584) (l : Fin 3462) (hl : L.val = l.val) :
    blockUp (iblk m c 0 t) (iblk m c 1 t) (iblk m c 2 t) r L = up (xF m c R) (wF m c) (WF m c) l := by
  unfold blockUp up
  have e0 : (fun k => iblk m c 0 t (ix2 r k)) = xF m c R := funext fun k => b0 m c t r R hR k
  have e1 : (fun k => iblk m c 1 t (ix2 0 k)) = wF m c := funext fun k => b1 m c t k
  refine Finset.sum_congr rfl fun k _ => ?_
  show rms _ _ k * iblk m c 2 t (ix3 0 k L) = _
  rw [b2 m c t k L l hl]
  exact congrArg₂ (fun a b => rms a b k * WF m c k l) e0 e1

/-! ### The three arrays -/

theorem flush3 : ∀ t : Fin cfg0.N, (cfg0.win 3).flush t = true := (by decide +kernel : ∀ t : Fin grid0.N, _)
theorem flush4 : ∀ t : Fin cfg0.N, (cfg0.win 4).flush t = true := (by decide +kernel : ∀ t : Fin grid0.N, _)
theorem flush5 : ∀ t : Fin cfg0.N, (cfg0.win 5).flush t = true := (by decide +kernel : ∀ t : Fin grid0.N, _)

theorem split (R : Fin 16384) : ∃ (t : Fin cfg0.N) (r : Fin 512), R.val = 512 * t.val + r.val :=
  ⟨⟨R.val / 512, by have : cfg0.N = 32 := N_0; omega⟩, ⟨R.val % 512, by omega⟩, by show R.val = 512 * (R.val / 512) + R.val % 512; omega⟩

theorem arr3 (R : Fin 16384) (l : Fin 1024) : (dats m 0 c).arrAt 3 cfg0.N (ix2 R l) = up (xF m c R) (wF m c) (WF m c) ⟨l.val, by omega⟩ := by
  obtain ⟨t, r, hR⟩ := split R
  have h := congrFun (Value.blocks3 m c t (flush3 t)) (ix2 r l)
  rw [Value.flushed3_A] at h
  refine Eq.trans ?_ (h.trans ((out3 _ _ _ c _ _ _ _ _ _ _ _ _ _ _ _ _ r l).trans (block_eq m c t r R hR _ _ rfl)))
  generalize (dats m 0 c).arrAt 3 cfg0.N = G
  have e : R = ⟨512 * t.val + r.val, by omega⟩ := Fin.ext hR
  rw [e]
  blk_ext [idx t]

theorem arr4 (R : Fin 16384) (l : Fin 1152) : (dats m 0 c).arrAt 4 cfg0.N (ix2 R l) = up (xF m c R) (wF m c) (WF m c) ⟨1024 + l.val, by omega⟩ := by
  obtain ⟨t, r, hR⟩ := split R
  have h := congrFun (Value.blocks4 m c t (flush4 t)) (ix2 r l)
  rw [Value.flushed4_A] at h
  refine Eq.trans ?_ (h.trans ((out4 _ _ _ c _ _ _ _ _ _ _ _ _ _ _ _ _ r l).trans (block_eq m c t r R hR _ _ rfl)))
  generalize (dats m 0 c).arrAt 4 cfg0.N = G
  have e : R = ⟨512 * t.val + r.val, by omega⟩ := Fin.ext hR
  rw [e]
  blk_ext [idx t]

theorem arr5 (R : Fin 16384) (l : Fin 1664) : (dats m 0 c).arrAt 5 cfg0.N (ix2 R l) = up (xF m c R) (wF m c) (WF m c) (col l) := by
  obtain ⟨t, r, hR⟩ := split R
  have h := congrFun (Value.blocks5 m c t (flush5 t)) (ix2 r l)
  rw [Value.flushed5_A] at h
  refine Eq.trans ?_ (h.trans ((out5 _ _ _ c _ _ _ _ _ _ _ _ _ _ _ _ _ (ix2 r l)).trans (block_eq m c t r R hR _ _ rfl)))
  generalize (dats m 0 c).arrAt 5 cfg0.N = G
  have e : R = ⟨512 * t.val + r.val, by omega⟩ := Fin.ext hR
  rw [e]
  blk_ext [idx t]

end Cert.Kernel2Ideal.In
end
-- ==== Proof.RefIn.lean ====
module

public import proofs.«01_k».proof.Proof.Gen.Reference2Ideal.Run
public import proofs.«01_k».proof.Proof.Rows
public import Idealize.ShloMosaic.Lib.Pointwise

@[expose] public section

set_option backward.proofsInPublic true
set_option maxRecDepth 16384

noncomputable section

open Idealize.ShloMosaic Idealize.ShloMosaic.TcCoe Idealize.SL.Sem
namespace Cert.Reference2Ideal.In
open Cert.Reference2Ideal Cert.Reference2Ideal.Gen Cert.Rows

variable (x : FVec Ideal S16384x1024 .f32) (w : FVec Ideal S1024 .f32) (W : FVec Ideal S2x1024x3462 .f32)

/-- The normalised rows times the first layer's matrix, as the reference computes them. -/
def uR : FVec Ideal S16384x3462 .f32 :=
  Host.dotGeneral dot_S16384x1024_S1024x3462_S16384x3462_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 w))) (shapeCast S1024x3462 (extractStridedSlice S1x1024x3462 ![0, 0, 0] W slices_S2x1024x3462_S1x1024x3462_0_0_0) shapeCasts_S1x1024x3462_S1024x3462)

theorem uR_apply (R : Fin 16384) (l : Fin 3462) : uR x w W (ix2 R l) = up (fun k => x (ix2 R k)) (fun k => w (ix1 k)) (fun k l => W (ix3 0 k l)) l := by
  pointwise [uR, up, rms]

theorem first (R : Fin 16384) (l : Fin 1024) :
    extractStridedSlice S16384x1024 ![0, 0] (uR x w W) slices_S16384x3462_S16384x1024_0_0 (ix2 R l) = uR x w W (ix2 R ⟨l.val, by omega⟩) := by
  generalize uR x w W = u
  pointwise

theorem second (R : Fin 16384) (l : Fin 1152) :
    extractStridedSlice S16384x1152 ![0, 1024] (uR x w W) slices_S16384x3462_S16384x1152_0_1024 (ix2 R l) = uR x w W (ix2 R ⟨1024 + l.val, by omega⟩) := by
  generalize uR x w W = u
  pointwise

theorem third (R : Fin 16384) (l : Fin 1664) (L : Fin 3462) (hL : L.val = if l.val < 1280 then 2176 + l.val else 3456 + (l.val - 1280) / 64) :
    concatenate S16384x1664 1 [⟨S16384x1280, (extractStridedSlice S16384x1280 ![0, 2176] (uR x w W) slices_S16384x3462_S16384x1280_0_2176)⟩, ⟨S16384x384, (shapeCast S16384x384 (broadcastInDim S16384x6x64 ![0, 1] bcast_S16384x6_S16384x6x64_0_1 (extractStridedSlice S16384x6 ![0, 3456] (uR x w W) slices_S16384x3462_S16384x6_0_3456)) shapeCasts_S16384x6x64_S16384x384)⟩] concatenates_S16384x1280_S16384x384_S16384x1664_d1 (ix2 R l) = uR x w W (ix2 R L) := by
  generalize uR x w W = u
  pointwise
  split_ifs at hL ⊢ <;> exact congrArg (fun a => u (ix2 R a)) (Fin.ext hL.symm)

end Cert.Reference2Ideal.In
end
-- ==== Proof.Out.lean ====
module

public import proofs.«01_k».proof.Proof.Gen.Kernel3Ideal.Value
public import proofs.«01_k».proof.Proof.Rows
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option backward.proofsInPublic true
set_option maxRecDepth 16384

noncomputable section

open Idealize.ShloMosaic Idealize.ShloMosaic.TcCoe Idealize.SL.Sem
open Idealize.ShloMosaic.Pipeline (Dat)
namespace Cert.Kernel3Ideal.Out
open Cert.Kernel3Ideal Cert.Kernel3Ideal.Gen Cert.Rows

/-! ### One block of 512 rows -/

section
variable (x0 : Vec Ideal S512x1024 .f32) (x1 : Vec Ideal S512x256 .f32) (x2 x3 : Vec Ideal S512x384 .f32) (x4 : Vec Ideal S1024x1024 .bf16) (x5 : Vec Ideal S1x1024 .f32) (x6 : Vec Ideal S1024x1024 .bf16) (x7 : Vec Ideal S2x128x128 .f32)

/-- The block's rows after the mixers. -/
def blockH (r : Fin 512) (l : Fin 1024) : EReal :=
  mix (fun k => x0 (ix2 r k)) (fun k => x1 (ix2 r k)) (fun k => x2 (ix2 r k)) (fun k => x3 (ix2 r k)) (fun k l => x4 (ix2 k l)) l

theorem out8 (r : Fin 512) (l : Fin 1024) : out0_8 x0 x1 x2 x3 x4 x5 x6 x7 (ix2 r l) = blockH x0 x1 x2 x3 x4 r l := by
  frame_open
  frame_out
  pointwise [k0_pay5, blockH, mix]

theorem pay31_apply (r : Fin 512) (l : Fin 1024) : k0_pay31 x0 x1 x2 x3 x4 x5 x6 x7 (ix2 r l) = rms (blockH x0 x1 x2 x3 x4 r) (fun k => x5 (ix2 0 k)) l := by
  pointwise [k0_pay31, k0_pay6, k0_pay5, rms, blockH, mix]

theorem out9 (r : Fin 512) (l : Fin 1024) : out0_9 x0 x1 x2 x3 x4 x5 x6 x7 (ix2 r l) = rms (blockH x0 x1 x2 x3 x4 r) (fun k => x5 (ix2 0 k)) l := by
  refine Eq.trans ?_ (pay31_apply x0 x1 x2 x3 x4 x5 x6 x7 r l)
  unfold out0_9
  generalize k0_pay31 x0 x1 x2 x3 x4 x5 x6 x7 = X
  frame_out
  pointwise [k0_pay7]

theorem pay32_apply (r : Fin 512) (l : Fin 1024) : k0_pay32 x0 x1 x2 x3 x4 x5 x6 x7 (ix2 r l) = up (blockH x0 x1 x2 x3 x4 r) (fun k => x5 (ix2 0 k)) (fun k l => x6 (ix2 k l)) l := by
  have e := fun l => pay31_apply x0 x1 x2 x3 x4 x5 x6 x7 r l
  unfold k0_pay32
  generalize k0_pay31 x0 x1 x2 x3 x4 x5 x6 x7 = X at e ⊢
  pointwise [k0_pay8, k0_pay7, up]
  exact Finset.sum_congr rfl fun k _ => congrArg (· * _) (e k)

/-- The scores of the block: head, set, key and row. -/
def scores (Q : Vec Ideal S512x1024 .f32) (y : S8x2x128x512.Idx) : EReal :=
  ∑ d : Fin 128, x7 (ix3 (y 1) (y 2) d) * Q (ix2 (y 3) ⟨128 * (y 0).val + d.val, by have : (y 0).val < 8 := (y 0).isLt; omega⟩)

theorem out10 (y : S8x2x128x512.Idx) : out0_10 x0 x1 x2 x3 x4 x5 x6 x7 y = scores x7 (k0_pay32 x0 x1 x2 x3 x4 x5 x6 x7) y := by
  unfold out0_10 k0_pay33
  have e : k0_pay32 x0 x1 x2 x3 x4 x5 x6 x7 = k0_pay8 (k0_pay31 x0 x1 x2 x3 x4 x5 x6 x7) (View.ld x6 r0_7) := rfl
  unfold k0_pay10 k0_pay11 k0_pay13 k0_pay12 k0_pay9
  rw [← e]
  generalize k0_pay32 x0 x1 x2 x3 x4 x5 x6 x7 = Q
  canon_tiles x h
  all_goals
    have hx : x = ix4 0 0 (y 2) (y 3) := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    rw [hx]
    pointwise [k0_pay1, k0_pay2, k0_pay3, k0_pay4, k0_pay14, k0_pay15, k0_pay16, k0_pay17, k0_pay18, k0_pay19, k0_pay20, k0_pay21, k0_pay22, k0_pay23, k0_pay24, k0_pay25, k0_pay26, k0_pay27, k0_pay28, k0_pay29, k0_pay30]
    refine Finset.sum_congr rfl fun d _ => congrArg₂ (· * ·) (congrArg (fun a => x7 (ix3 a (y 2) d)) (Fin.ext ?_)) (congrArg (fun a => Q (ix2 (y 3) a)) (Fin.ext ?_))
    · first
        | (show 0 = (y 1).val; omega)
        | (show 1 = (y 1).val; omega)
    · show _ = 128 * (y 0).val + d.val
      dsimp only
      omega
end

/-! ### The blocks of the arrays -/

variable (m : (ℓ : Loc nD τ sig) → Buf (Elt Ideal) ℓ) (c : Dev nD)

theorem idx : ∀ t : Fin cfg0.N, win0_0.index t (0 : Fin 2) = t.val ∧ win0_0.index t (1 : Fin 2) = 0
    ∧ win0_1.index t (0 : Fin 2) = t.val ∧ win0_1.index t (1 : Fin 2) = 0 ∧ win0_2.index t (0 : Fin 2) = t.val ∧ win0_2.index t (1 : Fin 2) = 0
    ∧ win0_3.index t (0 : Fin 2) = t.val ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 ∧ win0_6.index t (0 : Fin 2) = 0 ∧ win0_6.index t (1 : Fin 2) = 0
    ∧ win0_7.index t (0 : Fin 3) = 0 ∧ win0_7.index t (1 : Fin 3) = 0 ∧ win0_7.index t (2 : Fin 3) = 0
    ∧ win0_8.index t (0 : Fin 2) = t.val ∧ win0_8.index t (1 : Fin 2) = 0 ∧ win0_9.index t (0 : Fin 2) = t.val ∧ win0_9.index t (1 : Fin 2) = 0
    ∧ win0_10.index t (0 : Fin 4) = 0 ∧ win0_10.index t (1 : Fin 4) = 0 ∧ win0_10.index t (2 : Fin 4) = 0 ∧ win0_10.index t (3 : Fin 4) = t.val :=
  (by decide +kernel : ∀ t : Fin grid0.N, _)

/-- The rows after the mixers. -/
def hF (R : Fin 16384) (l : Fin 1024) : EReal :=
  mix (fun k => m ((c : Thread nD τ).loc main_arg0) (ix2 R k)) (fun k => m ((c : Thread nD τ).loc main_arg1) (ix2 R k)) (fun k => m ((c : Thread nD τ).loc main_arg2) (ix2 R k))
    (fun k => m ((c : Thread nD τ).loc main_arg3) (ix2 R k)) (fun k l => m ((c : Thread nD τ).loc main_arg4) (ix2 k l)) l
/-- The norm's weights. -/
def wF (k : Fin 1024) : EReal := m ((c : Thread nD τ).loc main_arg5) (ix1 k)
/-- The query's matrix. -/
def QF (k l : Fin 1024) : EReal := m ((c : Thread nD τ).loc main_arg6) (ix2 k l)
/-- The two sets of keys. -/
def SF (a : Fin 2) (n : Fin 128) (d : Fin 64) : EReal := m ((c : Thread nD τ).loc main_arg7) (ix3 a n d)

theorem v12_eq : (V m c main_v12 : FVec Ideal S1024x1024 .bf16) = truncf (F := Ideal) .bf16 (m ((c : Thread nD τ).loc main_arg4) : FVec Ideal S1024x1024 .f32) bitsLt_bf16_f32 := by
  show StableHlo.after hostOps0 (fun b => m (c, b)) (Proc.tc.devRef main_v12) = _
  after_results

theorem v13_eq : (V m c main_v13 : FVec Ideal S1024x1024 .bf16) = truncf (F := Ideal) .bf16 (m ((c : Thread nD τ).loc main_arg6) : FVec Ideal S1024x1024 .f32) bitsLt_bf16_f32 := by
  show StableHlo.after hostOps0 (fun b => m (c, b)) (Proc.tc.devRef main_v13) = _
  after_results

theorem v14_eq : V m c main_v14 = shapeCast S1x1024 (m ((c : Thread nD τ).loc main_arg5)) shapeCasts_S1024_S1x1024 := by
  show StableHlo.after hostOps0 (fun b => m (c, b)) (Proc.tc.devRef main_v14) = _
  after_results
  rfl

theorem v11_eq : (V m c main_v11 : FVec Ideal S2x128x128 .f32) = concatenate S2x128x128 0
    [⟨S1x128x128, broadcastInDim S1x128x128 ![1, 2] bcast_S128x128_S1x128x128_1_2 (concatenate S128x128 1
        [⟨S128x64, shapeCast S128x64 (extractStridedSlice S1x128x64 ![0, 0, 0] (m ((c : Thread nD τ).loc main_arg7) : FVec Ideal S2x128x64 .f32) slices_S2x128x64_S1x128x64_0_0_0) shapeCasts_S1x128x64_S128x64⟩,
          ⟨S128x64, broadcastInDim S128x64 ![] bcast_S_S128x64 (constant (F := Ideal) S_ .f32 0x00000000#32)⟩] concatenates_S128x64_S128x64_S128x128_d1)⟩,
      ⟨S1x128x128, broadcastInDim S1x128x128 ![1, 2] bcast_S128x128_S1x128x128_1_2 (concatenate S128x128 1
        [⟨S128x64, broadcastInDim S128x64 ![] bcast_S_S128x64 (constant (F := Ideal) S_ .f32 0x00000000#32)⟩,
          ⟨S128x64, shapeCast S128x64 (extractStridedSlice S1x128x64 ![1, 0, 0] (m ((c : Thread nD τ).loc main_arg7) : FVec Ideal S2x128x64 .f32) slices_S2x128x64_S1x128x64_1_0_0) shapeCasts_S1x128x64_S128x64⟩] concatenates_S128x64_S128x64_S128x128_d1)⟩]
    concatenates_S1x128x128_S1x128x128_S2x128x128_d0 := by
  show StableHlo.after hostOps0 (fun b => m (c, b)) (Proc.tc.devRef main_v11) = _
  after_results
  rfl

theorem b7 (t : Fin cfg0.N) (a : Fin 2) (n d : Fin 128) : iblk m c 7 t (ix3 a n d) = if d.val / 64 = a.val then SF m c a n ⟨d.val % 64, by omega⟩ else 0 := by
  have e : iblk m c 7 t (ix3 a n d) = V m c main_v11 (ix3 a n d) := by
    generalize hX : V m c main_v11 = X
    show (((cfg0.win 7).blk t).view.read (Elt Ideal) (V m c main_v11)) (ix3 a n d) = _
    rw [hX]
    blk_ext [idx t]
  rw [e, v11_eq]
  pointwise [SF]
  have ha := a.isLt
  have hd := d.isLt
  by_cases h0 : a.val < 1
  · rw [dif_pos h0]
    by_cases h1 : d.val < 64
    · rw [dif_pos h1, if_pos (by omega)]
      exact congrArg₂ (fun p q => m ((c : Thread nD τ).loc main_arg7) (ix3 p n q)) (Fin.ext (by show 0 = a.val; omega)) (Fin.ext (by show d.val = d.val % 64; omega))
    · rw [dif_neg h1, if_neg (by omega)]
  · rw [dif_neg h0]
    by_cases h1 : d.val < 64
    · rw [dif_pos h1, if_neg (by omega)]
    · rw [dif_neg h1]
      refine Eq.trans ?_ (if_pos (by omega)).symm
      exact congrArg₂ (fun p q => m ((c : Thread nD τ).loc main_arg7) (ix3 p n q)) (Fin.ext (by show 1 = a.val; omega)) (Fin.ext (by show d.val - 64 = d.val % 64; omega))

variable (t : Fin cfg0.N) (r : Fin 512) (R : Fin 16384) (hR : R.val = 512 * t.val + r.val)

section
include hR
theorem b0 (k : Fin 1024) : iblk m c 0 t (ix2 r k) = m ((c : Thread nD τ).loc main_arg0) (ix2 R k) := by
  rw [show R = ⟨512 * t.val + r.val, by omega⟩ from Fin.ext hR]
  blk_ext [iblk, V, idx t]

theorem b1 (k : Fin 256) : iblk m c 1 t (ix2 r k) = m ((c : Thread nD τ).loc main_arg1) (ix2 R k) := by
  rw [show R = ⟨512 * t.val + r.val, by omega⟩ from Fin.ext hR]
  blk_ext [iblk, V, idx t]

theorem b2 (k : Fin 384) : iblk m c 2 t (ix2 r k) = m ((c : Thread nD τ).loc main_arg2) (ix2 R k) := by
  rw [show R = ⟨512 * t.val + r.val, by omega⟩ from Fin.ext hR]
  blk_ext [iblk, V, idx t]

theorem b3 (k : Fin 384) : iblk m c 3 t (ix2 r k) = m ((c : Thread nD τ).loc main_arg3) (ix2 R k) := by
  rw [show R = ⟨512 * t.val + r.val, by omega⟩ from Fin.ext hR]
  blk_ext [iblk, V, idx t]
end

theorem b4 (k l : Fin 1024) : iblk m c 4 t (ix2 k l) = m ((c : Thread nD τ).loc main_arg4) (ix2 k l) := by
  have e : iblk m c 4 t (ix2 k l) = V m c main_v12 (ix2 k l) := by
    generalize hX : V m c main_v12 = X
    show (((cfg0.win 4).blk t).view.read (Elt Ideal) (V m c main_v12)) (ix2 k l) = _
    rw [hX]
    blk_ext [idx t]
  rw [e, v12_eq]
  pointwise

theorem b5 (k : Fin 1024) : iblk m c 5 t (ix2 0 k) = wF m c k := by
  have e : iblk m c 5 t (ix2 0 k) = V m c main_v14 (ix2 0 k) := by
    generalize hX : V m c main_v14 = X
    show (((cfg0.win 5).blk t).view.read (Elt Ideal) (V m c main_v14)) (ix2 0 k) = _
    rw [hX]
    blk_ext [idx t]
  rw [e, v14_eq]
  pointwise [wF]

theorem b6 (k l : Fin 1024) : iblk m c 6 t (ix2 k l) = QF m c k l := by
  have e : iblk m c 6 t (ix2 k l) = V m c main_v13 (ix2 k l) := by
    generalize hX : V m c main_v13 = X
    show (((cfg0.win 6).blk t).view.read (Elt Ideal) (V m c main_v13)) (ix2 k l) = _
    rw [hX]
    blk_ext [idx t]
  rw [e, v13_eq]
  pointwise [QF]

section
include hR
theorem blockH_eq : blockH (iblk m c 0 t) (iblk m c 1 t) (iblk m c 2 t) (iblk m c 3 t) (iblk m c 4 t) r = hF m c R := by
  funext l
  unfold blockH hF
  have e0 := funext fun k => b0 m c t r R hR k
  have e1 := funext fun k => b1 m c t r R hR k
  have e2 := funext fun k => b2 m c t r R hR k
  have e3 := funext fun k => b3 m c t r R hR k
  have e4 := funext fun k => funext fun l => b4 m c t k l
  exact (congrArg (mix · _ _ _ _ l) e0).trans ((congrArg (mix _ · _ _ _ l) e1).trans ((congrArg (mix _ _ · _ _ l) e2).trans ((congrArg (mix _ _ _ · _ l) e3).trans (congrArg (mix _ _ _ _ · l) e4))))

/-- The query of a row. -/
theorem query_eq (l : Fin 1024) : k0_pay32 (iblk m c 0 t) (iblk m c 1 t) (iblk m c 2 t) (iblk m c 3 t) (iblk m c 4 t) (iblk m c 5 t) (iblk m c 6 t) (iblk m c 7 t) (ix2 r l) = up (hF m c R) (wF m c) (QF m c) l := by
  refine (pay32_apply _ _ _ _ _ _ _ _ r l).trans ?_
  have e5 := funext fun k => b5 m c t k
  have e6 := funext fun k => funext fun l => b6 m c t k l
  rw [blockH_eq m c t r R hR]
  exact (congrArg (up _ · _ l) e5).trans (congrArg (up _ _ · l) e6)
end

/-! ### The three arrays -/

theorem flush8 : ∀ t : Fin cfg0.N, (cfg0.win 8).flush t = true := (by decide +kernel : ∀ t : Fin grid0.N, _)
theorem flush9 : ∀ t : Fin cfg0.N, (cfg0.win 9).flush t = true := (by decide +kernel : ∀ t : Fin grid0.N, _)
theorem flush10 : ∀ t : Fin cfg0.N, (cfg0.win 10).flush t = true := (by decide +kernel : ∀ t : Fin grid0.N, _)

theorem split (R : Fin 16384) : ∃ (t : Fin cfg0.N) (r : Fin 512), R.val = 512 * t.val + r.val :=
  ⟨⟨R.val / 512, by have : cfg0.N = 32 := N_0; omega⟩, ⟨R.val % 512, by omega⟩, by show R.val = 512 * (R.val / 512) + R.val % 512; omega⟩

theorem arr8 (R : Fin 16384) (l : Fin 1024) : (dats m 0 c).arrAt 8 cfg0.N (ix2 R l) = hF m c R l := by
  obtain ⟨t, r, hR⟩ := split R
  have h := congrFun (Value.blocks8 m c t (flush8 t)) (ix2 r l)
  rw [Value.flushed8] at h
  refine Eq.trans ?_ (h.trans ((out8 _ _ _ _ _ _ _ _ r l).trans (congrFun (blockH_eq m c t r R hR) l)))
  generalize (dats m 0 c).arrAt 8 cfg0.N = G
  rw [show R = ⟨512 * t.val + r.val, by omega⟩ from Fin.ext hR]
  blk_ext [idx t]

theorem arr9 (R : Fin 16384) (l : Fin 1024) : (dats m 0 c).arrAt 9 cfg0.N (ix2 R l) = rms (hF m c R) (wF m c) l := by
  obtain ⟨t, r, hR⟩ := split R
  have h := congrFun (Value.blocks9 m c t (flush9 t)) (ix2 r l)
  rw [Value.flushed9] at h
  refine Eq.trans ?_ (h.trans ((out9 _ _ _ _ _ _ _ _ r l).trans (congrArg₂ (rms · · l) (blockH_eq m c t r R hR) (funext fun k => b5 m c t k))))
  generalize (dats m 0 c).arrAt 9 cfg0.N = G
  rw [show R = ⟨512 * t.val + r.val, by omega⟩ from Fin.ext hR]
  blk_ext [idx t]

theorem arr10 (hd : Fin 8) (a : Fin 2) (n : Fin 128) (R : Fin 16384) :
    (dats m 0 c).arrAt 10 cfg0.N (ix4 hd a n R) = score (up (hF m c R) (wF m c) (QF m c)) (SF m c) hd a n := by
  obtain ⟨t, r, hR⟩ := split R
  have h := congrFun (Value.blocks10 m c t (flush10 t)) (ix4 hd a n r)
  rw [Value.flushed10] at h
  refine Eq.trans ?_ (h.trans ((out10 _ _ _ _ _ _ _ _ (ix4 hd a n r)).trans ?_))
  · generalize (dats m 0 c).arrAt 10 cfg0.N = G
    rw [show R = ⟨512 * t.val + r.val, by omega⟩ from Fin.ext hR]
    blk_ext [idx t]
  · refine Eq.trans ?_ (score_padded _ _ hd a n)
    exact Finset.sum_congr rfl fun d _ => congrArg₂ (· * ·) (b7 m c t a n d) (query_eq m c t r R hR _)

end Cert.Kernel3Ideal.Out
end
-- ==== Proof.RefOut.lean ====
module

public import proofs.«01_k».proof.Proof.Gen.Reference3Ideal.Run
public import proofs.«01_k».proof.Proof.Rows
public import Idealize.ShloMosaic.Lib.Pointwise

@[expose] public section

set_option backward.proofsInPublic true
set_option maxRecDepth 16384

noncomputable section

open Idealize.ShloMosaic Idealize.ShloMosaic.TcCoe Idealize.SL.Sem
namespace Cert.Reference3Ideal.Out
open Cert.Reference3Ideal Cert.Reference3Ideal.Gen Cert.Rows

variable (x : FVec Ideal S16384x1024 .f32) (a : FVec Ideal S16384x256 .f32) (b cc : FVec Ideal S16384x384 .f32) (W : FVec Ideal S1024x1024 .f32) (w : FVec Ideal S1024 .f32) (Q : FVec Ideal S1024x1024 .f32) (S : FVec Ideal S2x128x64 .f32)

/-- The rows after the mixers, as the reference computes them. -/
def hR : FVec Ideal S16384x1024 .f32 :=
  addf x (Host.dotGeneral dot_S16384x1024_S1024x1024_S16384x1024_1_0_0_1_n_n none ((concatenate S16384x1024 1 [⟨S16384x256, a⟩, ⟨S16384x384, b⟩, ⟨S16384x384, cc⟩] concatenates_S16384x256_S16384x384_S16384x384_S16384x1024_d1)) W)

/-- The rows normalised. -/
def xnR : FVec Ideal S16384x1024 .f32 :=
  mulf (mulf (hR x a b cc W) (broadcastInDim S16384x1024 ![0, 1] bcast_S16384x1_S16384x1024_0_1 (Host.rsqrt (addf (Host.divf (broadcastInDim S16384x1 ![0] bcast_S16384_S16384x1_0 (Host.reduceAdd (mulf (hR x a b cc W) (hR x a b cc W)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 w))

/-- The scores. -/
def scR : FVec Ideal S8x2x128x16384 .f32 :=
  transpose S8x2x128x16384 [1, 2, 3, 0] (transpose S16384x8x2x128 [2, 3, 0, 1] (Host.dotGeneral dot_S2x128x64_S16384x8x2x64_S2x128x16384x8_2_3_1_01_0_2 none S (shapeCast S16384x8x2x64 (Host.dotGeneral dot_S16384x1024_S1024x1024_S16384x1024_1_0_0_1_n_n none (xnR x a b cc W w) Q) shapeCasts_S16384x1024_S16384x8x2x64)) transposes_S2x128x16384x8_S16384x8x2x128_2_3_0_1) transposes_S16384x8x2x128_S8x2x128x16384_1_2_3_0

/-- The same rows, entry by entry. -/
def hE (R : Fin 16384) (l : Fin 1024) : EReal :=
  mix (fun k => x (ix2 R k)) (fun k => a (ix2 R k)) (fun k => b (ix2 R k)) (fun k => cc (ix2 R k)) (fun k l => W (ix2 k l)) l

theorem hR_apply (R : Fin 16384) (l : Fin 1024) : hR x a b cc W (ix2 R l) = hE x a b cc W R l := by
  pointwise [hR, hE, mix]
  rw [sum_three, ← add_assoc, ← add_assoc]
  refine congrArg₂ (· + ·) (congrArg₂ (· + ·) (congrArg (x (ix2 R l) + ·) ?_) ?_) ?_ <;> refine Finset.sum_congr rfl fun k _ => ?_
  · rw [dif_pos (show k.val < 256 from k.isLt)]
  · rw [dif_neg (show ¬ 256 + k.val < 256 by omega), dif_pos (show 256 + k.val - 256 < 384 by omega)]
    congr 3
    exact Fin.ext (by show 256 + k.val - 256 = k.val; omega)
  · rw [dif_neg (show ¬ 640 + k.val < 256 by omega), dif_neg (show ¬ 640 + k.val - 256 < 384 by omega)]
    congr 3
    exact Fin.ext (by show 640 + k.val - 256 - 384 = k.val; omega)

theorem xnR_apply (R : Fin 16384) (l : Fin 1024) : xnR x a b cc W w (ix2 R l) = rms (hE x a b cc W R) (fun k => w (ix1 k)) l := by
  unfold xnR
  generalize e : hR x a b cc W = H
  have eH : ∀ l, hE x a b cc W R l = H (ix2 R l) := fun l => by rw [← e, hR_apply]
  rw [show hE x a b cc W R = fun l => H (ix2 R l) from funext eH]
  pointwise [rms]

theorem scR_apply (h : Fin 8) (c : Fin 2) (n : Fin 128) (R : Fin 16384) :
    scR x a b cc W w Q S (ix4 h c n R) = score (up (hE x a b cc W R) (fun k => w (ix1 k)) (fun k l => Q (ix2 k l))) (fun c n d => S (ix3 c n d)) h c n := by
  unfold scR
  generalize e : xnR x a b cc W w = X
  have eX : ∀ l, rms (hE x a b cc W R) (fun k => w (ix1 k)) l = X (ix2 R l) := fun l => by rw [← e, xnR_apply]
  pointwise [score, up]
  refine Finset.sum_congr rfl fun d _ => congrArg (S (ix3 c n d) * ·) (Finset.sum_congr rfl fun k _ => ?_)
  rw [eX k]
  congr 3
  exact Fin.ext (by show h.val * 128 + c.val * 64 + d.val = 128 * h.val + 64 * c.val + d.val; omega)

end Cert.Reference3Ideal.Out
end
-- ==== Proof.HChunk.lean ====
module

public import proofs.«01_k».proof.Proof.Gen.Kernel4Ideal.Skeleton
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.Kernel4Ideal.Hgrn
open Cert.Kernel4Ideal Cert.Kernel4Ideal.Gen

/-! ### One 64-step chunk: the 16-step blocks' own products, then the whole chunk -/

theorem slices16 (j : ℕ) : S64x256.Slices ![(16 * j) % 64, 0] S16x256 := by
  refine ⟨rfl, fun a => ?_⟩
  match a with
  | ⟨0, _⟩ => show (16 * j) % 64 + 16 ≤ 64; omega
  | ⟨1, _⟩ => show 0 + 256 ≤ 256; omega
theorem slices1 (r : ℕ) : S64x256.Slices ![r % 64, 0] S1x256 := by
  refine ⟨rfl, fun a => ?_⟩
  match a with
  | ⟨0, _⟩ => show r % 64 + 1 ≤ 64; omega
  | ⟨1, _⟩ => show 0 + 256 ≤ 256; omega
theorem slicesB (s : ℕ) : S256x256.Slices ![(16 * s) % 256, 0] S16x256 := by
  refine ⟨rfl, fun a => ?_⟩
  match a with
  | ⟨0, _⟩ => show (16 * s) % 256 + 16 ≤ 256; omega
  | ⟨1, _⟩ => show 0 + 256 ≤ 256; omega

/-- Block `j` of 16 rows, and row `r` spread over 16 rows. -/
def blk16 (X : FVec Ideal S64x256 .f32) (j : ℕ) : FVec Ideal S16x256 .f32 := extractStridedSlice S16x256 ![(16 * j) % 64, 0] X (slices16 j)
def row16 (X : FVec Ideal S64x256 .f32) (r : ℕ) : FVec Ideal S16x256 .f32 :=
  broadcastTo S16x256 (extractStridedSlice S1x256 ![r % 64, 0] X (slices1 r)) broadcasts_S1x256_S16x256

/-- The lane products of block `j` with its own step `s`. -/
def prodV (Q K B : FVec Ideal S64x256 .f32) (j s : ℕ) : FVec Ideal S16x256 .f32 :=
  mulf (mulf (blk16 Q j) (row16 K (16 * j + s)))
    (exp (select (cmpi .sge (iota .tc S16x256 32 [0] iota_S16x256_d0_w32) (broadcast S16x256 (BitVec.ofNat 32 s)))
      (subf (blk16 B j) (row16 B (16 * j + s))) (broadcast S16x256 (Named.named κ "mask" 0xF149F2CA#32))))

/-- Sixteen blocks of 16 rows stacked. -/
def stackV (p : ℕ → FVec Ideal S16x256 .f32) : FVec Ideal S256x256 .f32 :=
  concatenate S256x256 0 [⟨S16x256, p 0⟩, ⟨S16x256, p 1⟩, ⟨S16x256, p 2⟩, ⟨S16x256, p 3⟩, ⟨S16x256, p 4⟩, ⟨S16x256, p 5⟩, ⟨S16x256, p 6⟩, ⟨S16x256, p 7⟩, ⟨S16x256, p 8⟩, ⟨S16x256, p 9⟩, ⟨S16x256, p 10⟩, ⟨S16x256, p 11⟩, ⟨S16x256, p 12⟩, ⟨S16x256, p 13⟩, ⟨S16x256, p 14⟩, ⟨S16x256, p 15⟩] concatenates_S16x256_S16x256_S16x256_S16x256_S16x256_S16x256_S16x256_S16x256_S16x256_S16x256_S16x256_S16x256_S16x256_S16x256_S16x256_S16x256_S256x256_d0

/-- The mask of the heads' blocks. -/
def segV : FVec Ideal S256x256 .f32 := k0_pay17 (iota .tc S256x256 32 [0] iota_S256x256_d0_w32) (iota .tc S256x256 32 [1] iota_S256x256_d1_w32) k0_pay15 k0_pay16 64#32
def segB : FVec Ideal S256x256 .bf16 := k0_pay18 (iota .tc S256x256 32 [0] iota_S256x256_d0_w32) (iota .tc S256x256 32 [1] iota_S256x256_d1_w32) k0_pay15 k0_pay16 64#32

/-- The lane products summed over each head. -/
def headV (p : ℕ → FVec Ideal S16x256 .f32) : FVec Ideal S256x256 .f32 :=
  matmul dot_S256x256_S256x256_S256x256_1_0_0_1_n_n none (truncf .bf16 (stackV p) bitsLt_bf16_f32) segB (constant S256x256 .f32 0x00000000#32)

/-- Block `j`'s own steps up to `s`, applied to the values. -/
def ownV (AB : FVec Ideal S256x256 .f32) (I : FVec Ideal S64x256 .f32) (j : ℕ) : ℕ → FVec Ideal S16x256 .f32
  | 0 => mulf (extractStridedSlice S16x256 ![(16 * 0) % 256, 0] AB (slicesB 0)) (row16 I (16 * j + 0))
  | s + 1 => addf (ownV AB I j s) (mulf (extractStridedSlice S16x256 ![(16 * (s + 1)) % 256, 0] AB (slicesB (s + 1))) (row16 I (16 * j + (s + 1))))

def blockV (Q K B I : FVec Ideal S64x256 .f32) (j : ℕ) : FVec Ideal S16x256 .f32 := ownV (headV (prodV Q K B j)) I j 15

section
variable (x1 : Vec Ideal S2x256 .f32) (x2 : Vec Ideal S1x256 .f32) (U : Vec Ideal S1x64x1024 .f32) (S : Vec Ideal S256x256 .f32)

def lbV : FVec Ideal S1x256 .f32 := k0_pay3 x1
def qV : FVec Ideal S64x256 .f32 := k0_pay22 U
def iV : FVec Ideal S64x256 .f32 := k0_pay23 U
def gV : FVec Ideal S64x256 .f32 := k0_pay24 U
def kV : FVec Ideal S64x256 .f32 := k0_pay26 (lbV x1) U
def bV : FVec Ideal S64x256 .f32 := k0_pay27 (lbV x1) k0_pay5 U
def rowsV : IVec S64x256 32 := iota .tc S64x256 32 [0] iota_S64x256_d0_w32

/-- The steps of the blocks before, through the blocks' references. -/
def offV : FVec Ideal S64x256 .f32 :=
  k0_pay35 rowsV k0_pay6 (k0_pay8 k0_pay7) k0_pay9 k0_pay10 (k0_pay11 k0_pay6) (k0_pay12 k0_pay7) k0_pay13 k0_pay14 k0_pay19 (k0_pay20 rowsV)
    (qV U) (iV U) (kV x1 U) (bV x1 U) (k0_pay28 (lbV x1) k0_pay5 U) (k0_pay30 (lbV x1) k0_pay5 U) (k0_pay32 (lbV x1) k0_pay5 rowsV U) (k0_pay33 (lbV x1) k0_pay5 rowsV U) k0_pay34

/-- The chunk's rows before the norm. -/
def oV : FVec Ideal S64x256 .f32 :=
  addf (k0_pay36 (qV U) (bV x1 U) (offV x1 U) S)
    (concatenate S64x256 0 [⟨S16x256, blockV (qV U) (kV x1 U) (bV x1 U) (iV U) 0⟩, ⟨S16x256, blockV (qV U) (kV x1 U) (bV x1 U) (iV U) 1⟩,
      ⟨S16x256, blockV (qV U) (kV x1 U) (bV x1 U) (iV U) 2⟩, ⟨S16x256, blockV (qV U) (kV x1 U) (bV x1 U) (iV U) 3⟩] concatenates_S16x256_S16x256_S16x256_S16x256_S64x256_d0)

/-- The state after one 64-step chunk: `U` the chunk's columns, `S` the state before. -/
def chunkSt : Vec Ideal S256x256 .f32 :=
  k0_pay152 (k0_pay150 (k0_pay31 (lbV x1) k0_pay5 U) S) (k0_pay151 segV (iV U) (kV x1 U) (bV x1 U) (k0_pay31 (lbV x1) k0_pay5 U))

/-- The rows one chunk writes. -/
def chunkY : Vec Ideal S1x64x256 .f32 := k0_pay153 (k0_pay4 x2) segB (gV U) (oV x1 U S)

end
end Cert.Kernel4Ideal.Hgrn
end
-- ==== Proof.HBody.lean ====
module

public import proofs.«01_k».proof.Proof.Gen.Kernel4Ideal.Value
public import proofs.«01_k».proof.Proof.HChunk
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)
namespace Cert.Kernel4Ideal.Hgrn
open Cert.Kernel4Ideal Cert.Kernel4Ideal.Gen

/-! ### One block of 512 steps: eight chunks -/

theorem inU (c : ℕ) : ∀ a, (![0, (64 * c) % 512, 0] : Fin 3 → ℕ) a + S1x64x1024.size a ≤ S1x512x1024.size a := by
  intro a
  match a with
  | ⟨0, _⟩ => show 0 + 1 ≤ 1; omega
  | ⟨1, _⟩ => show (64 * c) % 512 + 64 ≤ 512; omega
  | ⟨2, _⟩ => show 0 + 1024 ≤ 1024; omega

/-- The columns of chunk `c`, out of a block of 512 rows. -/
def Uc (x0 : Vec Ideal S1x512x1024 .f32) (c : ℕ) : Vec Ideal S1x64x1024 .f32 :=
  View.ld x0 (Rect.unit (s := S1x512x1024) ![0, (64 * c) % 512, 0] S1x64x1024.size (inU c))

theorem Uc_apply (x0 : Vec Ideal S1x512x1024 .f32) (c : ℕ) (t : Fin 64) (l : Fin 1024) :
    Uc x0 c (ix3 0 t l) = x0 (ix3 0 ⟨(64 * c + t.val) % 512, Nat.mod_lt _ (by decide)⟩ l) := by
  refine View.ld_unit_apply_of _ _ _ _ _ _ fun a => ?_
  match a with
  | ⟨0, _⟩ => rfl
  | ⟨1, _⟩ => show (64 * c + t.val) % 512 = (64 * c) % 512 + t.val; omega
  | ⟨2, _⟩ => show l.val = 0 + l.val; omega

/-- The state after `c` chunks of a block. -/
def foldS (x1 : Vec Ideal S2x256 .f32) (x0 : Vec Ideal S1x512x1024 .f32) (S : Vec Ideal S256x256 .f32) : ℕ → Vec Ideal S256x256 .f32
  | 0 => S
  | c + 1 => chunkSt x1 (Uc x0 c) (foldS x1 x0 S c)

def outV (x1 : Vec Ideal S2x256 .f32) (x2 : Vec Ideal S1x256 .f32) (x0 : Vec Ideal S1x512x1024 .f32) (S : Vec Ideal S256x256 .f32) (r : Fin 512) (l : Fin 256) : EReal :=
  chunkY x1 x2 (Uc x0 (r.val / 64)) (foldS x1 x0 S (r.val / 64)) (ix3 0 ⟨r.val % 64, Nat.mod_lt _ (by decide)⟩ l)

theorem outV_tile (x1 : Vec Ideal S2x256 .f32) (x2 : Vec Ideal S1x256 .f32) (x0 : Vec Ideal S1x512x1024 .f32) (S : Vec Ideal S256x256 .f32) (c : ℕ)
    (r : Fin 512) (l : Fin 256) (x : S1x64x256.Idx) (h1 : r.val = 64 * c + (x 1).val) (h2 : l.val = (x 2).val) :
    chunkY x1 x2 (Uc x0 c) (foldS x1 x0 S c) x = outV x1 x2 x0 S r l := by
  have hx : (x 1).val < 64 := (x 1).isLt
  have h0 : (x 0).val < 1 := (x 0).isLt
  have hc : r.val / 64 = c := by omega
  unfold outV
  rw [hc]
  congr 1
  funext a
  match a with
  | ⟨0, _⟩ => exact Fin.ext (by show (x 0).val = 0; omega)
  | ⟨1, _⟩ => exact Fin.ext (by show (x 1).val = r.val % 64; omega)
  | ⟨2, _⟩ => exact Fin.ext (by show (x 2).val = l.val; omega)

section
variable (c : Dev nD) (i : grid0.Coords) (arg2 : Memref sig .tc .vmem S1x512x1024 .f32) (harg2 : arg2.IsWhole) (arg3 : Memref sig .tc .vmem S2x256 .f32) (harg3 : arg3.IsWhole)
  (arg4 : Memref sig .tc .vmem S1x256 .f32) (harg4 : arg4.IsWhole) (arg5 : Memref sig .tc .vmem S1x512x256 .f32) (harg5 : arg5.IsWhole) (arg6 : Memref sig .tc .vmem S256x256 .f32) (harg6 : arg6.IsWhole)

theorem sout_A (hc0 : cond0_0 i) (x0 : Vec Ideal S1x512x1024 .f32) (x1 : Vec Ideal S2x256 .f32) (x2 : Vec Ideal S1x256 .f32) :
    sout0_A_0 c i arg2 harg2 arg3 harg3 arg4 harg4 arg5 harg5 arg6 harg6 hc0 x0 x1 x2 = foldS x1 x0 (k0_pay2 (F := Ideal)) 8 := by
  frame_open
  simp (disch := decide) only [↓ View.readCov_skip, ↓ View.readCov_cons_toLoadRect, ↓ View.readCov_fill]
  frame_out
  rfl

theorem sout_B (hc0 : ¬cond0_0 i) (x0 : Vec Ideal S1x512x1024 .f32) (x1 : Vec Ideal S2x256 .f32) (x2 : Vec Ideal S1x256 .f32) (xs0 : Vec Ideal S256x256 .f32) :
    sout0_B_0 c i arg2 harg2 arg3 harg3 arg4 harg4 arg5 harg5 arg6 harg6 hc0 x0 x1 x2 xs0 = foldS x1 x0 xs0 8 := by
  frame_open
  simp (disch := decide) only [↓ View.readCov_skip, ↓ View.readCov_cons_toLoadRect, ↓ View.readCov_fill]
  frame_out
  rfl

end
end Cert.Kernel4Ideal.Hgrn
end
-- ==== Proof.HModel.lean ====
module

public import proofs.«01_k».proof.Proof.Model

@[expose] public section

noncomputable section

open Idealize.ShloMosaic

namespace Cert.Hgrn

open Cert.Scan (sg exp_nonneg coe_sum)

/-! ### The gated linear recurrence: four heads of 64 lanes, 32 chunks of 64 steps -/

/-- A lane's head, its place in the head, and the lane at a head's place. -/
def hd (l : Fin 256) : Fin 4 := ⟨l.val / 64, by omega⟩
def ps (l : Fin 256) : Fin 64 := ⟨l.val % 64, by omega⟩
def lane (h : Fin 4) (p : Fin 64) : Fin 256 := ⟨h.val * 64 + p.val, by omega⟩

theorem lane_hd_ps (l : Fin 256) : lane (hd l) (ps l) = l := by
  apply Fin.ext; simp only [lane, hd, ps]; omega

theorem hd_lane (h : Fin 4) (p : Fin 64) : hd (lane h p) = h := by
  apply Fin.ext; simp only [lane, hd]; omega

theorem ps_lane (h : Fin 4) (p : Fin 64) : ps (lane h p) = p := by
  apply Fin.ext; simp only [lane, ps]; omega

theorem sum_one_head (h : Fin 4) (F : Fin 256 → EReal) (hF : ∀ k, hd k ≠ h → F k = 0) :
    ∑ k, F k = ∑ p : Fin 64, F (lane h p) := by
  have e : ∑ k, F k = ∑ h : Fin 4, ∑ s : Fin 64, F (lane h s) := Fin.sum_univ_tiles 4 64 rfl F
  rw [e]
  refine Finset.sum_eq_single h (fun h' _ hne => ?_) (fun c => absurd (Finset.mem_univ _) c)
  exact Finset.sum_eq_zero fun s _ => hF _ (by rw [hd_lane]; exact hne)

/-- The lower bound of the gate, from the two rows of logits, and the gate. -/
def low (x y : EReal) : EReal :=
  Ideal.div (Ideal.exp (y - max x y)) (Ideal.exp (x - max x y) + Ideal.exp (y - max x y))
def gate (lb f : EReal) : EReal := lb + (1 - lb) * sg f

section chunk
variable (q kk lf iv : Fin 64 → Fin 256 → EReal) (st : Fin 256 → Fin 64 → EReal)

/-- The log gates summed up to step `t`. -/
def cum (t : Fin 64) (l : Fin 256) : EReal := ∑ u : Fin 64, if u.val ≤ t.val then lf u l else 0

def decay (t s : Fin 64) (l : Fin 256) : EReal := if s.val ≤ t.val then Ideal.exp (cum lf t l - cum lf s l) else 0

def score (t s : Fin 64) (h : Fin 4) : EReal := ∑ p : Fin 64, q t (lane h p) * (kk s (lane h p) * decay lf t s (lane h p))

/-- A chunk's rows before the norm: the state carried in, then the steps of the chunk itself. -/
def yRow (t : Fin 64) (l : Fin 256) : EReal :=
  (∑ p : Fin 64, q t (lane (hd l) p) * Ideal.exp (cum lf t (lane (hd l) p)) * st l p)
    + ∑ s : Fin 64, score q kk lf t s (hd l) * iv s l

/-- The state a chunk carries out, at a value lane and a place of the key. -/
def next (l : Fin 256) (p : Fin 64) : EReal :=
  st l p * Ideal.exp (cum lf 63 (lane (hd l) p))
    + ∑ s : Fin 64, iv s l * (kk s (lane (hd l) p) * Ideal.exp (cum lf 63 (lane (hd l) p) - cum lf s (lane (hd l) p)))

end chunk

/-- A row normalised over its head, and gated. -/
def normed (o nw g : Fin 256 → EReal) (l : Fin 256) : EReal :=
  o l * Ideal.rsqrt ((∑ p : Fin 64, o (lane (hd l) p) * o (lane (hd l) p)) * ((64⁻¹ : ℝ) : EReal)
    + Ideal.ofBits FTy.f32 0x358637BD#32) * nw l * (g l * sg (g l))

/-! ### The whole sequence of one batch entry -/

/-- Step `t` of chunk `k`, among the 2048 steps. -/
def step (k : ℕ) (t : Fin 64) : Fin 2048 := ⟨(64 * k + t.val) % 2048, Nat.mod_lt _ (by decide)⟩

section
variable (u : Fin 2048 → Fin 1024 → EReal) (lb : Fin 256 → EReal) (nw : Fin 64 → EReal)

def qAt (k : ℕ) (t : Fin 64) (l : Fin 256) : EReal := u (step k t) ⟨l.val, by omega⟩ * Ideal.ofBits FTy.f32 0x3E000000#32
def fAt (k : ℕ) (t : Fin 64) (l : Fin 256) : EReal := gate (lb l) (u (step k t) ⟨256 + l.val, by omega⟩)
def kAt (k : ℕ) (t : Fin 64) (l : Fin 256) : EReal := 1 - fAt u lb k t l
def lAt (k : ℕ) (t : Fin 64) (l : Fin 256) : EReal := Ideal.log (fAt u lb k t l)
def iAt (k : ℕ) (t : Fin 64) (l : Fin 256) : EReal := u (step k t) ⟨512 + l.val, by omega⟩
def gAt (k : ℕ) (t : Fin 64) (l : Fin 256) : EReal := u (step k t) ⟨768 + l.val, by omega⟩

/-- The state after `k` chunks. -/
def state : ℕ → Fin 256 → Fin 64 → EReal
  | 0 => fun _ _ => 0
  | k + 1 => next (kAt u lb k) (lAt u lb k) (iAt u k) (state k)

/-- The rows before the norm. -/
def scanRow (k : ℕ) (t : Fin 64) (l : Fin 256) : EReal :=
  yRow (qAt u k) (kAt u lb k) (lAt u lb k) (iAt u k) (state u lb k) t l

/-- The result's row at step `T`. -/
def result (T : Fin 2048) (l : Fin 256) : EReal :=
  normed (scanRow u lb (T.val / 64) ⟨T.val % 64, Nat.mod_lt _ (by decide)⟩) (fun l => nw (ps l))
    (gAt u (T.val / 64) ⟨T.val % 64, Nat.mod_lt _ (by decide)⟩) l

end

/-! ### The log of a gate is never plus infinity -/

/-- The softmax of two logits: real numbers, or minus infinity in both places where the logits leave no weight at all. -/
theorem soft_cases (x y : EReal) :
    (Ideal.div (Ideal.exp (x - max x y)) (Ideal.exp (x - max x y) + Ideal.exp (y - max x y)) = ⊥ ∧ low x y = ⊥)
      ∨ ∃ p r : ℝ, 0 ≤ r ∧ r ≤ 1 ∧ Ideal.div (Ideal.exp (x - max x y)) (Ideal.exp (x - max x y) + Ideal.exp (y - max x y)) = p ∧ low x y = r := by
  have d11 : Ideal.div 1 1 = 1 := by simp [Ideal.div]
  have d01 : Ideal.div 0 1 = 0 := by simp [Ideal.div]
  have d00 : Ideal.div 0 0 = ⊥ := by simp [Ideal.div]
  have ct : ∀ a : ℝ, (a : EReal) - ⊤ = ⊥ := fun a => EReal.sub_top _
  have tt : (⊤ : EReal) - ⊤ = ⊥ := EReal.sub_top _
  have bb : ∀ a : EReal, (⊥ : EReal) - a = ⊥ := EReal.bot_sub
  have aa : ∀ a : ℝ, Ideal.exp ((a : EReal) - a) = 1 := fun a => by
    rw [← EReal.coe_sub, Ideal.exp_coe, sub_self, Real.exp_zero, EReal.coe_one]
  have ba : ∀ a : ℝ, max (⊥ : EReal) a = a := fun a => max_eq_right bot_le
  have ab : ∀ a : ℝ, max (a : EReal) ⊥ = a := fun a => max_eq_left bot_le
  unfold low
  induction x with
  | bot =>
    induction y with
    | bot => left; simp only [max_self, bb, Ideal.exp_bot, add_zero, d00, and_self]
    | top => left; simp only [max_top_right, bb, tt, Ideal.exp_bot, add_zero, d00, and_self]
    | coe b =>
      right
      refine ⟨0, 1, by norm_num, le_refl _, ?_, ?_⟩
      · rw [ba, bb, aa, Ideal.exp_bot, zero_add, d01, EReal.coe_zero]
      · rw [ba, bb, aa, Ideal.exp_bot, zero_add, d11, EReal.coe_one]
  | top =>
    left
    induction y with
    | bot => simp only [max_top_left, bb, tt, Ideal.exp_bot, add_zero, d00, and_self]
    | top => simp only [max_top_left, tt, Ideal.exp_bot, add_zero, d00, and_self]
    | coe b => simp only [max_top_left, ct, tt, Ideal.exp_bot, add_zero, d00, and_self]
  | coe a =>
    induction y with
    | bot =>
      right
      refine ⟨1, 0, le_refl _, by norm_num, ?_, ?_⟩
      · rw [ab, bb, aa, Ideal.exp_bot, add_zero, d11, EReal.coe_one]
      · rw [ab, bb, aa, Ideal.exp_bot, add_zero, d01, EReal.coe_zero]
    | top => left; simp only [max_top_right, ct, tt, Ideal.exp_bot, add_zero, d00, and_self]
    | coe b =>
      right
      have hd : (0 : ℝ) < Real.exp (a - max a b) + Real.exp (b - max a b) := by positivity
      refine ⟨Real.exp (a - max a b) * (1 / (Real.exp (a - max a b) + Real.exp (b - max a b))),
        Real.exp (b - max a b) * (1 / (Real.exp (a - max a b) + Real.exp (b - max a b))), by positivity, ?_, ?_, ?_⟩
      · rw [mul_one_div, div_le_one hd]
        have := Real.exp_pos (a - max a b); linarith
      · rw [← Cert.Scan.coe_max', ← EReal.coe_sub, ← EReal.coe_sub, Ideal.exp_coe, Ideal.exp_coe, ← EReal.coe_add, Ideal.div_coe hd.ne', ← EReal.coe_mul]
      · rw [← Cert.Scan.coe_max', ← EReal.coe_sub, ← EReal.coe_sub, Ideal.exp_coe, Ideal.exp_coe, ← EReal.coe_add, Ideal.div_coe hd.ne', ← EReal.coe_mul]

theorem sg_real (f : EReal) : ∃ s : ℝ, 0 ≤ s ∧ sg f = s := by
  induction f with
  | bot =>
    refine ⟨0, le_refl _, ?_⟩
    have e : (1 : EReal) + ⊤ = ⊤ := EReal.coe_add_top 1
    simp [sg, Ideal.div, e]
  | top =>
    refine ⟨1, by norm_num, ?_⟩
    simp [sg, Ideal.div]
  | coe x =>
    refine ⟨1 / (1 + Real.exp (0 - x)), by positivity, ?_⟩
    unfold sg
    have e1 : (1 : EReal) = ((1 : ℝ) : EReal) := rfl
    rw [show (0 : EReal) - (x : EReal) = ((0 - x : ℝ) : EReal) by rw [EReal.coe_sub, EReal.coe_zero], Ideal.exp_coe, e1, ← EReal.coe_add, Ideal.div_coe (by positivity), ← EReal.coe_mul, one_mul]

theorem log_gate_ne_top (x y f : EReal) : Ideal.log (gate (low x y) f) ≠ ⊤ := by
  obtain ⟨s, -, hs⟩ := sg_real f
  unfold gate
  rcases soft_cases x y with ⟨-, h⟩ | ⟨-, r, -, -, -, h⟩
  · rw [h, EReal.bot_add, Ideal.log_bot]
    exact bot_ne_top
  · rw [h, hs, ← EReal.coe_one, ← EReal.coe_sub, ← EReal.coe_mul, ← EReal.coe_add, Ideal.log_coe]
    split_ifs
    · exact bot_ne_top
    · exact EReal.coe_ne_top _

theorem sum_bot {ι : Type} (A : Finset ι) (F : ι → EReal) : ∑ i ∈ A, F i = ⊥ ↔ ∃ i ∈ A, F i = ⊥ := by
  classical
  induction A using Finset.induction_on with
  | empty => simp
  | insert a A ha ih => rw [Finset.sum_insert ha, EReal.add_eq_bot_iff, ih, Finset.exists_mem_insert]

theorem cum_ne_top {lf : Fin 64 → Fin 256 → EReal} (h : ∀ u l, lf u l ≠ ⊤) (t : Fin 64) (l : Fin 256) : cum lf t l ≠ ⊤ := by
  unfold cum
  refine Finset.sum_induction _ (fun a => a ≠ ⊤) (fun a b ha hb => EReal.add_ne_top ha hb) EReal.zero_ne_top fun u _ => ?_
  split_ifs
  · exact h u l
  · exact EReal.zero_ne_top

/-- Once the running sum is minus infinity it stays so. -/
theorem cum_bot {lf : Fin 64 → Fin 256 → EReal} {r t : Fin 64} (hrt : r.val ≤ t.val) {l : Fin 256} (h : cum lf r l = ⊥) : cum lf t l = ⊥ := by
  unfold cum at h ⊢
  rw [sum_bot] at h ⊢
  obtain ⟨u, hu, h⟩ := h
  refine ⟨u, hu, ?_⟩
  by_cases c : u.val ≤ r.val
  · rw [if_pos c] at h
    rw [if_pos (c.trans hrt), h]
  · rw [if_neg c] at h
    exact absurd h EReal.zero_ne_bot

/-- A decay taken through a reference in between is the decay itself. -/
theorem exp_via {lf : Fin 64 → Fin 256 → EReal} (h : ∀ u l, lf u l ≠ ⊤) {t r s : Fin 64} (hrt : r.val ≤ t.val) (hsr : s.val ≤ r.val) (l : Fin 256) :
    Ideal.exp (cum lf t l - cum lf r l) * Ideal.exp (cum lf r l - cum lf s l) = Ideal.exp (cum lf t l - cum lf s l) := by
  have ht := cum_ne_top h t l
  have hr := cum_ne_top h r l
  have hs := cum_ne_top h s l
  have rt : cum lf r l = ⊥ → cum lf t l = ⊥ := cum_bot hrt
  have sr : cum lf s l = ⊥ → cum lf r l = ⊥ := cum_bot hsr
  generalize cum lf t l = a at *
  generalize cum lf r l = b at *
  generalize cum lf s l = c at *
  by_cases ha : a = ⊥
  · rw [ha, EReal.bot_sub, EReal.bot_sub, Ideal.exp_bot, zero_mul]
  · have hb : b ≠ ⊥ := fun e => ha (rt e)
    have hc : c ≠ ⊥ := fun e => hb (sr e)
    lift a to ℝ using ⟨ht, ha⟩
    lift b to ℝ using ⟨hr, hb⟩
    lift c to ℝ using ⟨hs, hc⟩
    rw [← EReal.coe_sub, ← EReal.coe_sub, ← EReal.coe_sub, Ideal.exp_coe, Ideal.exp_coe, Ideal.exp_coe, ← EReal.coe_mul, ← Real.exp_add]
    congr 2
    ring

end Cert.Hgrn
end
-- ==== Proof.HMasks.lean ====
module

public import proofs.«01_k».proof.Proof.HChunk
public import proofs.«01_k».proof.Proof.HModel
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)
namespace Cert.Kernel4Ideal.Hgrn
open Cert.Kernel4Ideal Cert.Kernel4Ideal.Gen
open Cert.Hgrn

theorem and16 : ∀ t : Fin 64, IntOp.andi (BitVec.ofNat 32 t.val) 16#32 = BitVec.ofNat 32 (16 * (t.val / 16 % 2)) := by decide +kernel

theorem pay5_apply (t u : Fin 64) : (k0_pay5 : FVec Ideal S64x64 .f32) (ix2 t u) = if u.val ≤ t.val then 1 else 0 := by
  pointwise [k0_pay5]
  refine if_congr ?_ rfl rfl; word_omega

theorem pay6_apply (l : Fin 256) : (k0_pay6 : FVec Ideal S1x256 .f32) (ix2 0 l) = if l.val / 64 = 0 then 1 else 0 := by
  pointwise [k0_pay6]
  refine if_congr ?_ rfl rfl; word_omega

theorem pay8_apply (l : Fin 256) : (k0_pay8 k0_pay7 : FVec Ideal S1x256 .f32) (ix2 0 l) = if l.val / 64 = 1 then 1 else 0 := by
  pointwise [k0_pay8, k0_pay7]
  refine if_congr ?_ rfl rfl; word_omega

theorem pay9_apply (l : Fin 256) : (k0_pay9 : FVec Ideal S1x256 .f32) (ix2 0 l) = if l.val / 64 = 2 then 1 else 0 := by
  pointwise [k0_pay9]
  refine if_congr ?_ rfl rfl; word_omega

theorem pay10_apply (l : Fin 256) : (k0_pay10 : FVec Ideal S1x256 .f32) (ix2 0 l) = if l.val / 64 = 3 then 1 else 0 := by
  pointwise [k0_pay10]
  refine if_congr ?_ rfl rfl; word_omega

theorem pay19_apply (t : Fin 32) (l : Fin 256) : (k0_pay19 : FVec Ideal S32x256 .f32) (ix2 t l) = 0 := by
  pointwise [k0_pay19]

theorem pay20_apply (t : Fin 64) (l : Fin 256) : k0_pay20 rowsV (ix2 t l) = 1#1 ↔ t.val / 16 % 2 = 1 := by
  pointwise [k0_pay20, rowsV]
  rw [and16]
  word_omega

theorem segV_apply (k l : Fin 256) : segV (ix2 k l) = if k.val / 64 = l.val / 64 then 1 else 0 := by
  pointwise [segV, k0_pay17, k0_pay15, k0_pay16]
  refine if_congr ?_ rfl rfl; word_omega

theorem segB_apply (k l : Fin 256) : segB (ix2 k l) = if k.val / 64 = l.val / 64 then 1 else 0 := segV_apply k l

/-- Three copies of one row of 256 lanes. -/
def cat1 (m : FVec Ideal S1x256 .f32) : FVec Ideal S1x768 .f32 :=
  concatenate S1x768 1 [⟨S1x256, m⟩, ⟨S1x256, m⟩, ⟨S1x256, m⟩] concatenates_S1x256_S1x256_S1x256_S1x768_d1

theorem cat1_apply (m : FVec Ideal S1x256 .f32) (c : Fin 768) : cat1 m (ix2 0 c) = m (ix2 0 ⟨c.val % 256, Nat.mod_lt _ (by decide)⟩) := by
  have e : ∀ a b : Fin 256, a.val = b.val → m (ix2 0 a) = m (ix2 0 b) := fun a b h => by rw [Fin.ext h]
  pointwise [cat1]
  split
  · exact e _ _ (by simp only; omega)
  split
  · exact e _ _ (by simp only; omega)
  · exact e _ _ (by simp only; omega)

end Cert.Kernel4Ideal.Hgrn
end
-- ==== Proof.HOff.lean ====
module

public import proofs.«01_k».proof.Proof.HMasks
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)
namespace Cert.Kernel4Ideal.Hgrn
open Cert.Kernel4Ideal Cert.Kernel4Ideal.Gen
open Cert.Hgrn

/-! ### The steps of the blocks before, as two products through references in between -/

def half0 (X : FVec Ideal S64x256 .f32) (Z : FVec Ideal S32x256 .f32) : FVec Ideal S64x256 .f32 :=
  concatenate S64x256 0 [⟨S32x256, extractStridedSlice S32x256 ![0, 0] X slices_S64x256_o0_0_S32x256⟩, ⟨S32x256, Z⟩] concatenates_S32x256_S32x256_S64x256_d0
def half1 (X : FVec Ideal S64x256 .f32) (Z : FVec Ideal S32x256 .f32) : FVec Ideal S64x256 .f32 :=
  concatenate S64x256 0 [⟨S32x256, Z⟩, ⟨S32x256, extractStridedSlice S32x256 ![32, 0] X slices_S64x256_o32_0_S32x256⟩] concatenates_S32x256_S32x256_S64x256_d0
def cat3 (A B C : FVec Ideal S64x256 .f32) : FVec Ideal S64x768 .f32 :=
  concatenate S64x768 1 [⟨S64x256, A⟩, ⟨S64x256, B⟩, ⟨S64x256, C⟩] concatenates_S64x256_S64x256_S64x256_S64x768_d1
/-- Four copies of the rows, each times a row of its own. -/
def fourV (X : FVec Ideal S64x768 .f32) (M0 M1 M2 M3 : FVec Ideal S1x768 .f32) : FVec Ideal S256x768 .f32 :=
  concatenate S256x768 0 [⟨S64x768, mulf X (broadcastTo S64x768 M0 broadcasts_S1x768_S64x768)⟩, ⟨S64x768, mulf X (broadcastTo S64x768 M1 broadcasts_S1x768_S64x768)⟩,
    ⟨S64x768, mulf X (broadcastTo S64x768 M2 broadcasts_S1x768_S64x768)⟩, ⟨S64x768, mulf X (broadcastTo S64x768 M3 broadcasts_S1x768_S64x768)⟩] concatenates_S64x768_S64x768_S64x768_S64x768_S256x768_d0
/-- Each head's lanes taken from that head's rows. -/
def pickV (P : FVec Ideal S256x256 .f32) (m0 m1 m2 m3 : FVec Ideal S1x256 .f32) : FVec Ideal S64x256 .f32 :=
  addf (addf (addf (mulf (extractStridedSlice S64x256 ![0, 0] P slices_S256x256_o0_0_S64x256) (broadcastTo S64x256 m0 broadcasts_S1x256_S64x256))
    (mulf (extractStridedSlice S64x256 ![64, 0] P slices_S256x256_o64_0_S64x256) (broadcastTo S64x256 m1 broadcasts_S1x256_S64x256)))
    (mulf (extractStridedSlice S64x256 ![128, 0] P slices_S256x256_o128_0_S64x256) (broadcastTo S64x256 m2 broadcasts_S1x256_S64x256)))
    (mulf (extractStridedSlice S64x256 ![192, 0] P slices_S256x256_o192_0_S64x256) (broadcastTo S64x256 m3 broadcasts_S1x256_S64x256))

theorem half0_apply (X : FVec Ideal S64x256 .f32) (Z : FVec Ideal S32x256 .f32) (hZ : ∀ t l, Z (ix2 t l) = 0) (t : Fin 64) (l : Fin 256) :
    half0 X Z (ix2 t l) = if t.val < 32 then X (ix2 t l) else 0 := by
  pointwise [half0]
  by_cases h : t.val < 32
  · rw [dif_pos h, if_pos h]
  · rw [dif_neg h, if_neg h, hZ]

theorem half1_apply (X : FVec Ideal S64x256 .f32) (Z : FVec Ideal S32x256 .f32) (hZ : ∀ t l, Z (ix2 t l) = 0) (t : Fin 64) (l : Fin 256) :
    half1 X Z (ix2 t l) = if t.val < 32 then 0 else X (ix2 t l) := by
  pointwise [half1]
  by_cases h : t.val < 32
  · rw [dif_pos h, if_pos h, hZ]
  · rw [dif_neg h, if_neg h]
    exact congrArg (fun a : Fin 64 => X (ix2 a l)) (Fin.ext (by simp only; omega))

theorem cat3_apply (A B C : FVec Ideal S64x256 .f32) (t : Fin 64) (l : Fin 256) :
    cat3 A B C (ix2 t ⟨0 * 256 + l.val, by omega⟩) = A (ix2 t l) ∧ cat3 A B C (ix2 t ⟨1 * 256 + l.val, by omega⟩) = B (ix2 t l)
      ∧ cat3 A B C (ix2 t ⟨2 * 256 + l.val, by omega⟩) = C (ix2 t l) := by
  refine ⟨?_, ?_, ?_⟩
  · pointwise [cat3]
  · pointwise [cat3]
  · pointwise [cat3]
    rw [dif_neg (by omega), dif_neg (by omega)]
    exact congrArg (fun a : Fin 256 => C (ix2 t a)) (Fin.ext (by simp only; omega))

theorem fourV_apply (X : FVec Ideal S64x768 .f32) (m0 m1 m2 m3 : FVec Ideal S1x256 .f32)
    (h0 : ∀ l, m0 (ix2 0 l) = if l.val / 64 = 0 then 1 else 0) (h1 : ∀ l, m1 (ix2 0 l) = if l.val / 64 = 1 then 1 else 0)
    (h2 : ∀ l, m2 (ix2 0 l) = if l.val / 64 = 2 then 1 else 0) (h3 : ∀ l, m3 (ix2 0 l) = if l.val / 64 = 3 then 1 else 0) (k : Fin 256) (c : Fin 768) :
    fourV X (cat1 m0) (cat1 m1) (cat1 m2) (cat1 m3) (ix2 k c) = if k.val / 64 = c.val % 256 / 64 then X (ix2 (ps k) c) else 0 := by
  have e : ∀ (a : Fin 64) (h : ℕ) (m : FVec Ideal S1x256 .f32), (∀ l, m (ix2 0 l) = if l.val / 64 = h then 1 else 0) → a.val = k.val % 64 → k.val / 64 = h →
      X (ix2 a c) * cat1 m (ix2 0 c) = if k.val / 64 = c.val % 256 / 64 then X (ix2 (ps k) c) else 0 := by
    rintro a h m hm h1 rfl
    have h1 : a = ps k := Fin.ext h1
    subst h1
    rw [cat1_apply, hm]
    by_cases q : c.val % 256 / 64 = k.val / 64
    · rw [if_pos q, if_pos q.symm, mul_one]
    · rw [if_neg q, if_neg (Ne.symm q), mul_zero]
  pointwise [fourV]
  split
  · exact e _ 0 m0 h0 (by simp only; omega) (by omega)
  split
  · exact e _ 1 m1 h1 (by simp only; omega) (by omega)
  split
  · exact e _ 2 m2 h2 (by simp only; omega) (by omega)
  · exact e _ 3 m3 h3 (by simp only; omega) (by omega)

theorem pickV_apply (P : FVec Ideal S256x256 .f32) (m0 m1 m2 m3 : FVec Ideal S1x256 .f32)
    (h0 : ∀ l, m0 (ix2 0 l) = if l.val / 64 = 0 then 1 else 0) (h1 : ∀ l, m1 (ix2 0 l) = if l.val / 64 = 1 then 1 else 0)
    (h2 : ∀ l, m2 (ix2 0 l) = if l.val / 64 = 2 then 1 else 0) (h3 : ∀ l, m3 (ix2 0 l) = if l.val / 64 = 3 then 1 else 0) (t : Fin 64) (l : Fin 256) :
    pickV P m0 m1 m2 m3 (ix2 t l) = P (ix2 (lane (hd l) t) l) := by
  pointwise [pickV]
  rw [h0, h1, h2, h3]
  have e : ∀ a b : Fin 256, a.val = b.val → P (ix2 a l) = P (ix2 b l) := fun a b h => by rw [Fin.ext h]
  have hl : l.val / 64 = 0 ∨ l.val / 64 = 1 ∨ l.val / 64 = 2 ∨ l.val / 64 = 3 := by omega
  rcases hl with h | h | h | h <;> rw [h] <;> norm_num <;> exact e _ _ (by (try simp only [lane, hd, h]) <;> omega)

section
variable (v24 : IVec S64x256 32) (m0 m1 m2 m3 : FVec Ideal S1x256 .f32) (M0 M1 M2 M3 : FVec Ideal S1x768 .f32) (Z : FVec Ideal S32x256 .f32)
  (odd : IVec S64x256 1) (Q I K B : FVec Ideal S64x256 .f32) (b16 b48 : FVec Ideal S1x256 .f32) (Q1 K1 : FVec Ideal S64x256 .f32) (v172 : IVec S64x256 32)

/-- The reference of each half. -/
def refV : FVec Ideal S64x256 .f32 :=
  select (cmpi .slt v24 v172) (broadcastTo S64x256 (shapeCast S1x256 b16 shapeCasts_S1x256_S1x256) broadcasts_S1x256_S64x256)
    (broadcastTo S64x256 (shapeCast S1x256 b48 shapeCasts_S1x256_S1x256) broadcasts_S1x256_S64x256)
def q2V (R : FVec Ideal S64x256 .f32) : FVec Ideal S64x256 .f32 :=
  mulf Q (exp (select odd (subf B R) (broadcast S64x256 (Named.named κ "mask" 0xF149F2CA#32))))
def k2V (R : FVec Ideal S64x256 .f32) : FVec Ideal S64x256 .f32 :=
  mulf K (exp (select odd (broadcast S64x256 (Named.named κ "mask" 0xF149F2CA#32)) (subf R B)))

theorem pay35_eq : k0_pay35 v24 m0 m1 m2 m3 M0 M1 M2 M3 Z odd Q I K B b16 b48 Q1 K1 v172
    = pickV (matmul dot_S256x64_S64x256_S256x256_1_0_0_1_n_n none (truncf .bf16 (matmul dot_S256x768_S64x768_S256x64_1_1_0_0_n_n none
          (truncf .bf16 (fourV (cat3 Q1 (half0 (q2V odd Q B (refV v24 b16 b48 v172)) Z) (half1 (q2V odd Q B (refV v24 b16 b48 v172)) Z)) M0 M1 M2 M3) bitsLt_bf16_f32)
          (truncf .bf16 (cat3 K1 (half0 (k2V odd K B (refV v24 b16 b48 v172)) Z) (half1 (k2V odd K B (refV v24 b16 b48 v172)) Z)) bitsLt_bf16_f32)
          (constant S256x64 .f32 0x00000000#32)) bitsLt_bf16_f32) (truncf .bf16 I bitsLt_bf16_f32) (constant S256x256 .f32 0x00000000#32)) m0 m1 m2 m3 := rfl

theorem prod2_apply (A : FVec Ideal S256x768 .f32) (C : FVec Ideal S64x768 .f32) (k l : Fin 256) :
    (matmul dot_S256x64_S64x256_S256x256_1_0_0_1_n_n none (truncf .bf16 (matmul dot_S256x768_S64x768_S256x64_1_1_0_0_n_n none
          (truncf .bf16 A bitsLt_bf16_f32) (truncf .bf16 C bitsLt_bf16_f32) (constant S256x64 .f32 0x00000000#32)) bitsLt_bf16_f32)
        (truncf .bf16 I bitsLt_bf16_f32) (constant S256x256 .f32 0x00000000#32) : FVec Ideal S256x256 .f32) (ix2 k l)
      = ∑ s : Fin 64, (∑ c : Fin 768, A (ix2 k c) * C (ix2 s c)) * I (ix2 s l) := by
  pointwise []

end

/-- Three parts of 256 columns, of each only one head's lanes. -/
theorem sum_three (h : Fin 4) (F : Fin 768 → EReal) (hF : ∀ (g : Fin 3) (l : Fin 256), hd l ≠ h → F ⟨g.val * 256 + l.val, by omega⟩ = 0) :
    ∑ c, F c = ∑ p : Fin 64, (F ⟨0 * 256 + (lane h p).val, by omega⟩ + F ⟨1 * 256 + (lane h p).val, by omega⟩ + F ⟨2 * 256 + (lane h p).val, by omega⟩) := by
  have e : ∑ c, F c = ∑ g : Fin 3, ∑ l : Fin 256, F ⟨g.val * 256 + l.val, by omega⟩ := Fin.sum_univ_tiles 3 256 rfl F
  rw [e, Fin.sum_univ_three, sum_one_head h _ (hF 0), sum_one_head h _ (hF 1), sum_one_head h _ (hF 2), Finset.sum_add_distrib, Finset.sum_add_distrib]
  rfl

theorem via {q k : EReal} {lf : Fin 64 → Fin 256 → EReal} (h : ∀ u l, lf u l ≠ ⊤) {t r s : Fin 64} (hrt : r.val ≤ t.val) (hsr : s.val ≤ r.val) (l : Fin 256) :
    q * Ideal.exp (cum lf t l - cum lf r l) * (k * Ideal.exp (cum lf r l - cum lf s l)) = q * (k * Ideal.exp (cum lf t l - cum lf s l)) := by
  rw [← exp_via h hrt hsr l, mul_assoc, mul_left_comm (Ideal.exp (cum lf t l - cum lf r l))]

section
variable {x1 : Vec Ideal S2x256 .f32} {U : Vec Ideal S1x64x1024 .f32} {q kk lf iv : Fin 64 → Fin 256 → EReal}

/-- The blocks before a step's own: their share of the step's row. -/
theorem offV_apply (hQ : ∀ t l, qV U (ix2 t l) = q t l) (hK : ∀ t l, kV x1 U (ix2 t l) = kk t l) (hB : ∀ t l, bV x1 U (ix2 t l) = cum lf t l)
    (hI : ∀ t l, iV U (ix2 t l) = iv t l) (hfin : ∀ u l, lf u l ≠ ⊤) (t : Fin 64) (l : Fin 256) :
    offV x1 U (ix2 t l) = ∑ s : Fin 64, (if s.val / 16 < t.val / 16 then score q kk lf t s (hd l) else 0) * iv s l := by
  have hm := IdealRules.named_const.ideal_named_scalar (φ := .f32) κ "mask" 0xF149F2CA#32 ⊥ rfl
  have hsel : ∀ (w : BitVec 1) (a b : EReal), Scalar.select w a b = if w = 1#1 then a else b := fun _ _ _ => rfl
  have hB' : ∀ t l, k0_pay27 (lbV x1) k0_pay5 U (ix2 t l) = cum lf t l := hB
  have hQ' : ∀ t l, k0_pay22 U (ix2 t l) = q t l := hQ
  have hK' : ∀ t l, k0_pay26 (lbV x1) U (ix2 t l) = kk t l := hK
  have h32 : ∀ t : Fin 64, IntOp.cmpi CmpIPredicate.sge (BitVec.ofNat 32 t.val) 32#32 = 1#1 ↔ ¬ t.val < 32 := by intro t; word_omega
  have l32 : ∀ t : Fin 64, IntOp.cmpi CmpIPredicate.slt (BitVec.ofNat 32 t.val) 32#32 = 1#1 ↔ t.val < 32 := by intro t; word_omega
  have hR : ∀ (t : Fin 64) (l : Fin 256), refV rowsV (k0_pay28 (lbV x1) k0_pay5 U) (k0_pay30 (lbV x1) k0_pay5 U) k0_pay34 (ix2 t l) = if t.val < 32 then cum lf 16 l else cum lf 48 l := by
    intro t l
    pointwise [refV, rowsV, k0_pay28, k0_pay30, k0_pay34]
    simp only [hB', hsel, l32]
  have hQ1 : ∀ (t : Fin 64) (l : Fin 256), k0_pay32 (lbV x1) k0_pay5 rowsV U (ix2 t l) = q t l * if t.val < 32 then 0 else Ideal.exp (cum lf t l - cum lf 32 l) := by
    intro t l
    pointwise [k0_pay32, rowsV, k0_pay29]
    simp only [hB', hQ', hsel, h32, hm]
    by_cases c : t.val < 32
    · simp only [c, not_true, if_false, if_true, Ideal.exp_bot]
    · simp only [c, not_false_eq_true, if_false, if_true]
  have hK1 : ∀ (t : Fin 64) (l : Fin 256), k0_pay33 (lbV x1) k0_pay5 rowsV U (ix2 t l) = kk t l * if t.val < 32 then Ideal.exp (cum lf 32 l - cum lf t l) else 0 := by
    intro t l
    pointwise [k0_pay33, rowsV, k0_pay29]
    simp only [hB', hK', hsel, l32, hm]
    by_cases c : t.val < 32
    · simp only [c, if_true]
    · simp only [c, if_false, Ideal.exp_bot]
  have hQ2 : ∀ (t : Fin 64) (l : Fin 256), q2V (k0_pay20 rowsV) (qV U) (bV x1 U) (refV rowsV (k0_pay28 (lbV x1) k0_pay5 U) (k0_pay30 (lbV x1) k0_pay5 U) k0_pay34) (ix2 t l)
      = q t l * if t.val / 16 % 2 = 1 then Ideal.exp (cum lf t l - if t.val < 32 then cum lf 16 l else cum lf 48 l) else 0 := by
    intro t l
    pointwise [q2V]
    simp only [hR, hB, hQ, hsel, pay20_apply, hm]
    by_cases c : t.val / 16 % 2 = 1
    · simp only [c, if_true]
    · simp only [c, if_false, Ideal.exp_bot]
  have hK2 : ∀ (t : Fin 64) (l : Fin 256), k2V (k0_pay20 rowsV) (kV x1 U) (bV x1 U) (refV rowsV (k0_pay28 (lbV x1) k0_pay5 U) (k0_pay30 (lbV x1) k0_pay5 U) k0_pay34) (ix2 t l)
      = kk t l * if t.val / 16 % 2 = 1 then 0 else Ideal.exp ((if t.val < 32 then cum lf 16 l else cum lf 48 l) - cum lf t l) := by
    intro t l
    pointwise [k2V]
    simp only [hR, hB, hK, hsel, pay20_apply, hm]
    by_cases c : t.val / 16 % 2 = 1
    · simp only [c, if_true, Ideal.exp_bot]
    · simp only [c, if_false]
  have h12 : k0_pay12 k0_pay7 = cat1 (k0_pay8 k0_pay7) := rfl
  have h11 : k0_pay11 k0_pay6 = cat1 k0_pay6 := rfl
  have h13 : k0_pay13 = cat1 k0_pay9 := rfl
  have h14 : k0_pay14 = cat1 k0_pay10 := rfl
  unfold offV
  rw [pay35_eq, pickV_apply _ _ _ _ _ pay6_apply pay8_apply pay9_apply pay10_apply, prod2_apply, h11, h12, h13, h14]
  refine Finset.sum_congr rfl fun s _ => ?_
  rw [hI]
  congr 1
  rw [sum_three (hd l)]
  · rw [show (if s.val / 16 < t.val / 16 then score q kk lf t s (hd l) else 0)
        = ∑ p : Fin 64, if s.val / 16 < t.val / 16 then q t (lane (hd l) p) * (kk s (lane (hd l) p) * decay lf t s (lane (hd l) p)) else 0 by
      split
      · rfl
      · exact Finset.sum_const_zero.symm]
    refine Finset.sum_congr rfl fun p _ => ?_
    have hc : ∀ (g : ℕ) (hg : g < 3), (lane (hd l) t).val / 64 = (g * 256 + (lane (hd l) p).val) % 256 / 64 := by
      intro g hg; simp only [lane, hd]; omega
    simp only [fourV_apply _ _ _ _ _ pay6_apply pay8_apply pay9_apply pay10_apply]
    rw [if_pos (hc 0 (by omega)), if_pos (hc 1 (by omega)), if_pos (hc 2 (by omega)), ps_lane, (cat3_apply _ _ _ t (lane (hd l) p)).1, (cat3_apply _ _ _ t (lane (hd l) p)).2.1,
      (cat3_apply _ _ _ t (lane (hd l) p)).2.2, (cat3_apply _ _ _ s (lane (hd l) p)).1, (cat3_apply _ _ _ s (lane (hd l) p)).2.1, (cat3_apply _ _ _ s (lane (hd l) p)).2.2,
      half0_apply _ _ pay19_apply, half0_apply _ _ pay19_apply, half1_apply _ _ pay19_apply, half1_apply _ _ pay19_apply, hQ1, hK1, hQ2, hK2]
    unfold decay
    generalize lane (hd l) p = l'
    by_cases ct : t.val < 32 <;> by_cases cs : s.val < 32 <;> by_cases dt : t.val / 16 % 2 = 1 <;> by_cases ds : s.val / 16 % 2 = 1 <;>
      simp only [ct, cs, dt, ds, if_true, if_false, mul_zero, zero_mul, add_zero, zero_add]
    all_goals first
      | rw [if_neg (by omega)]
      | (rw [if_pos (by omega), if_pos (by omega)]; exact via hfin (by omega) (by omega) _)
  · intro g l' hne
    rw [fourV_apply _ _ _ _ _ pay6_apply pay8_apply pay9_apply pay10_apply, if_neg, zero_mul]
    intro c; apply hne; apply Fin.ext
    simp only [lane, hd] at c ⊢
    omega

end
end Cert.Kernel4Ideal.Hgrn
end
-- ==== Proof.HOwn.lean ====
module

public import proofs.«01_k».proof.Proof.HMasks
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)
namespace Cert.Kernel4Ideal.Hgrn
open Cert.Kernel4Ideal Cert.Kernel4Ideal.Gen
open Cert.Hgrn

/-! ### A block's own steps -/

theorem blk16_apply (X : FVec Ideal S64x256 .f32) (j : ℕ) (hj : j < 4) (t : Fin 16) (l : Fin 256) :
    blk16 X j (ix2 t l) = X (ix2 ⟨16 * j + t.val, by omega⟩ l) := by
  unfold blk16 extractStridedSlice
  refine congrArg X (funext fun a => Fin.ext ?_)
  match a with
  | ⟨0, _⟩ => show 16 * j % 64 + t.val = 16 * j + t.val; omega
  | ⟨1, _⟩ => show 0 + l.val = l.val; omega

theorem row16_apply (X : FVec Ideal S64x256 .f32) (r : ℕ) (hr : r < 64) (t : Fin 16) (l : Fin 256) :
    row16 X r (ix2 t l) = X (ix2 ⟨r, hr⟩ l) := by
  have e : row16 X r (ix2 t l) = extractStridedSlice S1x256 ![r % 64, 0] X (slices1 r) (ix2 0 l) := by
    unfold row16; pointwise []
  rw [e]
  unfold extractStridedSlice
  refine congrArg X (funext fun a => Fin.ext ?_)
  match a with
  | ⟨0, _⟩ => show r % 64 + 0 = r; omega
  | ⟨1, _⟩ => show 0 + l.val = l.val; omega

theorem rows_le : ∀ (t : Fin 16) (s : Fin 16), IntOp.cmpi CmpIPredicate.sge (BitVec.ofNat 32 t.val) (BitVec.ofNat 32 s.val) = 1#1 ↔ s.val ≤ t.val := by
  decide +kernel

theorem prodV_apply (Q K B : FVec Ideal S64x256 .f32) (j : ℕ) (hj : j < 4) (s : Fin 16) (t : Fin 16) (l : Fin 256) :
    prodV Q K B j s.val (ix2 t l) = Q (ix2 ⟨16 * j + t.val, by omega⟩ l) * K (ix2 ⟨16 * j + s.val, by omega⟩ l)
      * (if s.val ≤ t.val then Ideal.exp (B (ix2 ⟨16 * j + t.val, by omega⟩ l) - B (ix2 ⟨16 * j + s.val, by omega⟩ l)) else 0) := by
  have hm := IdealRules.named_const.ideal_named_scalar (φ := .f32) κ "mask" 0xF149F2CA#32 ⊥ rfl
  have hsel : ∀ (w : BitVec 1) (a b : EReal), Scalar.select w a b = if w = 1#1 then a else b := fun _ _ _ => rfl
  have hr : ∀ X : FVec Ideal S64x256 .f32, row16 X (16 * j + s.val) (ix2 t l) = X (ix2 ⟨16 * j + s.val, by omega⟩ l) := fun X => row16_apply X _ (by omega) t l
  pointwise [prodV]
  simp only [blk16_apply _ j hj, hr, hsel, rows_le, hm]
  by_cases c : s.val ≤ t.val
  · simp only [c, if_true]
  · simp only [c, if_false, Ideal.exp_bot]

theorem stackV_apply (p : ℕ → FVec Ideal S16x256 .f32) (r l : Fin 256) :
    stackV p (ix2 r l) = p (r.val / 16) (ix2 ⟨r.val % 16, Nat.mod_lt _ (by decide)⟩ l) := by
  unfold stackV
  exact concatenate_ofFn_apply (t := S256x256) (s₁ := S16x256) 0 (fun n : Fin 16 => p n.val) concatenates_S16x256_S16x256_S16x256_S16x256_S16x256_S16x256_S16x256_S16x256_S16x256_S16x256_S16x256_S16x256_S16x256_S16x256_S16x256_S16x256_S256x256_d0
    rfl 16 rfl (ix2 r l) ⟨r.val / 16, by omega⟩ rfl (ix2 ⟨r.val % 16, Nat.mod_lt _ (by decide)⟩ l) rfl (fun b hb => by
      match b with
      | ⟨0, _⟩ => exact absurd rfl hb
      | ⟨1, _⟩ => rfl)

theorem headV_apply (p : ℕ → FVec Ideal S16x256 .f32) (s t : Fin 16) (l : Fin 256) :
    headV p (ix2 ⟨16 * s.val + t.val, by omega⟩ l) = ∑ x : Fin 64, p s.val (ix2 t (lane (hd l) x)) := by
  have e : headV p (ix2 ⟨16 * s.val + t.val, by omega⟩ l) = ∑ k : Fin 256, stackV p (ix2 ⟨16 * s.val + t.val, by omega⟩ k) * segB (ix2 k l) := by
    unfold headV
    generalize hS : stackV p = X
    pointwise []
  rw [e, sum_one_head (hd l)]
  · refine Finset.sum_congr rfl fun x _ => ?_
    rw [segB_apply, if_pos (by simp only [lane, hd]; omega), mul_one, stackV_apply]
    have h1 : (16 * s.val + t.val) / 16 = s.val := by omega
    have h2 : (⟨(16 * s.val + t.val) % 16, Nat.mod_lt _ (by decide)⟩ : Fin 16) = t := Fin.ext (by simp only; omega)
    simp only [h1, h2]
  · intro k hk
    rw [segB_apply, if_neg, mul_zero]
    intro c; exact hk (Fin.ext c)

theorem ownV_apply (AB : FVec Ideal S256x256 .f32) (I : FVec Ideal S64x256 .f32) (j : ℕ) (hj : j < 4) (t : Fin 16) (l : Fin 256) (s : ℕ) : (hs : s < 16) →
    ownV AB I j s (ix2 t l) = ∑ s' : Fin (s + 1), AB (ix2 ⟨16 * s'.val + t.val, by omega⟩ l) * I (ix2 ⟨16 * j + s'.val, by omega⟩ l) := by
  have hsl : ∀ (s : ℕ) (hs : s < 16), extractStridedSlice S16x256 ![(16 * s) % 256, 0] AB (slicesB s) (ix2 t l) = AB (ix2 ⟨16 * s + t.val, by omega⟩ l) := by
    intro s hs
    unfold extractStridedSlice
    refine congrArg AB (funext fun a => Fin.ext ?_)
    match a with
    | ⟨0, _⟩ => show 16 * s % 256 + t.val = 16 * s + t.val; omega
    | ⟨1, _⟩ => show 0 + l.val = l.val; omega
  induction s with
  | zero =>
    intro hs
    rw [Fin.sum_univ_one]
    show extractStridedSlice S16x256 ![(16 * 0) % 256, 0] AB (slicesB 0) (ix2 t l) * row16 I (16 * j + 0) (ix2 t l) = _
    rw [hsl 0 hs, row16_apply I (16 * j + 0) (by omega)]
    rfl
  | succ s ih =>
    intro hs
    rw [Fin.sum_univ_castSucc]
    show ownV AB I j s (ix2 t l) + extractStridedSlice S16x256 ![(16 * (s + 1)) % 256, 0] AB (slicesB (s + 1)) (ix2 t l) * row16 I (16 * j + (s + 1)) (ix2 t l) = _
    rw [ih (by omega), hsl (s + 1) hs, row16_apply I (16 * j + (s + 1)) (by omega)]
    rfl

section
variable {Q K B I : FVec Ideal S64x256 .f32} {q kk lf iv : Fin 64 → Fin 256 → EReal}

/-- A block's own steps: their share of the step's row. -/
theorem blockV_apply (hQ : ∀ t l, Q (ix2 t l) = q t l) (hK : ∀ t l, K (ix2 t l) = kk t l) (hB : ∀ t l, B (ix2 t l) = cum lf t l) (hI : ∀ t l, I (ix2 t l) = iv t l)
    (j : Fin 4) (t : Fin 16) (l : Fin 256) :
    blockV Q K B I j.val (ix2 t l) = ∑ s : Fin 16, score q kk lf ⟨j.val * 16 + t.val, by omega⟩ ⟨j.val * 16 + s.val, by omega⟩ (hd l) * iv ⟨j.val * 16 + s.val, by omega⟩ l := by
  have e : ∀ (s : Fin 16), (⟨16 * j.val + s.val, by omega⟩ : Fin 64) = ⟨j.val * 16 + s.val, by omega⟩ := fun s => Fin.ext (by simp only; omega)
  unfold blockV
  rw [ownV_apply _ I j.val j.isLt t l 15 (by decide)]
  refine Finset.sum_congr rfl fun s _ => ?_
  rw [hI, headV_apply _ s t l, e s]
  congr 1
  unfold score decay
  refine Finset.sum_congr rfl fun p _ => ?_
  rw [prodV_apply Q K B j.val j.isLt s t, hQ, hK, hB, hB, e s, e t, mul_assoc]
  refine congrArg (fun z => _ * (_ * z)) (if_congr ?_ rfl rfl)
  simp only; omega

end
end Cert.Kernel4Ideal.Hgrn
end
-- ==== Proof.HChunkVal.lean ====
module

public import proofs.«01_k».proof.Proof.HOff
public import proofs.«01_k».proof.Proof.HOwn
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)
namespace Cert.Kernel4Ideal.Hgrn
open Cert.Kernel4Ideal Cert.Kernel4Ideal.Gen
open Cert.Hgrn

/-! ### One chunk, read as the recurrence -/

theorem lbV_apply (x1 : Vec Ideal S2x256 .f32) (l : Fin 256) : lbV x1 (ix2 0 l) = low (x1 (ix2 0 l)) (x1 (ix2 1 l)) := by
  pointwise [lbV, k0_pay3]
  have hb : Ideal.ofBits FTy.f32 0xFF800000#32 = (⊥ : EReal) := by simp [Ideal.ofBits, Ideal.ieee]
  have hf : ∀ F : Fin 2 → EReal, Finset.fold max (⊥ : EReal) F Finset.univ = max (F 0) (F 1) := by
    intro F
    show max (F 0) (max (F 1) ⊥) = _
    rw [max_bot_right]
  rw [hb, hf, Fin.sum_univ_two]
  rfl

section
variable {x1 : Vec Ideal S2x256 .f32} {x2 : Vec Ideal S1x256 .f32} {U : Vec Ideal S1x64x1024 .f32} {w : Fin 64 → Fin 1024 → EReal} {lb : Fin 256 → EReal}

/-- A chunk's columns: queries, gates, keys, log gates, values and output gates. -/
def qC (w : Fin 64 → Fin 1024 → EReal) (t : Fin 64) (l : Fin 256) : EReal := w t ⟨l.val, by omega⟩ * Ideal.ofBits FTy.f32 0x3E000000#32
def fC (w : Fin 64 → Fin 1024 → EReal) (lb : Fin 256 → EReal) (t : Fin 64) (l : Fin 256) : EReal := gate (lb l) (w t ⟨256 + l.val, by omega⟩)
def kC (w : Fin 64 → Fin 1024 → EReal) (lb : Fin 256 → EReal) (t : Fin 64) (l : Fin 256) : EReal := 1 - fC w lb t l
def lC (w : Fin 64 → Fin 1024 → EReal) (lb : Fin 256 → EReal) (t : Fin 64) (l : Fin 256) : EReal := Ideal.log (fC w lb t l)
def iC (w : Fin 64 → Fin 1024 → EReal) (t : Fin 64) (l : Fin 256) : EReal := w t ⟨512 + l.val, by omega⟩
def gC (w : Fin 64 → Fin 1024 → EReal) (t : Fin 64) (l : Fin 256) : EReal := w t ⟨768 + l.val, by omega⟩

theorem qV_apply (hU : ∀ t c, U (ix3 0 t c) = w t c) (t : Fin 64) (l : Fin 256) : qV U (ix2 t l) = qC w t l := by
  pointwise [qV, k0_pay22, k0_pay21]
  rw [hU]; rfl
theorem iV_apply (hU : ∀ t c, U (ix3 0 t c) = w t c) (t : Fin 64) (l : Fin 256) : iV U (ix2 t l) = iC w t l := by
  pointwise [iV, k0_pay23, k0_pay21]
  rw [hU]; rfl
theorem gV_apply (hU : ∀ t c, U (ix3 0 t c) = w t c) (t : Fin 64) (l : Fin 256) : gV U (ix2 t l) = gC w t l := by
  pointwise [gV, k0_pay24, k0_pay21]
  rw [hU]; rfl
theorem fV_apply (hU : ∀ t c, U (ix3 0 t c) = w t c) (hlb : ∀ l, lbV x1 (ix2 0 l) = lb l) (t : Fin 64) (l : Fin 256) :
    k0_pay25 (lbV x1) U (ix2 t l) = fC w lb t l := by
  pointwise [k0_pay25, k0_pay21]
  rw [hU, hlb]; rfl
theorem kV_apply (hU : ∀ t c, U (ix3 0 t c) = w t c) (hlb : ∀ l, lbV x1 (ix2 0 l) = lb l) (t : Fin 64) (l : Fin 256) : kV x1 U (ix2 t l) = kC w lb t l := by
  pointwise [kV, k0_pay26]
  rw [fV_apply hU hlb]; rfl
theorem bV_apply (hU : ∀ t c, U (ix3 0 t c) = w t c) (hlb : ∀ l, lbV x1 (ix2 0 l) = lb l) (t : Fin 64) (l : Fin 256) : bV x1 U (ix2 t l) = cum (lC w lb) t l := by
  pointwise [bV, k0_pay27]
  unfold cum
  refine Finset.sum_congr rfl fun u _ => ?_
  rw [pay5_apply, fV_apply hU hlb, ite_mul, one_mul, zero_mul]
  rfl

/-- The state of 256 lanes laid out over the lanes of the keys, zero off a lane's own head. -/
def pack (st : Fin 256 → Fin 64 → EReal) : Vec Ideal S256x256 .f32 :=
  fun i => if (i 1).val / 64 = (i 0).val / 64 then st (i 0) ⟨(i 1).val % 64, Nat.mod_lt _ (by decide)⟩ else 0

theorem pack_apply (st : Fin 256 → Fin 64 → EReal) (l k : Fin 256) :
    pack st (ix2 l k) = if k.val / 64 = l.val / 64 then st l (ps k) else 0 := rfl

/-- One chunk takes the packed state to the packed next state. -/
theorem chunkSt_model (hU : ∀ t c, U (ix3 0 t c) = w t c) (hlb : ∀ l, lbV x1 (ix2 0 l) = lb l) (st : Fin 256 → Fin 64 → EReal) :
    chunkSt x1 U (pack st) = pack (next (kC w lb) (lC w lb) (iC w) st) := by
  suffices h : ∀ l k, chunkSt x1 U (pack st) (ix2 l k) = pack (next (kC w lb) (lC w lb) (iC w) st) (ix2 l k) by
    funext i; rw [← ix2_eta i]; exact h _ _
  intro l k
  have hB : ∀ t l, k0_pay27 (lbV x1) k0_pay5 U (ix2 t l) = cum (lC w lb) t l := bV_apply hU hlb
  have hb := bV_apply hU hlb
  have hk := kV_apply hU hlb
  have hi := iV_apply hU
  pointwise [chunkSt, k0_pay152, k0_pay150, k0_pay151, k0_pay31]
  simp only [hB, hb, hk, hi, segV_apply, pack_apply]
  by_cases c : k.val / 64 = l.val / 64
  · have e : lane (hd l) (ps k) = k := by apply Fin.ext; simp only [lane, hd, ps]; omega
    rw [if_pos c, if_pos c, if_pos c.symm, mul_one]
    unfold next
    rw [e]
  · rw [if_neg c, if_neg c, if_neg (Ne.symm c), mul_zero, zero_mul, add_zero]

/-- A chunk's rows before the norm. -/
theorem oV_apply (hU : ∀ t c, U (ix3 0 t c) = w t c) (hlb : ∀ l, lbV x1 (ix2 0 l) = lb l) (hfin : ∀ u l, lC w lb u l ≠ ⊤)
    (st : Fin 256 → Fin 64 → EReal) (t : Fin 64) (l : Fin 256) :
    oV x1 U (pack st) (ix2 t l) = yRow (qC w) (kC w lb) (lC w lb) (iC w) st t l := by
  have hq := qV_apply hU
  have hb := bV_apply hU hlb
  have hk := kV_apply hU hlb
  have hi := iV_apply hU
  have hblk : ∀ (j : ℕ) (hj : j < 4) (a : Fin 16), t.val / 16 = j → a.val = t.val % 16 → blockV (qV U) (kV x1 U) (bV x1 U) (iV U) j (ix2 a l)
      = ∑ s : Fin 64, if s.val / 16 = t.val / 16 then score (qC w) (kC w lb) (lC w lb) t s (hd l) * iC w s l else 0 := by
    intro j hj a h1 h2
    rw [blockV_apply hq hk hb hi ⟨j, hj⟩ a l]
    have e : ∀ F : Fin 64 → EReal, ∑ s, F s = ∑ g : Fin 4, ∑ s : Fin 16, F ⟨g.val * 16 + s.val, by omega⟩ := fun F => Fin.sum_univ_tiles 4 16 rfl F
    have ht : (⟨j * 16 + a.val, by omega⟩ : Fin 64) = t := Fin.ext (by simp only; omega)
    rw [e, Finset.sum_eq_single (⟨j, hj⟩ : Fin 4) (fun g _ hne => ?_) (fun c => absurd (Finset.mem_univ _) c)]
    · refine Finset.sum_congr rfl fun s _ => ?_
      rw [if_pos (by simp only; omega)]
      simp only [ht]
    · refine Finset.sum_eq_zero fun s _ => if_neg fun c => hne (Fin.ext ?_)
      simp only at c ⊢
      omega
  have hcat : (concatenate S64x256 0 [⟨S16x256, blockV (qV U) (kV x1 U) (bV x1 U) (iV U) 0⟩, ⟨S16x256, blockV (qV U) (kV x1 U) (bV x1 U) (iV U) 1⟩,
      ⟨S16x256, blockV (qV U) (kV x1 U) (bV x1 U) (iV U) 2⟩, ⟨S16x256, blockV (qV U) (kV x1 U) (bV x1 U) (iV U) 3⟩] concatenates_S16x256_S16x256_S16x256_S16x256_S64x256_d0 : FVec Ideal S64x256 .f32) (ix2 t l)
      = ∑ s : Fin 64, if s.val / 16 = t.val / 16 then score (qC w) (kC w lb) (lC w lb) t s (hd l) * iC w s l else 0 := by
    generalize hX0 : blockV (qV U) (kV x1 U) (bV x1 U) (iV U) 0 = X0
    generalize hX1 : blockV (qV U) (kV x1 U) (bV x1 U) (iV U) 1 = X1
    generalize hX2 : blockV (qV U) (kV x1 U) (bV x1 U) (iV U) 2 = X2
    generalize hX3 : blockV (qV U) (kV x1 U) (bV x1 U) (iV U) 3 = X3
    pointwise []
    subst hX0 hX1 hX2 hX3
    split
    · exact hblk 0 (by decide) _ (by omega) (by simp only; omega)
    split
    · exact hblk 1 (by decide) _ (by omega) (by simp only; omega)
    split
    · exact hblk 2 (by decide) _ (by omega) (by simp only; omega)
    · exact hblk 3 (by decide) _ (by omega) (by simp only; omega)
  have h36 : k0_pay36 (qV U) (bV x1 U) (offV x1 U) (pack st) (ix2 t l) = offV x1 U (ix2 t l) + ∑ k : Fin 256, qV U (ix2 t k) * Ideal.exp (bV x1 U (ix2 t k)) * pack st (ix2 l k) := by
    pointwise [k0_pay36]
  show k0_pay36 (qV U) (bV x1 U) (offV x1 U) (pack st) (ix2 t l) + _ = _
  rw [h36, hcat, offV_apply hq hk hb hi hfin, sum_one_head (hd l)]
  · unfold yRow
    rw [add_comm (∑ s : Fin 64, _ * _), add_assoc, ← Finset.sum_add_distrib]
    congr 1
    · refine Finset.sum_congr rfl fun p _ => ?_
      rw [pack_apply, if_pos (by simp only [lane, hd]; omega), hq, hb, ps_lane]
    · refine Finset.sum_congr rfl fun s _ => ?_
      rcases Nat.lt_trichotomy (s.val / 16) (t.val / 16) with c | c | c
      · rw [if_pos c, if_neg (by omega), add_zero]
      · rw [if_neg (by omega), if_pos c, zero_mul, zero_add]
      · rw [if_neg (by omega), if_neg (by omega), zero_mul, zero_add, show score (qC w) (kC w lb) (lC w lb) t s (hd l) = 0 from ?_, zero_mul]
        unfold score decay
        refine Finset.sum_eq_zero fun p _ => ?_
        rw [if_neg (by omega), mul_zero, mul_zero]
  · intro k hk
    rw [pack_apply, if_neg, mul_zero]
    intro c; exact hk (Fin.ext c)

theorem w64 : Ideal.ofBits FTy.f32 0x3C800000#32 = ((64⁻¹ : ℝ) : EReal) := by
  simp [Ideal.ofBits, Ideal.ieee]
  rw [← EReal.coe_mul]
  norm_num

/-- The rows a chunk writes. -/
theorem chunkY_model (hU : ∀ t c, U (ix3 0 t c) = w t c) (hlb : ∀ l, lbV x1 (ix2 0 l) = lb l) (hfin : ∀ u l, lC w lb u l ≠ ⊤)
    (st : Fin 256 → Fin 64 → EReal) (t : Fin 64) (l : Fin 256) :
    chunkY x1 x2 U (pack st) (ix3 0 t l) = normed (yRow (qC w) (kC w lb) (lC w lb) (iC w) st t) (fun l => x2 (ix2 0 l)) (gC w t) l := by
  have ho := oV_apply hU hlb hfin st
  have hg := gV_apply hU
  unfold chunkY
  generalize hO : oV x1 U (pack st) = O at ho ⊢
  pointwise [k0_pay153, k0_pay4]
  have hs : ∀ y : Fin 256 → EReal, ∑ k : Fin 256, y k * y k * segB (ix2 k l) = ∑ p : Fin 64, y (lane (hd l) p) * y (lane (hd l) p) := by
    intro y
    rw [sum_one_head (hd l)]
    · refine Finset.sum_congr rfl fun p _ => ?_
      rw [segB_apply, if_pos (by simp only [lane, hd]; omega), mul_one]
    · intro k hk
      rw [segB_apply, if_neg, mul_zero]
      intro c; exact hk (Fin.ext c)
  simp only [ho, hg, w64]
  rw [hs (yRow (qC w) (kC w lb) (lC w lb) (iC w) st t)]
  unfold normed Cert.Scan.sg
  generalize yRow (qC w) (kC w lb) (lC w lb) (iC w) st t = Y
  beta_reduce
  rfl

end
end Cert.Kernel4Ideal.Hgrn
end
-- ==== Proof.HStep.lean ====
module

public import proofs.«01_k».proof.Proof.HBody
public import proofs.«01_k».proof.Proof.HChunkVal
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option backward.proofsInPublic true
set_option maxRecDepth 16384

noncomputable section

open Idealize.ShloMosaic Idealize.ShloMosaic.TcCoe Idealize.SL.Sem
open Idealize.ShloMosaic.Pipeline (Dat)
namespace Cert.Kernel4Ideal.Hgrn
open Cert.Kernel4Ideal Cert.Kernel4Ideal.Gen
open Cert.Hgrn

/-! ### One block of 512 steps of the sequence: block `s` of four -/

section
variable {u : Fin 2048 → Fin 1024 → EReal} {lb : Fin 256 → EReal} {nw : Fin 64 → EReal}
  {s : ℕ} (hs : s < 4) {x0 : Vec Ideal S1x512x1024 .f32} {x1 : Vec Ideal S2x256 .f32} {x2 : Vec Ideal S1x256 .f32}
  (hu : ∀ (r : Fin 512) (L : Fin 1024), x0 (ix3 0 r L) = u ⟨512 * s + r.val, by omega⟩ L)
  (hlb : ∀ l, lbV x1 (ix2 0 l) = lb l) (h2 : ∀ l, x2 (ix2 0 l) = nw (ps l))

include hs hu in
theorem u_chunk (c : ℕ) (hc : c < 8) (t : Fin 64) (L : Fin 1024) : Uc x0 c (ix3 0 t L) = u (step (8 * s + c) t) L := by
  rw [Uc_apply, hu]
  congr 1
  exact Fin.ext (by show 512 * s + (64 * c + t.val) % 512 = (64 * (8 * s + c) + t.val) % 2048; omega)

include hs hu hlb in
theorem fold_state {S : Vec Ideal S256x256 .f32} (hS : S = pack (state u lb (8 * s))) (c : ℕ) (hc : c ≤ 8) :
    foldS x1 x0 S c = pack (state u lb (8 * s + c)) := by
  induction c with
  | zero => exact hS
  | succ c ih =>
    show chunkSt x1 _ (foldS x1 x0 S c) = _
    rw [ih (by omega), chunkSt_model (w := fun t L => u (step (8 * s + c) t) L) (u_chunk hs hu c (by omega)) hlb]
    rfl

include hs hu hlb h2 in
theorem out_row {S : Vec Ideal S256x256 .f32} (hS : S = pack (state u lb (8 * s)))
    (hfin : ∀ T l, Ideal.log (gate (lb l) (u T ⟨256 + l.val, by omega⟩)) ≠ ⊤) (r : Fin 512) (l : Fin 256) :
    outV x1 x2 x0 S r l = result u lb nw ⟨512 * s + r.val, by omega⟩ l := by
  have hc : r.val / 64 < 8 := by omega
  unfold outV
  rw [fold_state hs hu hlb hS _ (by omega), chunkY_model (w := fun t L => u (step (8 * s + r.val / 64) t) L) (u_chunk hs hu _ hc) hlb (fun v l => hfin _ l)]
  unfold result scanRow
  have e1 : (512 * s + r.val) / 64 = 8 * s + r.val / 64 := by omega
  have e2 : (512 * s + r.val) % 64 = r.val % 64 := by omega
  have en : (fun l => x2 (ix2 0 l)) = fun l => nw (ps l) := funext h2
  simp only [e1, e2, en]
  rfl

end
end Cert.Kernel4Ideal.Hgrn
end
-- ==== Proof.HBlocks.lean ====
module

public import proofs.«01_k».proof.Proof.HStep
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)
namespace Cert.Kernel4Ideal.Hgrn
open Cert.Kernel4Ideal Cert.Kernel4Ideal.Gen
open Cert.Hgrn

variable (m : (ℓ : Loc nD τ sig) → Buf (Elt Ideal) ℓ) (c : Dev nD)

/-! ### The blocks a point reads -/

theorem idx : ∀ t : Fin cfg0.N, win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0 ∧ win0_2.index t (0 : Fin 2) = 0 ∧ win0_2.index t (1 : Fin 2) = 0 :=
  (by decide +kernel : ∀ t : Fin grid0.N, _)

theorem b0 (t : Fin cfg0.N) (b : Fin 8) (hb : b.val = t.val / 4) (r : Fin 512) (L : Fin 1024) :
    iblk m c 0 t (ix3 0 r L) = m ((c : Thread nD τ).loc main_arg0) (ix3 b ⟨512 * (t.val % 4) + r.val, by omega⟩ L) := by
  blk_ext [iblk, V, idx t]

theorem b1 (t : Fin cfg0.N) (j : Fin 2) (l : Fin 256) : iblk m c 1 t (ix2 j l) = m ((c : Thread nD τ).loc main_arg1) (ix2 j l) := by
  blk_ext [iblk, V, idx t]

theorem b2 (t : Fin cfg0.N) (l : Fin 256) : iblk m c 2 t (ix2 0 l) = m ((c : Thread nD τ).loc main_arg2) (ix1 (ps l)) := by
  blk_simp [iblk, V, idx t]
  entry_read
  pointwise
  blk_ext [iblk, V, idx t]
  rfl

end Cert.Kernel4Ideal.Hgrn
end
-- ==== Proof.HOutA.lean ====
module

public import proofs.«01_k».proof.Proof.Gen.Kernel4Ideal.Value
public import proofs.«01_k».proof.Proof.HBody
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)
namespace Cert.Kernel4Ideal.Hgrn
open Cert.Kernel4Ideal Cert.Kernel4Ideal.Gen

section
variable (c : Dev nD) (i : grid0.Coords) (arg2 : Memref sig .tc .vmem S1x512x1024 .f32) (harg2 : arg2.IsWhole) (arg3 : Memref sig .tc .vmem S2x256 .f32) (harg3 : arg3.IsWhole)
  (arg4 : Memref sig .tc .vmem S1x256 .f32) (harg4 : arg4.IsWhole) (arg5 : Memref sig .tc .vmem S1x512x256 .f32) (harg5 : arg5.IsWhole) (arg6 : Memref sig .tc .vmem S256x256 .f32) (harg6 : arg6.IsWhole)

/-! ### The eight chunks' rows of one block -/

set_option maxHeartbeats 4000000 in
theorem out_A (hc0 : cond0_0 i) (x0 : Vec Ideal S1x512x1024 .f32) (x1 : Vec Ideal S2x256 .f32) (x2 : Vec Ideal S1x256 .f32) :
    out0_A_3 c i arg2 harg2 arg3 harg3 arg4 harg4 arg5 harg5 arg6 harg6 hc0 x0 x1 x2 = fun y => outV x1 x2 x0 (k0_pay2 (F := Ideal)) (y 1) (y 2) := by
  frame_open
  simp (disch := decide) only [↓ View.readCov_skip, ↓ View.readCov_cons_toLoadRect, ↓ View.readCov_fill]
  have hx1 : ∀ h, View.ld x1 (Rect.unit (s := S2x256) ![0, 0] ![2, 256] h) = x1 := fun h => View.ld_unit_lit' (S := S2x256) h x1 (by decide)
  have hx2 : ∀ h, View.ld x2 (Rect.unit (s := S1x256) ![0, 0] ![1, 256] h) = x2 := fun h => View.ld_unit_lit' (S := S1x256) h x2 (by decide)
  frame_out
  funext y
  canon_tiles x h
  all_goals try rw [harg2.read_unread]
  all_goals try rw [harg3.read_unread]
  all_goals try rw [harg4.read_unread]
  all_goals try rw [hx1]
  all_goals try rw [hx2]
  · exact outV_tile x1 x2 x0 (k0_pay2 (F := Ideal)) 7 (y 1) (y 2) x (by omega) h2
  · exact outV_tile x1 x2 x0 (k0_pay2 (F := Ideal)) 6 (y 1) (y 2) x (by omega) h2
  · exact outV_tile x1 x2 x0 (k0_pay2 (F := Ideal)) 5 (y 1) (y 2) x (by omega) h2
  · exact outV_tile x1 x2 x0 (k0_pay2 (F := Ideal)) 4 (y 1) (y 2) x (by omega) h2
  · exact outV_tile x1 x2 x0 (k0_pay2 (F := Ideal)) 3 (y 1) (y 2) x (by omega) h2
  · exact outV_tile x1 x2 x0 (k0_pay2 (F := Ideal)) 2 (y 1) (y 2) x (by omega) h2
  · exact outV_tile x1 x2 x0 (k0_pay2 (F := Ideal)) 1 (y 1) (y 2) x (by omega) h2
  · exact outV_tile x1 x2 x0 (k0_pay2 (F := Ideal)) 0 (y 1) (y 2) x (by omega) h2
end
end Cert.Kernel4Ideal.Hgrn
end
-- ==== Proof.HOutB.lean ====
module

public import proofs.«01_k».proof.Proof.Gen.Kernel4Ideal.Value
public import proofs.«01_k».proof.Proof.HBody
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)
namespace Cert.Kernel4Ideal.Hgrn
open Cert.Kernel4Ideal Cert.Kernel4Ideal.Gen

section
variable (c : Dev nD) (i : grid0.Coords) (arg2 : Memref sig .tc .vmem S1x512x1024 .f32) (harg2 : arg2.IsWhole) (arg3 : Memref sig .tc .vmem S2x256 .f32) (harg3 : arg3.IsWhole)
  (arg4 : Memref sig .tc .vmem S1x256 .f32) (harg4 : arg4.IsWhole) (arg5 : Memref sig .tc .vmem S1x512x256 .f32) (harg5 : arg5.IsWhole) (arg6 : Memref sig .tc .vmem S256x256 .f32) (harg6 : arg6.IsWhole)

/-! ### The eight chunks' rows of one block -/

set_option maxHeartbeats 4000000 in
theorem out_B (hc0 : ¬cond0_0 i) (x0 : Vec Ideal S1x512x1024 .f32) (x1 : Vec Ideal S2x256 .f32) (x2 : Vec Ideal S1x256 .f32) (xs0 : Vec Ideal S256x256 .f32) :
    out0_B_3 c i arg2 harg2 arg3 harg3 arg4 harg4 arg5 harg5 arg6 harg6 hc0 x0 x1 x2 xs0 = fun y => outV x1 x2 x0 xs0 (y 1) (y 2) := by
  frame_open
  simp (disch := decide) only [↓ View.readCov_skip, ↓ View.readCov_cons_toLoadRect, ↓ View.readCov_fill]
  have hx1 : ∀ h, View.ld x1 (Rect.unit (s := S2x256) ![0, 0] ![2, 256] h) = x1 := fun h => View.ld_unit_lit' (S := S2x256) h x1 (by decide)
  have hx2 : ∀ h, View.ld x2 (Rect.unit (s := S1x256) ![0, 0] ![1, 256] h) = x2 := fun h => View.ld_unit_lit' (S := S1x256) h x2 (by decide)
  frame_out
  funext y
  canon_tiles x h
  all_goals try rw [harg2.read_unread]
  all_goals try rw [harg3.read_unread]
  all_goals try rw [harg4.read_unread]
  all_goals try rw [hx1]
  all_goals try rw [hx2]
  · exact outV_tile x1 x2 x0 xs0 7 (y 1) (y 2) x (by omega) h2
  · exact outV_tile x1 x2 x0 xs0 6 (y 1) (y 2) x (by omega) h2
  · exact outV_tile x1 x2 x0 xs0 5 (y 1) (y 2) x (by omega) h2
  · exact outV_tile x1 x2 x0 xs0 4 (y 1) (y 2) x (by omega) h2
  · exact outV_tile x1 x2 x0 xs0 3 (y 1) (y 2) x (by omega) h2
  · exact outV_tile x1 x2 x0 xs0 2 (y 1) (y 2) x (by omega) h2
  · exact outV_tile x1 x2 x0 xs0 1 (y 1) (y 2) x (by omega) h2
  · exact outV_tile x1 x2 x0 xs0 0 (y 1) (y 2) x (by omega) h2
end
end Cert.Kernel4Ideal.Hgrn
end
-- ==== Proof.HGrid.lean ====
module

public import proofs.«01_k».proof.Proof.Gen.Kernel4Ideal.Value
public import proofs.«01_k».proof.Proof.HBlocks
public import proofs.«01_k».proof.Proof.HOutA
public import proofs.«01_k».proof.Proof.HOutB
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option backward.proofsInPublic true
set_option maxRecDepth 16384

noncomputable section

open Idealize.ShloMosaic Idealize.ShloMosaic.TcCoe Idealize.SL.Sem
open Idealize.ShloMosaic.Pipeline (Dat)
namespace Cert.Kernel4Ideal.Hgrn
open Cert.Kernel4Ideal Cert.Kernel4Ideal.Gen Cert.Kernel4Ideal.Value
open Cert.Hgrn

variable (m : (ℓ : Loc nD τ sig) → Buf (Elt Ideal) ℓ) (c : Dev nD)

/-! ### The 32 points, and the array they write -/

/-- The arguments of one batch entry, read as functions. -/
abbrev uF (b : Fin 8) : Fin 2048 → Fin 1024 → EReal := fun T L => m ((c : Thread nD τ).loc main_arg0) (ix3 b T L)
abbrev lbF : Fin 256 → EReal := fun l => low (m ((c : Thread nD τ).loc main_arg1) (ix2 0 l)) (m ((c : Thread nD τ).loc main_arg1) (ix2 1 l))
abbrev nwF : Fin 64 → EReal := fun p => m ((c : Thread nD τ).loc main_arg2) (ix1 p)

abbrev stF (b : Fin 8) : ℕ → Fin 256 → Fin 64 → EReal := state (uF m c b) (lbF m c)
abbrev resF (b : Fin 8) : Fin 2048 → Fin 256 → EReal := result (uF m c b) (lbF m c) (nwF m c)

/-- The batch entry of a point. -/
def bt (n : ℕ) (hn : n < cfg0.N) : Fin 8 := ⟨n / 4, by have : cfg0.N = 32 := N_0; omega⟩

theorem hu (t : Fin cfg0.N) (r : Fin 512) (L : Fin 1024) : iblk m c 0 t (ix3 0 r L) = uF m c (bt t.val t.isLt) ⟨512 * (t.val % 4) + r.val, by omega⟩ L :=
  b0 m c t (bt t.val t.isLt) rfl r L

theorem hlb (t : Fin cfg0.N) (l : Fin 256) : lbV (iblk m c 1 t) (ix2 0 l) = lbF m c l := by
  rw [lbV_apply, b1, b1]

theorem pay2_eq : (k0_pay2 (F := Ideal)) = pack fun _ _ => 0 := by
  funext i
  obtain ⟨a, b, rfl⟩ : ∃ a b, i = ix2 a b := ⟨i 0, i 1, (ix2_eta i).symm⟩
  rw [pack_apply]
  pointwise [k0_pay2]
  split <;> rfl

/-- What holds after point `n`: the block's rows written, and the state. -/
structure Inv (n : ℕ) (hn : n < cfg0.N) (acc : Vec Ideal S1x512x256 .f32 × Vec Ideal S256x256 .f32) : Prop where
  out : ∀ (r : Fin 512) (l : Fin 256), acc.1 (ix3 0 r l) = resF m c (bt n hn) ⟨512 * (n % 4) + r.val, by omega⟩ l
  st : acc.2 = pack (stF m c (bt n hn) (8 * (n % 4) + 8))

section

theorem inv_A (t : Fin cfg0.N) (acc : Vec Ideal S1x512x256 .f32 × Vec Ideal S256x256 .f32) (h0 : t.val % 4 = 0) : Inv m c t.val t.isLt (stAt0 m c t.val t.isLt acc) := by
  have hs : t.val % 4 < 4 := by omega
  have hS : (k0_pay2 (F := Ideal)) = pack (stF m c (bt t.val t.isLt) (8 * (t.val % 4))) := by
    rw [pay2_eq, h0]; rfl
  rw [stAt0_A m c t acc h0]
  refine ⟨fun r l => ?_, ?_⟩
  · dsimp only
    rw [out_A]
    exact out_row hs (hu m c t) (hlb m c t) (b2 m c t) hS (fun _ _ => log_gate_ne_top _ _ _) r l
  · dsimp only
    rw [sout_A]
    exact fold_state hs (hu m c t) (hlb m c t) hS 8 (by omega)

theorem inv_B (t : Fin cfg0.N) (acc : Vec Ideal S1x512x256 .f32 × Vec Ideal S256x256 .f32) (h0 : ¬t.val % 4 = 0)
    (hp : t.val - 1 < cfg0.N) (ih : Inv m c (t.val - 1) hp acc) : Inv m c t.val t.isLt (stAt0 m c t.val t.isLt acc) := by
  have hs : t.val % 4 < 4 := by omega
  have hb : bt (t.val - 1) hp = bt t.val t.isLt := Fin.ext (by show (t.val - 1) / 4 = t.val / 4; omega)
  have hS : acc.2 = pack (stF m c (bt t.val t.isLt) (8 * (t.val % 4))) := by
    rw [ih.st, hb]
    congr 2
    omega
  rw [stAt0_B m c t acc h0]
  refine ⟨fun r l => ?_, ?_⟩
  · dsimp only
    rw [out_B]
    exact out_row hs (hu m c t) (hlb m c t) (b2 m c t) hS (fun _ _ => log_gate_ne_top _ _ _) r l
  · dsimp only
    rw [sout_B]
    exact fold_state hs (hu m c t) (hlb m c t) hS 8 (by omega)

theorem inv_all (n : ℕ) (hn : 0 + n < cfg0.N) : Inv m c (0 + n) hn (Pipeline.accAt (fun n h => stAt0 m c n h junk0) (stAt0 m c) 0 n hn) := by
  induction n with
  | zero => exact inv_A m c ⟨0, hn⟩ junk0 rfl
  | succ n ih =>
    have hn' : 0 + n < cfg0.N := by omega
    have ih' := ih hn'
    show Inv m c (0 + (n + 1)) hn (stAt0 m c (0 + (n + 1)) hn _)
    by_cases h0 : (0 + (n + 1)) % 4 = 0
    · exact inv_A m c ⟨0 + (n + 1), hn⟩ _ h0
    · exact inv_B m c ⟨0 + (n + 1), hn⟩ _ h0 hn' ih'

/-- The array the kernel writes. -/
theorem G3_apply (b : Fin 8) (T : Fin 2048) (l : Fin 256) : G3 m c (ix3 b T l) = resF m c b T l := by
  have hN : cfg0.N = 32 := N_0
  have hp : pt3Of (ix3 b T l) = 4 * b.val + T.val / 512 := by
    show 4 * (b.val / 1 - 0) + 1 * (T.val / 512 - 0) + 1 * (l.val / 256 - 0) = _
    omega
  have hlt : pt3Of (ix3 b T l) < cfg0.N := by omega
  have hloc : loc3Of (ix3 b T l) = ix3 0 ⟨T.val % 512, Nat.mod_lt _ (by decide)⟩ l := by
    funext a
    match a with
    | ⟨0, _⟩ => exact Fin.ext (by show b.val % 1 = 0; omega)
    | ⟨1, _⟩ => rfl
    | ⟨2, _⟩ => exact Fin.ext (by show l.val % 256 = l.val; omega)
  unfold G3
  rw [dif_pos hlt, hloc, (inv_all m c (pt3Of (ix3 b T l)) (by omega)).out]
  have hb : bt (0 + pt3Of (ix3 b T l)) (by omega) = b := Fin.ext (by show (0 + pt3Of (ix3 b T l)) / 4 = b.val; omega)
  rw [hb]
  congr 1
  exact Fin.ext (by show 512 * ((0 + pt3Of (ix3 b T l)) % 4) + T.val % 512 = T.val; omega)

end
end Cert.Kernel4Ideal.Hgrn
end
-- ==== Proof.HRefRead.lean ====
module

public import proofs.«01_k».proof.Proof.Gen.Reference4Ideal.Run
public import proofs.«01_k».proof.Proof.HModel
public import proofs.«01_k».proof.Proof.RefRead
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option backward.proofsInPublic true
set_option maxRecDepth 16384

noncomputable section

open Idealize.ShloMosaic Idealize.ShloMosaic.TcCoe Idealize.SL.Sem
open Idealize.ShloMosaic.Pipeline (Dat)
namespace Cert.Reference4Ideal.Hgrn
open Cert.Reference4Ideal Cert.Reference4Ideal.Gen Cert.Reference4Ideal.Value Cert.Hgrn
open Idealize.ShloMosaic.StableHlo Idealize.ShloMosaic.Tactic
open Cert.ReferenceIdeal.Ssd (foldl_add_sum window_sum start_word)

/-! ### The running sum over a chunk -/

/-- A window of the chunk's length along the second of four axes is a coordinate on that axis. -/
def stepEquiv : (⟨4, ![1, 64, 1, 1]⟩ : Shape).Idx ≃ Fin 64 where
  toFun i := i 1
  invFun w := fun a => match a with
    | ⟨0, _⟩ => (0 : Fin 1)
    | ⟨1, _⟩ => w
    | ⟨2, _⟩ => (0 : Fin 1)
    | ⟨3, _⟩ => (0 : Fin 1)
  left_inv i := by
    funext a
    match a with
    | ⟨0, _⟩ => exact (Fin.eq_zero (i 0)).symm
    | ⟨1, _⟩ => rfl
    | ⟨2, _⟩ => exact (Fin.eq_zero (i 2)).symm
    | ⟨3, _⟩ => exact (Fin.eq_zero (i 3)).symm
  right_inv w := rfl

/-- The running sum along the steps of a chunk, as the reference writes it: a window of the whole length, padded low by one less. -/
theorem cumsum_steps (x : FVec Ideal S8x64x4x64 .f32) (init : FVec Ideal S_ .f32) (hinit : init ix0 = (0 : EReal))
    (h : S8x64x4x64.ReduceWindows (![1, 64, 1, 1] : Fin 4 → Nat) ![1, 1, 1, 1] ![0, 63, 0, 0] ![0, 0, 0, 0] S8x64x4x64) (hu : 0 < S_.numel)
    (b : Fin 8) (t : Fin 64) (g : Fin 4) (p : Fin 64) :
    Host.reduceWindowAdd (F := Ideal) (s := S8x64x4x64) ![1, 64, 1, 1] ![1, 1, 1, 1] ![0, 63, 0, 0] ![0, 0, 0, 0] x init h hu (ix4 b t g p)
      = ∑ u : Fin 64, if u ≤ t then (x (ix4 b u g p) : EReal) else 0 := by
  have hv : (init (Shape.Idx.first hu) : EReal) = 0 := (congrArg init (funext fun a => a.elim0)).trans hinit
  show Host.reduceWindow (fun a b : EReal => a + b) (s := S8x64x4x64) ![1, 64, 1, 1] ![1, 1, 1, 1] ![0, 63, 0, 0] ![0, 0, 0, 0] x (fun _ : (⟨0, ![]⟩ : Shape).Idx => init (Shape.Idx.first hu)) h (by decide) (ix4 b t g p) = _
  rw [hv]
  unfold Host.reduceWindow
  dsimp only
  refine (foldl_add_sum _ _ _).trans ?_
  rw [zero_add, ← Fin.sum_univ_def, ← window_sum (fun u => x (ix4 b u g p)) t]
  refine Fintype.sum_equiv ((Shape.rowMajor ⟨4, ![1, 64, 1, 1]⟩).symm.trans stepEquiv) _ _ fun n => ?_
  have hn : ((Shape.rowMajor ⟨4, ![1, 64, 1, 1]⟩).symm.trans stepEquiv) n = (Shape.rowMajor ⟨4, ![1, 64, 1, 1]⟩).symm n 1 := rfl
  have w0 : ((Shape.rowMajor ⟨4, ![1, 64, 1, 1]⟩).symm n 0).val = 0 := by have := ((Shape.rowMajor ⟨4, ![1, 64, 1, 1]⟩).symm n 0).isLt; change _ < 1 at this; omega
  have w2 : ((Shape.rowMajor ⟨4, ![1, 64, 1, 1]⟩).symm n 2).val = 0 := by have := ((Shape.rowMajor ⟨4, ![1, 64, 1, 1]⟩).symm n 2).isLt; change _ < 1 at this; omega
  have w3 : ((Shape.rowMajor ⟨4, ![1, 64, 1, 1]⟩).symm n 3).val = 0 := by have := ((Shape.rowMajor ⟨4, ![1, 64, 1, 1]⟩).symm n 3).isLt; change _ < 1 at this; omega
  have w1 : ((Shape.rowMajor ⟨4, ![1, 64, 1, 1]⟩).symm n 1).val < 64 := ((Shape.rowMajor ⟨4, ![1, 64, 1, 1]⟩).symm n 1).isLt
  rw [hn]
  by_cases hc : 63 ≤ t.val + ((Shape.rowMajor ⟨4, ![1, 64, 1, 1]⟩).symm n 1).val
  · rw [dif_pos hc, dif_pos]
    · refine congrArg x (funext fun a => Fin.ext ?_)
      match a with
      | ⟨0, _⟩ => show b.val * 1 + ((Shape.rowMajor ⟨4, ![1, 64, 1, 1]⟩).symm n 0).val - 0 = b.val; omega
      | ⟨1, _⟩ => show t.val * 1 + ((Shape.rowMajor ⟨4, ![1, 64, 1, 1]⟩).symm n 1).val - 63 = t.val + ((Shape.rowMajor ⟨4, ![1, 64, 1, 1]⟩).symm n 1).val - 63; omega
      | ⟨2, _⟩ => show g.val * 1 + ((Shape.rowMajor ⟨4, ![1, 64, 1, 1]⟩).symm n 2).val - 0 = g.val; omega
      | ⟨3, _⟩ => show p.val * 1 + ((Shape.rowMajor ⟨4, ![1, 64, 1, 1]⟩).symm n 3).val - 0 = p.val; omega
    · intro a
      match a with
      | ⟨0, _⟩ => show 0 ≤ b.val * 1 + ((Shape.rowMajor ⟨4, ![1, 64, 1, 1]⟩).symm n 0).val ∧ b.val * 1 + ((Shape.rowMajor ⟨4, ![1, 64, 1, 1]⟩).symm n 0).val - 0 < 8; omega
      | ⟨1, _⟩ => show 63 ≤ t.val * 1 + ((Shape.rowMajor ⟨4, ![1, 64, 1, 1]⟩).symm n 1).val ∧ t.val * 1 + ((Shape.rowMajor ⟨4, ![1, 64, 1, 1]⟩).symm n 1).val - 63 < 64; omega
      | ⟨2, _⟩ => show 0 ≤ g.val * 1 + ((Shape.rowMajor ⟨4, ![1, 64, 1, 1]⟩).symm n 2).val ∧ g.val * 1 + ((Shape.rowMajor ⟨4, ![1, 64, 1, 1]⟩).symm n 2).val - 0 < 4; omega
      | ⟨3, _⟩ => show 0 ≤ p.val * 1 + ((Shape.rowMajor ⟨4, ![1, 64, 1, 1]⟩).symm n 3).val ∧ p.val * 1 + ((Shape.rowMajor ⟨4, ![1, 64, 1, 1]⟩).symm n 3).val - 0 < 64; omega
  · rw [dif_neg hc, dif_neg]
    intro hall
    have h1 := (hall 1).1
    change 63 ≤ t.val * 1 + ((Shape.rowMajor ⟨4, ![1, 64, 1, 1]⟩).symm n 1).val at h1
    omega

/-! ### What one trip reads -/

variable (V0 : Valuation τ sig (Elt Ideal)) (k : ℕ)

theorem trip_starts (hk : k < 32) (hctr : V0 (Proc.devRef .tc main_v56_5) = fun _ => BitVec.ofNat 32 k) :
    (fun a => ((![V0 (Proc.devRef .tc main_v56_5), constantI S_ 32 0#32, constantI S_ 32 0#32, constantI S_ 32 0#32,
      constantI S_ 32 0#32] : Fin 5 → (⟨S_, .i32⟩ : BufTy).Contents (Elt Ideal)) a (Shape.Idx.first h_S_)).toInt) = ![(k : ℤ), 0, 0, 0, 0] := by
  rw [hctr]
  funext a
  match a with
  | ⟨0, _⟩ => exact start_word k hk
  | ⟨1, _⟩ => rfl
  | ⟨2, _⟩ => rfl
  | ⟨3, _⟩ => rfl
  | ⟨4, _⟩ => rfl

/-- The carried state at a value lane and a key place, and the streams of chunk `k`. -/
def stOf (b : Fin 8) : Fin 256 → Fin 64 → EReal := fun l p => V0 (Proc.devRef .tc main_v56_6) (ix4 b (hd l) p (ps l))
def chunkOf (x : FVec Ideal S32x8x64x4x64 .f32) (k : Fin 32) (b : Fin 8) : Fin 64 → Fin 256 → EReal := fun t l => x (ix5 k b t (hd l) (ps l))
abbrev qOf := chunkOf (V0 (Proc.devRef .tc main_v56_0))
abbrev kOf := chunkOf (V0 (Proc.devRef .tc main_v56_1))
abbrev vOf := chunkOf (V0 (Proc.devRef .tc main_v56_2))
abbrev gOf := chunkOf (V0 (Proc.devRef .tc main_v56_3))

theorem chunkOf_lane (x : FVec Ideal S32x8x64x4x64 .f32) (k : Fin 32) (b : Fin 8) (t : Fin 64) (h : Fin 4) (p : Fin 64) :
    chunkOf x k b t (lane h p) = x (ix5 k b t h p) := by
  unfold chunkOf; rw [hd_lane, ps_lane]

/-- A chunk's slice, cut at the counter. -/
theorem slice_eq (hk : k < 32) (x : FVec Ideal S32x8x64x4x64 .f32) (start : Fin 5 → Int) (hs : start = ![(k : ℤ), 0, 0, 0, 0]) (b : Fin 8) (t : Fin 64) (h : Fin 4) (p : Fin 64) :
    shapeCast S8x64x4x64 (Host.dynamicSlice S1x8x64x4x64 x start sliceFits_S32x8x64x4x64_S1x8x64x4x64) shapeCasts_S1x8x64x4x64_S8x64x4x64 (ix4 b t h p)
      = chunkOf x ⟨k, hk⟩ b t (lane h p) := by
  subst hs
  rw [chunkOf_lane]
  pointwise []
  congr 1
  congr 1 <;> apply Fin.ext <;> simp [Host.clampedStart]
  omega

variable (hk : k < 32) (hctr : V0 (Proc.devRef .tc main_v56_5) = fun _ => BitVec.ofNat 32 k)
include hctr

theorem q_eq (b : Fin 8) (t : Fin 64) (h : Fin 4) (p : Fin 64) : res_main_while0b_v77 V0 (ix4 b t h p) = qOf V0 ⟨k, hk⟩ b t (lane h p) := by
  unfold res_main_while0b_v77
  exact slice_eq k hk _ _ (trip_starts V0 k hk hctr) b t h p

theorem k_eq (b : Fin 8) (t : Fin 64) (h : Fin 4) (p : Fin 64) : res_main_while0b_v78 V0 (ix4 b t h p) = kOf V0 ⟨k, hk⟩ b t (lane h p) := by
  unfold res_main_while0b_v78
  exact slice_eq k hk _ _ (trip_starts V0 k hk hctr) b t h p

theorem v_eq (b : Fin 8) (t : Fin 64) (h : Fin 4) (p : Fin 64) : res_main_while0b_v79 V0 (ix4 b t h p) = vOf V0 ⟨k, hk⟩ b t (lane h p) := by
  unfold res_main_while0b_v79
  exact slice_eq k hk _ _ (trip_starts V0 k hk hctr) b t h p

theorem cum_eq (b : Fin 8) (t : Fin 64) (h : Fin 4) (p : Fin 64) :
    res_main_while0b_v81 V0 (ix4 b t h p) = cum (gOf V0 ⟨k, hk⟩ b) t (lane h p) := by
  unfold res_main_while0b_v81
  refine (cumsum_steps _ _ ?_ _ _ b t h p).trans ?_
  · pointwise []
  · unfold cum
    refine Finset.sum_congr rfl fun u _ => ?_
    exact if_congr Iff.rfl (slice_eq k hk _ _ (trip_starts V0 k hk hctr) b u h p) rfl

theorem last_eq (b : Fin 8) (h : Fin 4) (p : Fin 64) :
    res_main_while0b_v102 V0 (ix3 b h p) = cum (gOf V0 ⟨k, hk⟩ b) 63 (lane h p) := by
  unfold res_main_while0b_v102
  pointwise []
  exact cum_eq V0 k hk hctr b 63 h p

/-- One trip's state. -/
theorem step_state (b : Fin 8) (h : Fin 4) (p v : Fin 64) :
    step_main_v56_6 V0 (ix4 b h p v)
      = next (kOf V0 ⟨k, hk⟩ b) (gOf V0 ⟨k, hk⟩ b) (vOf V0 ⟨k, hk⟩ b) (stOf V0 b) (lane h v) p := by
  unfold step_main_v56_6
  rw [id]
  pointwise []
  unfold next stOf
  simp only [cum_eq V0 k hk hctr, k_eq V0 k hk hctr, v_eq V0 k hk hctr, last_eq V0 k hk hctr, hd_lane, ps_lane]
  exact congrArg₂ (· + ·) rfl (Finset.sum_congr rfl fun s _ => mul_comm _ _)

omit hctr in
/-- Writing one chunk's rows. -/
theorem write_eq (x : FVec Ideal S32x8x64x4x64 .f32) (u : FVec Ideal S1x8x64x4x64 .f32) (start : Fin 5 → Int)
    (hs : start = ![(k : ℤ), 0, 0, 0, 0]) (hk : k < 32) (hf : S32x8x64x4x64.Slices (fun _ => 0) S1x8x64x4x64)
    (j : Fin 32) (b : Fin 8) (t : Fin 64) (h : Fin 4) (p : Fin 64) :
    Host.dynamicUpdateSlice x u start hf (ix5 j b t h p) = if j.val = k then u (ix5 0 b t h p) else x (ix5 j b t h p) := by
  subst hs
  have hc : ∀ a : Fin 5, Host.clampedStart S32x8x64x4x64 S1x8x64x4x64 hf.1 ![(k : ℤ), 0, 0, 0, 0] a = if a = 0 then k else 0 := by
    intro a
    match a with
    | ⟨0, _⟩ => simp [Host.clampedStart]; omega
    | ⟨1, _⟩ => rfl
    | ⟨2, _⟩ => rfl
    | ⟨3, _⟩ => rfl
    | ⟨4, _⟩ => rfl
  rw [Host.dynamicUpdateSlice_apply]
  by_cases hj : j.val = k
  · rw [if_pos hj, dif_pos]
    · refine congrArg u (funext fun a => Fin.ext ?_)
      match a with
      | ⟨0, _⟩ => show j.val - Host.clampedStart S32x8x64x4x64 S1x8x64x4x64 hf.1 ![(k : ℤ), 0, 0, 0, 0] 0 = 0; rw [hc]; simp [hj]
      | ⟨1, _⟩ => rfl
      | ⟨2, _⟩ => rfl
      | ⟨3, _⟩ => rfl
      | ⟨4, _⟩ => rfl
    · intro a
      rw [show Host.clampedStart S32x8x64x4x64 S1x8x64x4x64 hf.1 ![(k : ℤ), 0, 0, 0, 0] a = _ from hc a]
      match a with
      | ⟨0, _⟩ => show k ≤ j.val ∧ j.val < k + 1; omega
      | ⟨1, _⟩ => exact ⟨Nat.zero_le _, by show b.val < 0 + 8; omega⟩
      | ⟨2, _⟩ => exact ⟨Nat.zero_le _, by show t.val < 0 + 64; omega⟩
      | ⟨3, _⟩ => exact ⟨Nat.zero_le _, by show h.val < 0 + 4; omega⟩
      | ⟨4, _⟩ => exact ⟨Nat.zero_le _, by show p.val < 0 + 64; omega⟩
  · rw [if_neg hj, dif_neg]
    intro hall
    have h0 := hall 0
    rw [show Host.clampedStart S32x8x64x4x64 S1x8x64x4x64 hf.1 ![(k : ℤ), 0, 0, 0, 0] 0 = _ from hc 0] at h0
    change k ≤ j.val ∧ j.val < k + 1 at h0
    omega

include hk in
/-- One trip's rows. -/
theorem step_rows (hmask : ∀ t s : Fin 64, V0 (Proc.devRef .tc main_v56_4) (ix5 0 t s 0 0) = BitVec.ofBool (decide (s ≤ t)))
    (j : Fin 32) (b : Fin 8) (t : Fin 64) (h : Fin 4) (v : Fin 64) :
    step_main_v56_7 V0 (ix5 j b t h v)
      = if j.val = k then yRow (qOf V0 ⟨k, hk⟩ b) (kOf V0 ⟨k, hk⟩ b) (gOf V0 ⟨k, hk⟩ b) (vOf V0 ⟨k, hk⟩ b) (stOf V0 b) t (lane h v)
        else V0 (Proc.devRef .tc main_v56_7) (ix5 j b t h v) := by
  unfold step_main_v56_7
  rw [id]
  refine (write_eq k _ _ _ (trip_starts V0 k hk hctr) hk _ j b t h v).trans ?_
  refine if_congr Iff.rfl ?_ rfl
  pointwise []
  unfold yRow score decay stOf
  simp only [cum_eq V0 k hk hctr, q_eq V0 k hk hctr, k_eq V0 k hk hctr, v_eq V0 k hk hctr, hd_lane, ps_lane, hmask]
  have hbot : Ideal.exp ((id (constant (F := Ideal) S_ FTy.f32 4286578688#32) : FVec Ideal S_ .f32) ix0) = 0 := by
    have e : ((id (constant (F := Ideal) S_ FTy.f32 4286578688#32) : FVec Ideal S_ .f32) ix0) = (⊥ : EReal) := by
      rw [id]
      pointwise []
      simp [Ideal.ofBits, Ideal.ieee]
    rw [e, Ideal.exp_bot]
  refine congrArg₂ (· + ·) (Finset.sum_congr rfl fun x _ => mul_comm _ _) (Finset.sum_congr rfl fun s _ => ?_)
  rw [mul_comm]
  refine congrArg₂ (· * ·) (Finset.sum_congr rfl fun p _ => ?_) rfl
  rw [mul_comm]
  refine congrArg₂ (· * ·) rfl (congrArg₂ (· * ·) rfl ?_)
  by_cases hx : s ≤ t
  · rw [if_pos (show s.val ≤ t.val from hx), decide_eq_true hx]
    rfl
  · rw [if_neg (show ¬ s.val ≤ t.val from hx), decide_eq_false hx]
    exact hbot

end Cert.Reference4Ideal.Hgrn
end
-- ==== Proof.HRefLow.lean ====
module

public import proofs.«01_k».proof.Proof.Gen.Reference4Ideal.Run
public import proofs.«01_k».proof.Proof.HModel
public import proofs.«01_k».proof.Proof.RefRead
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option backward.proofsInPublic true
set_option maxRecDepth 16384

noncomputable section

open Idealize.ShloMosaic Idealize.ShloMosaic.TcCoe Idealize.SL.Sem
open Idealize.ShloMosaic.Pipeline (Dat)
namespace Cert.Reference4Ideal.Hgrn
open Cert.Reference4Ideal Cert.Reference4Ideal.Gen Cert.Reference4Ideal.Value Cert.Hgrn
open Idealize.ShloMosaic.StableHlo Idealize.ShloMosaic.Tactic
open Cert.ReferenceIdeal.Ssd (foldl_add_sum)

/-! ### The lower bound of the gate, as the reference takes it -/

variable (X : FVec Ideal S2x256 .f32)

/-- The larger of the two logits. -/
def maxR : FVec Ideal S256 .f32 :=
  maximumf (broadcastInDim S256 ![] bcast_S_S256 (constant (F := Ideal) S_ .f32 0xFF800000#32)) (Host.reduce FloatOps.maximumf X (constant (F := Ideal) S_ .f32 0xFF800000#32) reducesTo_S2x256_S256_d0 h_S_)

/-- The two exponentials, their softmax, its running sum, and the second row of that less the first. -/
def expR : FVec Ideal S2x256 .f32 :=
  Host.exp (subf X (broadcastInDim S2x256 ![0, 1] bcast_S1x256_S2x256_0_1 (broadcastInDim S1x256 ![1] bcast_S256_S1x256_1 (maxR X))))
def softR : FVec Ideal S2x256 .f32 :=
  Host.divf (expR X) (broadcastInDim S2x256 ![0, 1] bcast_S1x256_S2x256_0_1 (broadcastInDim S1x256 ![1] bcast_S256_S1x256_1 (Host.reduceAdd (expR X) (constant (F := Ideal) S_ .f32 0x00000000#32) reducesTo_S2x256_S256_d0 h_S_)))
def cumR : FVec Ideal S2x256 .f32 :=
  Host.reduceWindowAdd ![2, 1] ![1, 1] ![1, 0] ![0, 0] (softR X) (broadcastInDim S_ ![] bcast_S_S_ (constant (F := Ideal) S_ .f32 0x00000000#32)) reduceWindows_S2x256_S2x256_w2s1p1_0_w1s1p0_0 h_S_
def lowR : FVec Ideal S256 .f32 :=
  shapeCast S256 (extractStridedSlice S1x256 ![1, 0] (subf (cumR X) (broadcastInDim S2x256 ![0, 1] bcast_S1x256_S2x256_0_1 (broadcastInDim S1x256 ![1] bcast_S256_S1x256_1 (shapeCast S256 (extractStridedSlice S1x256 ![0, 0] (cumR X) slices_S2x256_S1x256_0_0) shapeCasts_S1x256_S256)))) slices_S2x256_S1x256_1_0) shapeCasts_S1x256_S256

theorem maxR_apply (l : Fin 256) : maxR X (ix1 l) = max (X (ix2 0 l) : EReal) (X (ix2 1 l)) := by
  pointwise [maxR]
  have e : Ideal.ofBits FTy.f32 4286578688#32 = (⊥ : EReal) := by simp [Ideal.ofBits, Ideal.ieee]
  rw [e, show (Finset.univ : Finset (Fin 2)) = {0, 1} from rfl, Finset.fold_insert (by decide), Finset.fold_singleton, max_bot_right, max_bot_left]

theorem expR_apply (a : Fin 2) (l : Fin 256) : expR X (ix2 a l) = Ideal.exp ((X (ix2 a l) : EReal) - max (X (ix2 0 l) : EReal) (X (ix2 1 l))) := by
  pointwise [expR]
  rw [maxR_apply]

theorem softR_apply (a : Fin 2) (l : Fin 256) : softR X (ix2 a l) = Ideal.div (expR X (ix2 a l)) ((expR X (ix2 0 l) : EReal) + expR X (ix2 1 l)) := by
  pointwise [softR]
  rw [Fin.sum_univ_two]

/-- A window over two rows is a row. -/
def pairEquiv : (⟨2, ![2, 1]⟩ : Shape).Idx ≃ Fin 2 where
  toFun i := i 0
  invFun w := fun a => match a with
    | ⟨0, _⟩ => w
    | ⟨1, _⟩ => (0 : Fin 1)
  left_inv i := by
    funext a
    match a with
    | ⟨0, _⟩ => rfl
    | ⟨1, _⟩ => exact (Fin.eq_zero (i 1)).symm
  right_inv w := rfl

theorem cumsum_pair (x : FVec Ideal S2x256 .f32) (init : FVec Ideal S_ .f32) (hinit : init ix0 = (0 : EReal))
    (h : S2x256.ReduceWindows (![2, 1] : Fin 2 → Nat) ![1, 1] ![1, 0] ![0, 0] S2x256) (hu : 0 < S_.numel) (t : Fin 2) (l : Fin 256) :
    Host.reduceWindowAdd (F := Ideal) (s := S2x256) ![2, 1] ![1, 1] ![1, 0] ![0, 0] x init h hu (ix2 t l)
      = ∑ w : Fin 2, if h : 1 ≤ t.val + w.val then (x (ix2 ⟨t.val + w.val - 1, by omega⟩ l) : EReal) else 0 := by
  have hv : (init (Shape.Idx.first hu) : EReal) = 0 := (congrArg init (funext fun a => a.elim0)).trans hinit
  show Host.reduceWindow (fun a b : EReal => a + b) (s := S2x256) ![2, 1] ![1, 1] ![1, 0] ![0, 0] x (fun _ : (⟨0, ![]⟩ : Shape).Idx => init (Shape.Idx.first hu)) h (by decide) (ix2 t l) = _
  rw [hv]
  unfold Host.reduceWindow
  dsimp only
  refine (foldl_add_sum _ _ _).trans ?_
  rw [zero_add, ← Fin.sum_univ_def]
  refine Fintype.sum_equiv ((Shape.rowMajor ⟨2, ![2, 1]⟩).symm.trans pairEquiv) _ _ fun n => ?_
  have hn : ((Shape.rowMajor ⟨2, ![2, 1]⟩).symm.trans pairEquiv) n = (Shape.rowMajor ⟨2, ![2, 1]⟩).symm n 0 := rfl
  have w1 : ((Shape.rowMajor ⟨2, ![2, 1]⟩).symm n 1).val = 0 := by have := ((Shape.rowMajor ⟨2, ![2, 1]⟩).symm n 1).isLt; change _ < 1 at this; omega
  have w0 : ((Shape.rowMajor ⟨2, ![2, 1]⟩).symm n 0).val < 2 := ((Shape.rowMajor ⟨2, ![2, 1]⟩).symm n 0).isLt
  rw [hn]
  by_cases hc : 1 ≤ t.val + ((Shape.rowMajor ⟨2, ![2, 1]⟩).symm n 0).val
  · rw [dif_pos hc, dif_pos]
    · refine congrArg x (funext fun a => Fin.ext ?_)
      match a with
      | ⟨0, _⟩ => show t.val * 1 + ((Shape.rowMajor ⟨2, ![2, 1]⟩).symm n 0).val - 1 = t.val + ((Shape.rowMajor ⟨2, ![2, 1]⟩).symm n 0).val - 1; omega
      | ⟨1, _⟩ => show l.val * 1 + ((Shape.rowMajor ⟨2, ![2, 1]⟩).symm n 1).val - 0 = l.val; omega
    · intro a
      match a with
      | ⟨0, _⟩ => show 1 ≤ t.val * 1 + ((Shape.rowMajor ⟨2, ![2, 1]⟩).symm n 0).val ∧ t.val * 1 + ((Shape.rowMajor ⟨2, ![2, 1]⟩).symm n 0).val - 1 < 2; omega
      | ⟨1, _⟩ => show 0 ≤ l.val * 1 + ((Shape.rowMajor ⟨2, ![2, 1]⟩).symm n 1).val ∧ l.val * 1 + ((Shape.rowMajor ⟨2, ![2, 1]⟩).symm n 1).val - 0 < 256; omega
  · rw [dif_neg hc, dif_neg]
    intro hall
    have h1 := (hall 0).1
    change 1 ≤ t.val * 1 + ((Shape.rowMajor ⟨2, ![2, 1]⟩).symm n 0).val at h1
    omega

theorem cumR_apply (t : Fin 2) (l : Fin 256) : cumR X (ix2 t l) = if t = 0 then (softR X (ix2 0 l) : EReal) else softR X (ix2 0 l) + softR X (ix2 1 l) := by
  unfold cumR
  refine (cumsum_pair _ _ (by pointwise []) _ _ t l).trans ?_
  rw [Fin.sum_univ_two]
  match t with
  | ⟨0, _⟩ => exact zero_add _
  | ⟨1, _⟩ => rfl

/-- The difference is the softmax's second row. -/
theorem lowR_apply (l : Fin 256) : lowR X (ix1 l) = low (X (ix2 0 l)) (X (ix2 1 l)) := by
  pointwise [lowR]
  rw [cumR_apply, cumR_apply, if_pos rfl, if_neg (by decide), softR_apply, softR_apply, expR_apply, expR_apply]
  generalize hx : (X (ix2 0 l) : EReal) = x
  generalize hy : (X (ix2 1 l) : EReal) = y
  have h := soft_cases x y
  unfold low at h ⊢
  rcases h with ⟨h0, h1⟩ | ⟨p, r, -, -, h0, h1⟩
  · rw [h0, h1, EReal.bot_add, EReal.bot_sub]
  · rw [h0, h1, ← EReal.coe_add, ← EReal.coe_sub, add_sub_cancel_left]

end Cert.Reference4Ideal.Hgrn
end
-- ==== Proof.HRefEntry.lean ====
module

public import proofs.«01_k».proof.Proof.Gen.Reference4Ideal.Run
public import proofs.«01_k».proof.Proof.HRefRead
public import proofs.«01_k».proof.Proof.HRefLow
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option backward.proofsInPublic true
set_option maxRecDepth 16384

noncomputable section

open Idealize.ShloMosaic Idealize.ShloMosaic.TcCoe Idealize.SL.Sem
open Idealize.ShloMosaic.Pipeline (Dat)
namespace Cert.Reference4Ideal.Hgrn
open Cert.Reference4Ideal Cert.Reference4Ideal.Gen Cert.Reference4Ideal.Value Cert.Hgrn
open Idealize.ShloMosaic.StableHlo Idealize.ShloMosaic.Tactic

/-! ### What the loop starts from -/

/-- A stream of 2048 steps, cut into chunks and heads. -/
def split (x : FVec Ideal S8x2048x256 .f32) : FVec Ideal S32x8x64x4x64 .f32 :=
  transpose S32x8x64x4x64 [1, 0, 2, 3, 4] (shapeCast S8x32x64x4x64 x shapeCasts_S8x2048x256_S8x32x64x4x64) transposes_S8x32x64x4x64_S32x8x64x4x64_1_0_2_3_4

theorem split_chunk (x : FVec Ideal S8x2048x256 .f32) (k : Fin 32) (b : Fin 8) (t : Fin 64) (l : Fin 256) : chunkOf (split x) k b t l = x (ix3 b (step k.val t) l) := by
  unfold chunkOf
  pointwise [split]
  congr 1
  congr 1 <;> apply Fin.ext <;> simp only [step, hd, ps] <;> omega

/-- The gate, and the queries with their scale. -/
def gateR (U : FVec Ideal S8x2048x1024 .f32) (X : FVec Ideal S2x256 .f32) : FVec Ideal S8x2048x256 .f32 :=
  addf (broadcastInDim S8x2048x256 ![0, 1, 2] bcast_S1x1x256_S8x2048x256_0_1_2 (broadcastInDim S1x1x256 ![2] bcast_S256_S1x1x256_2 (lowR X)))
    (mulf (broadcastInDim S8x2048x256 ![0, 1, 2] bcast_S1x1x256_S8x2048x256_0_1_2 (broadcastInDim S1x1x256 ![2] bcast_S256_S1x1x256_2 (subf (broadcastInDim S256 ![] bcast_S_S256 (constant (F := Ideal) S_ .f32 0x3F800000#32)) (lowR X))))
      (Host.divf (broadcastInDim S8x2048x256 ![] bcast_S_S8x2048x256 (constant (F := Ideal) S_ .f32 0x3F800000#32)) (addf (broadcastInDim S8x2048x256 ![] bcast_S_S8x2048x256 (constant (F := Ideal) S_ .f32 0x3F800000#32)) (Host.exp (Host.negf (extractStridedSlice S8x2048x256 ![0, 0, 256] U slices_S8x2048x1024_S8x2048x256_0_0_256))))))

theorem gateR_apply (U : FVec Ideal S8x2048x1024 .f32) (X : FVec Ideal S2x256 .f32) (b : Fin 8) (T : Fin 2048) (l : Fin 256) :
    gateR U X (ix3 b T l) = gate (low (X (ix2 0 l)) (X (ix2 1 l))) (U (ix3 b T ⟨256 + l.val, by omega⟩)) := by
  pointwise [gateR]
  rw [lowR_apply X, ← zero_sub (_ : EReal)]
  rfl

variable (m : (ℓ : Loc nD τ sig) → Buf (Elt Ideal) ℓ) (c : Dev nD)

set_option maxHeartbeats 1000000
theorem entry_0 : entryContents preI m c (Proc.devRef .tc main_v56_0) = split (mulf (extractStridedSlice S8x2048x256 ![0, 0, 0] (m ((c : Thread nD τ).loc main_arg0)) slices_S8x2048x1024_S8x2048x256_0_0_0) (broadcastInDim S8x2048x256 ![] bcast_S_S8x2048x256 (constant (F := Ideal) S_ .f32 0x3E000000#32))) := by
  simp only [entryContents, afterL_cons, afterL_nil]
  after_reads_simp
  rfl
theorem entry_1 : entryContents preI m c (Proc.devRef .tc main_v56_1) = split (subf (broadcastInDim S8x2048x256 ![] bcast_S_S8x2048x256 (constant (F := Ideal) S_ .f32 0x3F800000#32)) (gateR (m ((c : Thread nD τ).loc main_arg0)) (m ((c : Thread nD τ).loc main_arg1)))) := by
  simp only [entryContents, afterL_cons, afterL_nil]
  after_reads_simp
  rfl
theorem entry_2 : entryContents preI m c (Proc.devRef .tc main_v56_2) = split (extractStridedSlice S8x2048x256 ![0, 0, 512] (m ((c : Thread nD τ).loc main_arg0)) slices_S8x2048x1024_S8x2048x256_0_0_512) := by
  simp only [entryContents, afterL_cons, afterL_nil]
  after_reads_simp
  rfl
theorem entry_3 : entryContents preI m c (Proc.devRef .tc main_v56_3) = split (Host.log (gateR (m ((c : Thread nD τ).loc main_arg0)) (m ((c : Thread nD τ).loc main_arg1)))) := by
  simp only [entryContents, afterL_cons, afterL_nil]
  after_reads_simp
  rfl
theorem entry_4 (t s : Fin 64) : entryContents preI m c (Proc.devRef .tc main_v56_4) (ix5 0 t s 0 0) = BitVec.ofBool (decide (s ≤ t)) := by
  simp only [entryContents, afterL_cons, afterL_nil]
  after_reads_simp
  rw [id]
  pointwise []
  have hi : IntOp.cmpi CmpIPredicate.sge (BitVec.ofNat 32 t.val) (BitVec.ofNat 32 s.val) = 1#1 ↔ s.val ≤ t.val := by word_omega
  by_cases h : s ≤ t
  · rw [decide_eq_true h]
    exact hi.2 h
  · rw [decide_eq_false h]
    exact (fun w : BitVec 1 => (by revert w; decide : ∀ w : BitVec 1, ¬ w = 1#1 → w = 0#1) w) _ (mt hi.1 h)
theorem entry_6 (b : Fin 8) (h : Fin 4) (p v : Fin 64) : entryContents preI m c (Proc.devRef .tc main_v56_6) (ix4 b h p v) = (0 : EReal) := by
  simp only [entryContents, afterL_cons, afterL_nil]
  after_reads_simp
  rw [id]
  pointwise []

/-- The arguments of one batch entry, read as functions. -/
abbrev uF (b : Fin 8) : Fin 2048 → Fin 1024 → EReal := fun T L => m ((c : Thread nD τ).loc main_arg0) (ix3 b T L)
abbrev lbF : Fin 256 → EReal := fun l => low (m ((c : Thread nD τ).loc main_arg1) (ix2 0 l)) (m ((c : Thread nD τ).loc main_arg1) (ix2 1 l))
abbrev logits : FVec Ideal S2x256 .f32 := m ((c : Thread nD τ).loc main_arg1)
abbrev nwF : Fin 64 → EReal := fun p => m ((c : Thread nD τ).loc main_arg2) (ix1 p)

theorem q_entry (k : Fin 32) (b : Fin 8) : qOf (entryContents preI m c) k b = qAt (uF m c b) k.val := by
  funext t l
  unfold qOf
  rw [entry_0, split_chunk]
  unfold qAt
  pointwise []

theorem v_entry (k : Fin 32) (b : Fin 8) : vOf (entryContents preI m c) k b = iAt (uF m c b) k.val := by
  funext t l
  unfold vOf
  rw [entry_2, split_chunk]
  unfold iAt
  pointwise []

section

theorem k_entry (k : Fin 32) (b : Fin 8) : kOf (entryContents preI m c) k b = kAt (uF m c b) (lbF m c) k.val := by
  funext t l
  unfold kOf
  rw [entry_1, split_chunk]
  unfold kAt fAt
  pointwise []
  rw [gateR_apply _ _]

theorem g_entry (k : Fin 32) (b : Fin 8) : gOf (entryContents preI m c) k b = lAt (uF m c b) (lbF m c) k.val := by
  funext t l
  unfold gOf
  rw [entry_3, split_chunk]
  unfold lAt fAt
  pointwise []
  rw [gateR_apply _ _]

end

end Cert.Reference4Ideal.Hgrn
end
-- ==== Proof.HRefLoop.lean ====
module

public import proofs.«01_k».proof.Proof.Gen.Reference4Ideal.Run
public import proofs.«01_k».proof.Proof.HRefEntry
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option backward.proofsInPublic true
set_option maxRecDepth 16384

noncomputable section

open Idealize.ShloMosaic Idealize.ShloMosaic.TcCoe Idealize.SL.Sem
open Idealize.ShloMosaic.Pipeline (Dat)
namespace Cert.Reference4Ideal.Hgrn
open Cert.Reference4Ideal Cert.Reference4Ideal.Gen Cert.Reference4Ideal.Value Cert.Hgrn
open Idealize.ShloMosaic.StableHlo Idealize.ShloMosaic.Tactic
open Cert.Scan (sg)

variable (m : (ℓ : Loc nD τ sig) → Buf (Elt Ideal) ℓ) (c : Dev nD)

/-! ### The loop's 32 trips -/

/-- The buffers before trip `k`. -/
abbrev At (k : ℕ) : Valuation τ sig (Elt Ideal) := STEP^[k] (entryContents preI m c)

theorem at_succ (k : ℕ) : At m c (k + 1) = STEP (At m c k) := Function.iterate_succ_apply' _ _ _

/-- What no trip writes. -/
theorem at_0 (k : ℕ) : At m c k (Proc.devRef .tc main_v56_0) = entryContents preI m c (Proc.devRef .tc main_v56_0) := by
  induction k with
  | zero => rfl
  | succ k ih => rw [at_succ, STEP_main_v56_0, ih]
theorem at_1 (k : ℕ) : At m c k (Proc.devRef .tc main_v56_1) = entryContents preI m c (Proc.devRef .tc main_v56_1) := by
  induction k with
  | zero => rfl
  | succ k ih => rw [at_succ, STEP_main_v56_1, ih]
theorem at_2 (k : ℕ) : At m c k (Proc.devRef .tc main_v56_2) = entryContents preI m c (Proc.devRef .tc main_v56_2) := by
  induction k with
  | zero => rfl
  | succ k ih => rw [at_succ, STEP_main_v56_2, ih]
theorem at_3 (k : ℕ) : At m c k (Proc.devRef .tc main_v56_3) = entryContents preI m c (Proc.devRef .tc main_v56_3) := by
  induction k with
  | zero => rfl
  | succ k ih => rw [at_succ, STEP_main_v56_3, ih]
theorem at_4 (k : ℕ) : At m c k (Proc.devRef .tc main_v56_4) = entryContents preI m c (Proc.devRef .tc main_v56_4) := by
  induction k with
  | zero => rfl
  | succ k ih => rw [at_succ, STEP_main_v56_4, ih]

/-- The counter counts. -/
theorem at_5 (k : ℕ) : At m c k (Proc.devRef .tc main_v56_5) = fun _ => BitVec.ofNat 32 k := by
  induction k with
  | zero => exact ctr_entry m c
  | succ k ih =>
    rw [at_succ, STEP_main_v56_5]
    unfold step_main_v56_5
    rw [ih]
    funext i
    exact (BitVec.ofNat_add k 1).symm

theorem q_at (k : ℕ) (j : Fin 32) (b : Fin 8) : qOf (At m c k) j b = qAt (uF m c b) j.val := by
  rw [← q_entry]; unfold qOf; rw [at_0]
theorem v_at (k : ℕ) (j : Fin 32) (b : Fin 8) : vOf (At m c k) j b = iAt (uF m c b) j.val := by
  rw [← v_entry]; unfold vOf; rw [at_2]

section

theorem k_at (k : ℕ) (j : Fin 32) (b : Fin 8) : kOf (At m c k) j b = kAt (uF m c b) (lbF m c) j.val := by
  rw [← k_entry m c]; unfold kOf; rw [at_1]
theorem g_at (k : ℕ) (j : Fin 32) (b : Fin 8) : gOf (At m c k) j b = lAt (uF m c b) (lbF m c) j.val := by
  rw [← g_entry m c]; unfold gOf; rw [at_3]

/-- The state before each trip. -/
theorem st_at (b : Fin 8) (k : ℕ) (hk : k ≤ 32) : stOf (At m c k) b = state (uF m c b) (lbF m c) k := by
  induction k with
  | zero => funext l p; exact entry_6 m c b (hd l) p (ps l)
  | succ k ih =>
    funext l p
    unfold stOf
    rw [at_succ, STEP_main_v56_6, step_state (At m c k) k (by omega) (at_5 m c k), ih (by omega)]
    rw [k_at m c, g_at m c, v_at, lane_hd_ps]
    rfl

/-- The rows written so far. -/
theorem rows_at (b : Fin 8) (k : ℕ) (hk : k ≤ 32) (j : Fin 32) (hj : j.val < k) (t : Fin 64) (h : Fin 4) (p : Fin 64) :
    At m c k (Proc.devRef .tc main_v56_7) (ix5 j b t h p) = scanRow (uF m c b) (lbF m c) j.val t (lane h p) := by
  induction k with
  | zero => exact absurd hj (Nat.not_lt_zero _)
  | succ k ih =>
    rw [at_succ, STEP_main_v56_7, step_rows (At m c k) k (by omega) (at_5 m c k) (fun t s => by rw [at_4]; exact entry_4 m c t s)]
    by_cases hjk : j.val = k
    · rw [if_pos hjk, st_at m c b k (by omega)]
      rw [q_at, k_at m c, g_at m c, v_at, hjk]
      rfl
    · rw [if_neg hjk]
      exact ih (by omega) (by omega)

end

/-! ### The norm and the gate -/

theorem w64 : Ideal.ofBits FTy.f32 0x42800000#32 = ((64 : ℝ) : EReal) := by
  simp [Ideal.ofBits, Ideal.ieee]
  rw [← EReal.coe_mul]
  norm_num

/-- The result after the loop, from any buffers. -/
theorem out_of (V0 : Valuation τ sig (Elt Ideal)) (b : Fin 8) (T : Fin 2048) (o g : Fin 256 → EReal) (nw : Fin 64 → EReal)
    (ho : ∀ (h : Fin 4) (p : Fin 64), V0 (Proc.devRef .tc main_v56_7) (ix5 ⟨T.val / 64, by omega⟩ b ⟨T.val % 64, by omega⟩ h p) = o (lane h p))
    (hg : ∀ l : Fin 256, V0 (Proc.devRef .tc main_arg0) (ix3 b T ⟨768 + l.val, by omega⟩) = g l)
    (hn : ∀ p : Fin 64, V0 (Proc.devRef .tc main_arg2) (ix1 p) = nw p) (l : Fin 256) :
    out_main_v76 V0 (ix3 b T l) = normed o (fun l => nw (ps l)) g l := by
  unfold out_main_v76
  pointwise []
  simp only [ho, hg, hn, w64]
  rw [Ideal.div_coe (by norm_num)]
  unfold normed sg
  simp only [zero_sub, one_div]
  exact congrArg₂ (· * ·) (congrArg₂ (· * ·) (congrArg₂ (· * ·) (congrArg o (lane_hd_ps l)) rfl) rfl) rfl

theorem out_apply (b : Fin 8) (T : Fin 2048) (l : Fin 256) :
    out_main_v76 (At m c 32) (ix3 b T l) = result (uF m c b) (lbF m c) (nwF m c) T l := by
  have hT : step (T.val / 64) ⟨T.val % 64, Nat.mod_lt _ (by decide)⟩ = T := by
    apply Fin.ext; show (64 * (T.val / 64) + T.val % 64) % 2048 = T.val; omega
  refine out_of (At m c 32) b T _ _ (nwF m c) (fun h p => ?_) (fun l => ?_) (fun p => ?_) l
  · exact rows_at m c b 32 (le_refl _) ⟨T.val / 64, by omega⟩ (by show T.val / 64 < 32; omega) _ h p
  · unfold gAt
    rw [hT]
    exact congrFun (iter_main_arg0 m c 32) _
  · exact congrFun (iter_main_arg2 m c 32) _

end Cert.Reference4Ideal.Hgrn
end
-- ==== Proof.Up.lean ====
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise
public import Idealize.ShloMosaic.Lib.Tactic.WordOmega

@[expose] public section

set_option backward.proofsInPublic true
set_option maxRecDepth 16384

noncomputable section

open Idealize.ShloMosaic Idealize.ShloMosaic.TcCoe Idealize.SL.Sem
open Idealize.ShloMosaic.Pipeline (Dat)

/-! ### The transposed tiles of the experts' output weights -/

namespace Cert.Kernel5Ideal.Up
open Cert.Kernel5Ideal Cert.Kernel5Ideal.Gen

/-- A tile of 2048 rows, transposed. -/
theorem tile_apply (x0 : Vec Ideal S1x2048x1024 .f32) (k : Fin 1024) (r : Fin 2048) : out0_1 x0 (ix3 0 k r) = x0 (ix3 0 r k) := by
  frame_open
  frame_out
  pointwise [k0_pay1]

variable (m : (ℓ : Loc nD τ sig) → Buf (Elt Ideal) ℓ) (c : Dev nD)

theorem idx : ∀ t : Fin cfg0.N, win0_0.index t (0 : Fin 3) = 0 ∧ win0_0.index t (1 : Fin 3) = t.val ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

theorem flush1 : ∀ t : Fin cfg0.N, (cfg0.win 1).flush t = true := (by decide +kernel : ∀ t : Fin grid0.N, _)

theorem b0 (t : Fin cfg0.N) (r : Fin 2048) (k : Fin 1024) (R : Fin 16384) (hR : R.val = 2048 * t.val + r.val) :
    iblk m c 0 t (ix3 0 r k) = m ((c : Thread nD τ).loc main_arg0) (ix3 0 R k) := by
  have e : R = ⟨2048 * t.val + r.val, by omega⟩ := Fin.ext hR
  rw [e]
  blk_ext [iblk, V, idx t]

theorem arr1 (t : Fin 8) (k : Fin 1024) (r : Fin 2048) :
    (dats m 0 c).arrAt 1 cfg0.N (ix3 t k r) = m ((c : Thread nD τ).loc main_arg0) (ix3 0 ⟨2048 * t.val + r.val, by omega⟩ k) := by
  have hN : cfg0.N = 8 := N_0
  have h := congrFun (Value.blocks1 m c ⟨t.val, by omega⟩ (flush1 _)) (ix3 0 k r)
  rw [Value.flushed1] at h
  refine Eq.trans ?_ (h.trans ((tile_apply _ k r).trans (b0 m c _ r k _ rfl)))
  generalize (dats m 0 c).arrAt 1 cfg0.N = G
  blk_ext [idx ⟨t.val, by omega⟩]

end Cert.Kernel5Ideal.Up

namespace Cert.Reference5Ideal.Up
open Cert.Reference5Ideal Cert.Reference5Ideal.Gen

theorem out_apply (X : FVec Ideal S2x16384x1024 .f32) (t : Fin 8) (k : Fin 1024) (r : Fin 2048) :
    (truncf .bf16 (transpose S8x1024x2048 [0, 2, 1] (shapeCast S8x2048x1024 (shapeCast S16384x1024 (extractStridedSlice S1x16384x1024 ![0, 0, 0] X slices_S2x16384x1024_S1x16384x1024_0_0_0) shapeCasts_S1x16384x1024_S16384x1024) shapeCasts_S16384x1024_S8x2048x1024) transposes_S8x2048x1024_S8x1024x2048_0_2_1) bitsLt_bf16_f32 : FVec Ideal S8x1024x2048 .bf16) (ix3 t k r)
      = X (ix3 0 ⟨2048 * t.val + r.val, by omega⟩ k) := by
  pointwise []
  exact congrArg (fun a : Fin 16384 => X (ix3 0 a k)) (Fin.ext (by simp only; omega))

end Cert.Reference5Ideal.Up
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Grid
public import proofs.«01_k».proof.Proof.RefLoop
public import proofs.«01_k».proof.Proof.Pre
public import proofs.«01_k».proof.Proof.In
public import proofs.«01_k».proof.Proof.RefIn
public import proofs.«01_k».proof.Proof.Out
public import proofs.«01_k».proof.Proof.RefOut
public import proofs.«01_k».proof.Proof.HGrid
public import proofs.«01_k».proof.Proof.HRefLoop
public import proofs.«01_k».proof.Proof.Up
public import Idealize.ShloMosaic.Adequacy
public import Idealize.ShloMosaic.Init

@[expose] public section

set_option maxRecDepth 16384

noncomputable section

namespace Cert.Proof

open Idealize.ShloMosaic Idealize.SL.Sem

instance : Cert.Pre_steps_bounded.Facts := Cert.Pre_steps_bounded.side

/-- The kernel runs, keeps its arguments and ends quiescent. -/
theorem kernel_frame : Cert.quiescent_Kernel := fun m g _ => Cert.Kernel.Gen.frame m g

/-- So does its idealization. -/
theorem ideal_frame : Cert.quiescent_KernelIdeal := fun m g _ => Cert.KernelIdeal.Gen.frame m g

/-- And under the precondition of the value claim. -/
theorem ideal_frame_pre : Cert.quiescent_KernelIdeal_pre_steps_bounded := fun m g _ => Cert.KernelIdeal.Gen.frame m g

/-- The reference runs, keeps its arguments and ends quiescent. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- And under the precondition of the value claim. -/
theorem reference_frame_pre : Cert.quiescent_ReferenceIdeal_pre_steps_bounded := fun m g _ => reference_frame m g trivial

/-- The two constants the idealization names: the mask is minus infinity and the reciprocal is the one of 192. -/
theorem preserved : Cert.preserves_Kernel_KernelIdeal :=
  ⟨IdealRules.named_const.statement Cert.KernelIdeal.κ "mask" .f32 0xF149F2CA#32 ⊥ rfl,
   IdealRules.named_const.statement Cert.KernelIdeal.κ "g" .f32 0x3BAAAAAB#32 ((192⁻¹ : ℝ) : EReal) rfl⟩

/-- From equal arguments the two programs write the same array. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_steps_bounded m) (c : Dev Cert.KernelIdeal.nD)
    (hm : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.out_main_v88 (Cert.ReferenceIdeal.Ssd.At m' c 32) = Cert.KernelIdeal.Value.G7 m c := by
  obtain ⟨e0, e1, e2, e3, e4, e5, e6, e7, e8⟩ := hm
  obtain ⟨h2, h5, h6⟩ := Cert.Pre_steps_bounded.bounded _ _ _ _ _ _ _ _ _ (hpre c)
  have hfin : ∀ b T h, ∃ r : ℝ, Cert.Scan.sp (Cert.KernelIdeal.Ssd.dF m c b T h + Cert.KernelIdeal.Ssd.biasF m c h)
      * Cert.Scan.rate (Cert.KernelIdeal.Ssd.alogF m c) h = r :=
    fun b T h => Cert.Scan.decay_real (h2 (ix3 b T h)) (h5 (ix1 h)) (h6 (ix1 h))
  funext i
  rw [eq_ix3 i]
  refine (Cert.ReferenceIdeal.Ssd.out_apply m' c (i 0) (i 1) (i 2)).trans
    (Eq.trans ?_ (Cert.KernelIdeal.Ssd.G7_apply m c hfin (i 0) (i 1) (i 2)).symm)
  have z : Cert.ReferenceIdeal.Ssd.zF m' c (i 0) = Cert.KernelIdeal.Ssd.zF m c (i 0) := funext fun T => funext fun l => congrFun e0 (ix3 (i 0) T l)
  have x : Cert.ReferenceIdeal.Ssd.xF m' c (i 0) = Cert.KernelIdeal.Ssd.xF m c (i 0) := funext fun T => funext fun l => congrFun e1 (ix3 (i 0) T l)
  have d : Cert.ReferenceIdeal.Ssd.dF m' c (i 0) = Cert.KernelIdeal.Ssd.dF m c (i 0) := funext fun T => funext fun h => congrFun e2 (ix3 (i 0) T h)
  have w : Cert.ReferenceIdeal.Ssd.wF m' c = Cert.KernelIdeal.Ssd.wF m c := funext fun j => funext fun l => congrFun e3 (ix2 j l)
  have cb : Cert.ReferenceIdeal.Ssd.cbF m' c = Cert.KernelIdeal.Ssd.cbF m c := funext fun l => congrFun e4 (ix1 l)
  have bi : Cert.ReferenceIdeal.Ssd.biasF m' c = Cert.KernelIdeal.Ssd.biasF m c := funext fun h => congrFun e5 (ix1 h)
  have al : Cert.ReferenceIdeal.Ssd.alogF m' c = Cert.KernelIdeal.Ssd.alogF m c := funext fun h => congrFun e6 (ix1 h)
  have ds : Cert.ReferenceIdeal.Ssd.dskF m' c = Cert.KernelIdeal.Ssd.dskF m c := funext fun h => congrFun e7 (ix1 h)
  have nw : Cert.ReferenceIdeal.Ssd.nwF m' c = Cert.KernelIdeal.Ssd.nwF m c := funext fun l => congrFun e8 (ix1 l)
  rw [z, x, d, w, cb, bi, al, ds, nw]

/-- The kernel's idealization and the reference write equal results. -/
theorem equal : Cert.algebraic_KernelIdeal_ReferenceIdeal_pre_steps_bounded := fun m g m' g' hpre hm =>
  ⟨fun c => Cert.KernelIdeal.Value.G7 m c, Cert.KernelIdeal.Value.run m g,
    (θ_run _ _ _).mono (fun _ h c => ⟨(h c).1.trans (same m m' hpre c (hm c)), (h c).2⟩) (Cert.ReferenceIdeal.Value.run m' g')⟩

/-! ### The input projection -/

/-- The call runs, keeps its arguments and ends quiescent; so does its idealization. -/
theorem kernel2_frame : Cert.quiescent_Kernel2 := fun m g _ => Cert.Kernel2.Gen.frame m g

theorem ideal2_frame : Cert.quiescent_Kernel2Ideal := fun m g _ => Cert.Kernel2Ideal.Gen.frame m g

/-- And so does the reference. -/
theorem reference2_frame : Cert.quiescent_Reference2Ideal := fun m g _ =>
  (θ_run Cert.Reference2Ideal.defs _ _).mono (fun r h => ⟨fun c => (h c).2.2.2, sem_eq_zero_of_no_sems (by decide) r.2⟩)
    (Cert.Reference2Ideal.Value.run m g)

/-- The idealization of this call names no constant. -/
theorem preserved2 : Cert.preserves_Kernel2_Kernel2Ideal := trivial

section
open Cert.Reference2Ideal Cert.Reference2Ideal.Gen Cert.Reference2Ideal.In

variable (m : (ℓ : Loc Cert.Kernel2Ideal.nD Cert.Kernel2Ideal.τ Cert.Kernel2Ideal.sig) → Buf (Elt Ideal) ℓ) (c : Dev Cert.Kernel2Ideal.nD)
  (x : FVec Ideal S16384x1024 .f32) (w : FVec Ideal S1024 .f32) (W : FVec Ideal S2x1024x3462 .f32)
  (hx : x = m ((c.tc : Thread Cert.Kernel2Ideal.nD Cert.Kernel2Ideal.τ).loc Cert.Kernel2Ideal.main_arg0))
  (hw : w = m ((c.tc : Thread Cert.Kernel2Ideal.nD Cert.Kernel2Ideal.τ).loc Cert.Kernel2Ideal.main_arg1))
  (hW : W = m ((c.tc : Thread Cert.Kernel2Ideal.nD Cert.Kernel2Ideal.τ).loc Cert.Kernel2Ideal.main_arg2))
include hx hw hW

theorem project (R : Fin 16384) (l : Fin 3462) : uR x w W (ix2 R l)
    = Cert.Rows.up (Cert.Kernel2Ideal.In.xF m c R) (Cert.Kernel2Ideal.In.wF m c) (Cert.Kernel2Ideal.In.WF m c) l := by
  subst hx hw hW
  exact uR_apply _ _ _ R l

theorem same_first : extractStridedSlice S16384x1024 ![0, 0] (uR x w W) slices_S16384x3462_S16384x1024_0_0
    = (Cert.Kernel2Ideal.Gen.dats m 0 c).arrAt 3 Cert.Kernel2Ideal.cfg0.N := by
  funext i
  rw [eq_ix2 i]
  exact (first x w W (i 0) (i 1)).trans ((project m c x w W hx hw hW (i 0) _).trans (Cert.Kernel2Ideal.In.arr3 m c (i 0) (i 1)).symm)

theorem same_second : extractStridedSlice S16384x1152 ![0, 1024] (uR x w W) slices_S16384x3462_S16384x1152_0_1024
    = (Cert.Kernel2Ideal.Gen.dats m 0 c).arrAt 4 Cert.Kernel2Ideal.cfg0.N := by
  funext i
  rw [eq_ix2 i]
  exact (second x w W (i 0) (i 1)).trans ((project m c x w W hx hw hW (i 0) _).trans (Cert.Kernel2Ideal.In.arr4 m c (i 0) (i 1)).symm)

theorem same_third : concatenate S16384x1664 1 [⟨S16384x1280, (extractStridedSlice S16384x1280 ![0, 2176] (uR x w W) slices_S16384x3462_S16384x1280_0_2176)⟩, ⟨S16384x384, (shapeCast S16384x384 (broadcastInDim S16384x6x64 ![0, 1] bcast_S16384x6_S16384x6x64_0_1 (extractStridedSlice S16384x6 ![0, 3456] (uR x w W) slices_S16384x3462_S16384x6_0_3456)) shapeCasts_S16384x6x64_S16384x384)⟩] concatenates_S16384x1280_S16384x384_S16384x1664_d1
    = (Cert.Kernel2Ideal.Gen.dats m 0 c).arrAt 5 Cert.Kernel2Ideal.cfg0.N := by
  funext i
  rw [eq_ix2 i]
  exact (third x w W (i 0) (i 1) (Cert.Kernel2Ideal.In.col (i 1)) (by unfold Cert.Kernel2Ideal.In.col; split_ifs <;> rfl)).trans
    ((project m c x w W hx hw hW (i 0) _).trans (Cert.Kernel2Ideal.In.arr5 m c (i 0) (i 1)).symm)

end

/-- The idealized call and the reference write equal results. -/
theorem equal2 : Cert.algebraic_Kernel2Ideal_Reference2Ideal := fun m g m' g' _ hm =>
  ⟨_, _, _, Cert.Kernel2Ideal.Value.run_blocks m g,
    (θ_run _ _ _).mono (fun _ h c => by
      obtain ⟨e0, e1, e2⟩ := hm c
      obtain ⟨r0, r1, r2, hk⟩ := h c
      exact ⟨r0.trans (same_first m c _ _ _ e0 e1 e2), r1.trans (same_second m c _ _ _ e0 e1 e2), r2.trans (same_third m c _ _ _ e0 e1 e2), hk⟩)
      (Cert.Reference2Ideal.Value.run m' g')⟩

/-! ### The output projection, the query and the scores -/

/-- The call runs, keeps its arguments and ends quiescent; so does its idealization. -/
theorem kernel3_frame : Cert.quiescent_Kernel3 := fun m g _ => Cert.Kernel3.Gen.frame m g

theorem ideal3_frame : Cert.quiescent_Kernel3Ideal := fun m g _ => Cert.Kernel3Ideal.Gen.frame m g

/-- And so does the reference. -/
theorem reference3_frame : Cert.quiescent_Reference3Ideal := fun m g _ =>
  (θ_run Cert.Reference3Ideal.defs _ _).mono (fun r h => ⟨fun c => (h c).2.2.2, sem_eq_zero_of_no_sems (by decide) r.2⟩)
    (Cert.Reference3Ideal.Value.run m g)

/-- The idealization of this call names no constant. -/
theorem preserved3 : Cert.preserves_Kernel3_Kernel3Ideal := trivial

section
open Cert.Reference3Ideal Cert.Reference3Ideal.Gen Cert.Reference3Ideal.Out

variable (m : (ℓ : Loc Cert.Kernel3Ideal.nD Cert.Kernel3Ideal.τ Cert.Kernel3Ideal.sig) → Buf (Elt Ideal) ℓ) (c : Dev Cert.Kernel3Ideal.nD)
  (x : FVec Ideal S16384x1024 .f32) (a : FVec Ideal S16384x256 .f32) (b d : FVec Ideal S16384x384 .f32) (W : FVec Ideal S1024x1024 .f32) (w : FVec Ideal S1024 .f32) (Q : FVec Ideal S1024x1024 .f32) (S : FVec Ideal S2x128x64 .f32)
  (h0 : x = m ((c.tc : Thread Cert.Kernel3Ideal.nD Cert.Kernel3Ideal.τ).loc Cert.Kernel3Ideal.main_arg0))
  (h1 : a = m ((c.tc : Thread Cert.Kernel3Ideal.nD Cert.Kernel3Ideal.τ).loc Cert.Kernel3Ideal.main_arg1))
  (h2 : b = m ((c.tc : Thread Cert.Kernel3Ideal.nD Cert.Kernel3Ideal.τ).loc Cert.Kernel3Ideal.main_arg2))
  (h3 : d = m ((c.tc : Thread Cert.Kernel3Ideal.nD Cert.Kernel3Ideal.τ).loc Cert.Kernel3Ideal.main_arg3))
  (h4 : W = m ((c.tc : Thread Cert.Kernel3Ideal.nD Cert.Kernel3Ideal.τ).loc Cert.Kernel3Ideal.main_arg4))
  (h5 : w = m ((c.tc : Thread Cert.Kernel3Ideal.nD Cert.Kernel3Ideal.τ).loc Cert.Kernel3Ideal.main_arg5))
  (h6 : Q = m ((c.tc : Thread Cert.Kernel3Ideal.nD Cert.Kernel3Ideal.τ).loc Cert.Kernel3Ideal.main_arg6))
  (h7 : S = m ((c.tc : Thread Cert.Kernel3Ideal.nD Cert.Kernel3Ideal.τ).loc Cert.Kernel3Ideal.main_arg7))
include h0 h1 h2 h3 h4

theorem same_rows : hR x a b d W = (Cert.Kernel3Ideal.Gen.dats m 0 c).arrAt 8 Cert.Kernel3Ideal.cfg0.N := by
  subst h0 h1 h2 h3 h4
  funext i
  rw [eq_ix2 i]
  exact (hR_apply _ _ _ _ _ (i 0) (i 1)).trans (Cert.Kernel3Ideal.Out.arr8 m c (i 0) (i 1)).symm

include h5

theorem same_norm : truncf .bf16 (xnR x a b d W w) bitsLt_bf16_f32 = (Cert.Kernel3Ideal.Gen.dats m 0 c).arrAt 9 Cert.Kernel3Ideal.cfg0.N := by
  subst h0 h1 h2 h3 h4 h5
  funext i
  rw [eq_ix2 i]
  exact (xnR_apply _ _ _ _ _ _ (i 0) (i 1)).trans (Cert.Kernel3Ideal.Out.arr9 m c (i 0) (i 1)).symm

include h6 h7

theorem same_scores : scR x a b d W w Q S = (Cert.Kernel3Ideal.Gen.dats m 0 c).arrAt 10 Cert.Kernel3Ideal.cfg0.N := by
  subst h0 h1 h2 h3 h4 h5 h6 h7
  funext i
  rw [eq_ix4 i]
  exact (scR_apply _ _ _ _ _ _ _ _ (i 0) (i 1) (i 2) (i 3)).trans (Cert.Kernel3Ideal.Out.arr10 m c (i 0) (i 1) (i 2) (i 3)).symm

end

/-- The idealized call and the reference write equal results. -/
theorem equal3 : Cert.algebraic_Kernel3Ideal_Reference3Ideal := fun m g m' g' _ hm =>
  ⟨_, _, _, Cert.Kernel3Ideal.Value.run_blocks m g,
    (θ_run _ _ _).mono (fun _ h c => by
      obtain ⟨e0, e1, e2, e3, e4, e5, e6, e7⟩ := hm c
      obtain ⟨r0, r1, r2, hk⟩ := h c
      exact ⟨r0.trans (same_rows m c _ _ _ _ _ e0 e1 e2 e3 e4), r1.trans (same_norm m c _ _ _ _ _ _ e0 e1 e2 e3 e4 e5),
        r2.trans (same_scores m c _ _ _ _ _ _ _ _ e0 e1 e2 e3 e4 e5 e6 e7), hk⟩)
      (Cert.Reference3Ideal.Value.run m' g')⟩

/-! ### The gated linear recurrence -/

/-- The call runs, keeps its arguments and ends quiescent; so does its idealization. -/
theorem kernel4_frame : Cert.quiescent_Kernel4 := fun m g _ => Cert.Kernel4.Gen.frame m g

theorem ideal4_frame : Cert.quiescent_Kernel4Ideal := fun m g _ => Cert.Kernel4Ideal.Gen.frame m g

/-- And so does the reference. -/
theorem reference4_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The one constant this idealization names: the mask is minus infinity. -/
theorem preserved4 : Cert.preserves_Kernel4_Kernel4Ideal :=
  IdealRules.named_const.statement Cert.Kernel4Ideal.κ "mask" .f32 0xF149F2CA#32 ⊥ rfl

/-- From equal arguments the two programs write the same array. -/
theorem same4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ)
    (c : Dev Cert.Kernel4Ideal.nD)
    (e0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (e1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (e2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    Cert.Reference4Ideal.Value.out_main_v76 (Cert.Reference4Ideal.Hgrn.At m' c 32) = Cert.Kernel4Ideal.Value.G3 m c := by
  funext i
  rw [eq_ix3 i]
  refine (Cert.Reference4Ideal.Hgrn.out_apply m' c (i 0) (i 1) (i 2)).trans
    (Eq.trans ?_ (Cert.Kernel4Ideal.Hgrn.G3_apply m c (i 0) (i 1) (i 2)).symm)
  have u : Cert.Reference4Ideal.Hgrn.uF m' c (i 0) = Cert.Kernel4Ideal.Hgrn.uF m c (i 0) := funext fun T => funext fun l => congrFun e0 (ix3 (i 0) T l)
  have lb : Cert.Reference4Ideal.Hgrn.lbF m' c = Cert.Kernel4Ideal.Hgrn.lbF m c :=
    funext fun l => congrArg₂ Cert.Hgrn.low (congrFun e1 (ix2 0 l)) (congrFun e1 (ix2 1 l))
  have nw : Cert.Reference4Ideal.Hgrn.nwF m' c = Cert.Kernel4Ideal.Hgrn.nwF m c := funext fun p => congrFun e2 (ix1 p)
  rw [u, lb, nw]

/-- The idealized call and the reference write equal results. -/
theorem equal4 : Cert.algebraic_Kernel4Ideal_Reference4Ideal := fun m g m' g' _ hm =>
  ⟨fun c => Cert.Kernel4Ideal.Value.G3 m c, Cert.Kernel4Ideal.Value.run m g,
    (θ_run _ _ _).mono (fun _ h c => ⟨(h c).1.trans (same4 m m' c (hm c).1 (hm c).2.1 (hm c).2.2), (h c).2⟩) (Cert.Reference4Ideal.Value.run m' g')⟩

/-! ### The transposed tiles of the experts' output weights -/

/-- The call runs, keeps its arguments and ends quiescent; so does its idealization. -/
theorem kernel5_frame : Cert.quiescent_Kernel5 := fun m g _ => Cert.Kernel5.Gen.frame m g

theorem ideal5_frame : Cert.quiescent_Kernel5Ideal := fun m g _ => Cert.Kernel5Ideal.Gen.frame m g

/-- And so does the reference. -/
theorem reference5_frame : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

/-- The idealization of this call names no constant. -/
theorem preserved5 : Cert.preserves_Kernel5_Kernel5Ideal := trivial

/-- The idealized call and the reference write equal results. -/
theorem equal5 : Cert.algebraic_Kernel5Ideal_Reference5Ideal := fun m g m' g' _ hm =>
  ⟨_, Cert.Kernel5Ideal.Value.run_blocks m g,
    (θ_run _ _ _).mono (fun _ h c => by
      refine ⟨(h c).1.trans ?_, (h c).2⟩
      funext i
      rw [eq_ix3 i]
      exact (Cert.Reference5Ideal.Up.out_apply _ (i 0) (i 1) (i 2)).trans
        ((congrFun (hm c) _).trans (Cert.Kernel5Ideal.Up.arr1 m c (i 0) (i 1) (i 2)).symm))
      (Cert.Reference5Ideal.Value.run m' g')⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts,
    Cert.Reference5Ideal.Gen.facts, Cert.Pre_steps_bounded.side,
    kernel_frame, ideal_frame, ideal_frame_pre, reference_frame, reference_frame_pre, kernel2_frame, ideal2_frame, reference2_frame,
    kernel3_frame, ideal3_frame, reference3_frame, kernel4_frame, ideal4_frame, reference4_frame, kernel5_frame, ideal5_frame, reference5_frame,
    preserved, equal, preserved2, equal2, preserved3, equal3, preserved4, equal4, preserved5, equal5⟩

end Cert.Proof

end
